-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gate_finite [hPre_gate_finite : Cert.Pre_gate_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gate_finite [hPre_gate_finite : Cert.Pre_gate_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_gate_finite [hKernel2Ideal : Cert.Kernel2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gate_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_gate_finite [hReference2Ideal : Cert.Reference2Ideal.Facts] [hPre_gate_finite : Cert.Pre_gate_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gate_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_gate_finite [hKernel2Ideal : Cert.Kernel2Ideal.Facts] [hReference2Ideal : Cert.Reference2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gate_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_scores_finite : Cert.Pre_scores_finite.Facts) (hPre_gate_finite : Cert.Pre_gate_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Kernel2Ideal_pre_gate_finite (hKernel2Ideal := hKernel2Ideal) (hPre_gate_finite := hPre_gate_finite)
    ∧ quiescent_Reference2Ideal (hReference2Ideal := hReference2Ideal)
    ∧ quiescent_Reference2Ideal_pre_gate_finite (hReference2Ideal := hReference2Ideal) (hPre_gate_finite := hPre_gate_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal_pre_gate_finite (hKernel2Ideal := hKernel2Ideal) (hReference2Ideal := hReference2Ideal) (hPre_gate_finite := hPre_gate_finite)
    ∧ preserves_Kernel3_Kernel3Ideal
    ∧ algebraic_Kernel3Ideal_Reference3Ideal (hKernel3Ideal := hKernel3Ideal) (hReference3Ideal := hReference3Ideal)
-- ==== Pre_gate_finite.lean ====
abbrev S4x4112x2048 : Shape := ⟨3, ![4, 4112, 2048]⟩
abbrev S2048x5632 : Shape := ⟨2, ![2048, 5632]⟩
abbrev S5632x2048 : Shape := ⟨2, ![5632, 2048]⟩
abbrev S2048 : Shape := ⟨1, ![2048]⟩
abbrev S4x2048x5632 : Shape := ⟨3, ![4, 2048, 5632]⟩
abbrev S_ : Shape := ⟨0, ![]⟩

class Facts : Prop where
  bcast_S_S4x4112x2048 : S_.BroadcastsInDim S4x4112x2048 (![] : Fin 0 → Fin S4x4112x2048.rank)
  bcast_S_S2048x5632 : S_.BroadcastsInDim S2048x5632 (![] : Fin 0 → Fin S2048x5632.rank)

variable [Facts]

def fn {F : FTy → Type} [FloatOps F] (main_arg0 : FVec F S4x4112x2048 .f32) (main_arg1 : FVec F S2048x5632 .f32) (main_arg2 : FVec F S2048x5632 .f32) (main_arg3 : FVec F S5632x2048 .f32) (main_arg4 : FVec F S2048 .f32) (main_arg5 : FVec F S2048 .f32) (main_arg6 : FVec F S4x4112x2048 .f32) (main_arg7 : FVec F S4x2048x5632 .f32) : IVec S4x4112x2048 1 × IVec S2048x5632 1 :=
  let main_v0 : FVec F S4x4112x2048 .f32 := Host.absf main_arg0
  let main_cst : FVec F S_ .f32 := constant S_ .f32 0x7F800000#32
  let main_v1 : FVec F S4x4112x2048 .f32 := broadcastInDim S4x4112x2048 ![] bcast_S_S4x4112x2048 main_cst
  let main_v2 : IVec S4x4112x2048 1 := cmpf .olt main_v0 main_v1
  let main_v3 : FVec F S2048x5632 .f32 := Host.absf main_arg1
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  (main_v2, main_v5)
-- ==== Pre_scores_finite.lean ====
abbrev S4x8x4224x128 : Shape := ⟨4, ![4, 8, 4224, 128]⟩
abbrev S4x2x4224x128 : Shape := ⟨4, ![4, 2, 4224, 128]⟩
abbrev S8 : Shape := ⟨1, ![8]⟩
abbrev S_ : Shape := ⟨0, ![]⟩

class Facts : Prop where
  bcast_S_S4x8x4224x128 : S_.BroadcastsInDim S4x8x4224x128 (![] : Fin 0 → Fin S4x8x4224x128.rank)
  bcast_S_S4x2x4224x128 : S_.BroadcastsInDim S4x2x4224x128 (![] : Fin 0 → Fin S4x2x4224x128.rank)
  bcast_S_S8 : S_.BroadcastsInDim S8 (![] : Fin 0 → Fin S8.rank)

variable [Facts]

def fn {F : FTy → Type} [FloatOps F] (main_arg0 : FVec F S4x8x4224x128 .f32) (main_arg1 : FVec F S4x2x4224x128 .f32) (main_arg2 : FVec F S4x2x4224x128 .f32) (main_arg3 : FVec F S8 .f32) : IVec S4x8x4224x128 1 × IVec S4x2x4224x128 1 × IVec S8 1 :=
  let main_v0 : FVec F S4x8x4224x128 .f32 := Host.absf main_arg0
  let main_cst : FVec F S_ .f32 := constant S_ .f32 0x7F800000#32
  let main_v1 : FVec F S4x8x4224x128 .f32 := broadcastInDim S4x8x4224x128 ![] bcast_S_S4x8x4224x128 main_cst
  let main_v2 : IVec S4x8x4224x128 1 := cmpf .olt main_v0 main_v1
  let main_v3 : FVec F S4x2x4224x128 .f32 := Host.absf main_arg1
  let main_cst_0 : FVec F S_ .f32 := constant S_ .f32 0x7F800000#32
  let main_v4 : FVec F S4x2x4224x128 .f32 := broadcastInDim S4x2x4224x128 ![] bcast_S_S4x2x4224x128 main_cst_0
  let main_v5 : IVec S4x2x4224x128 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S4x8x4224x128 : Shape := ⟨4, ![4, 8, 4224, 128]⟩
abbrev S4x2x4224x128 : Shape := ⟨4, ![4, 2, 4224, 128]⟩
abbrev S8 : Shape := ⟨1, ![8]⟩
abbrev S_ : Shape := ⟨0, ![]⟩
abbrev S8x4x4224x128 : Shape := ⟨4, ![8, 4, 4224, 128]⟩
abbrev S8x16896x128 : Shape := ⟨3, ![8, 16896, 128]⟩
abbrev S2x4x4224x128 : Shape := ⟨4, ![2, 4, 4224, 128]⟩
abbrev S2x16896x128 : Shape := ⟨3, ![2, 16896, 128]⟩
abbrev S12x16896x128 : Shape := ⟨3, ![12, 16896, 128]⟩
abbrev S4x4224x128 : Shape := ⟨3, ![4, 4224, 128]⟩
abbrev S1x4224x128 : Shape := ⟨3, ![1, 4224, 128]⟩
abbrev S128x512 : Shape := ⟨2, ![128, 512]⟩
abbrev S512x1 : Shape := ⟨2, ![512, 1]⟩
abbrev S1 : Shape := ⟨1, ![1]⟩
abbrev S1x128x128 : Shape := ⟨3, ![1, 128, 128]⟩
abbrev S128x128 : Shape := ⟨2, ![128, 128]⟩
abbrev S512x128 : Shape := ⟨2, ![512, 128]⟩
abbrev S512x256 : Shape := ⟨2, ![512, 256]⟩
abbrev S512x512 : Shape := ⟨2, ![512, 512]⟩
abbrev S512 : Shape := ⟨1, ![512]⟩

abbrev nBuf : Space → Nat
  | .hbm => 22
  | .vmem => 9
  | .smem => 1
  | _ => 0

abbrev bufTy : (tb : Table) → Fin (tcTables nBuf tb) → BufTy
  | .hbm, ⟨0, _⟩ => ⟨S4x8x4224x128, .f32⟩
  | .hbm, ⟨1, _⟩ => ⟨S4x2x4224x128, .f32⟩
  | .hbm, ⟨2, _⟩ => ⟨S4x2x4224x128, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8x4224x128, .f32⟩
  | .hbm, ⟨12, _⟩ => ⟨S4x8x4224x128, .f32⟩
  | .hbm, ⟨13, _⟩ => ⟨S8x4x4224x128, .f32⟩
  | .hbm, ⟨14, _⟩ => ⟨S8x16896x128, .f32⟩
  | .hbm, ⟨15, _⟩ => ⟨S2x4x4224x128, .f32⟩
  | .hbm, ⟨16, _⟩ => ⟨S2x16896x128, .f32⟩
  | .hbm, ⟨17, _⟩ => ⟨S2x4x4224x128, .f32⟩
  | .hbm, ⟨18, _⟩ => ⟨S2x16896x128, .f32⟩
  | .hbm, ⟨19, _⟩ => ⟨S12x16896x128, .f32⟩
  | .hbm, ⟨20, _⟩ => ⟨S12x16896x128, .bf16⟩
  | .hbm, ⟨21, _⟩ => ⟨S8x16896x128, .bf16⟩
  | .local _ .vmem, ⟨0, _⟩ => ⟨S4x4224x128, .bf16⟩
  | .local _ .vmem, ⟨1, _⟩ => ⟨S4x4224x128, .bf16⟩
  | .local _ .vmem, ⟨2, _⟩ => ⟨S1x4224x128, .bf16⟩
  | .local _ .vmem, ⟨3, _⟩ => ⟨S1x4224x128, .bf16⟩
  | .local _ .vmem, ⟨4, _⟩ => ⟨S1x4224x128, .bf16⟩
  | .local _ .vmem, ⟨5, _⟩ => ⟨S1x4224x128, .bf16⟩
  | .local _ .vmem, ⟨6, _⟩ => ⟨S4x4224x128, .bf16⟩
  | .local _ .vmem, ⟨7, _⟩ => ⟨S4x4224x128, .bf16⟩
  | .local _ .vmem, ⟨8, _⟩ => ⟨S128x512, .f32⟩
  | .local _ .smem, ⟨0, _⟩ => ⟨S8, .f32⟩
  | _, _ => ⟨S4x8x4224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_off1 (i : grid0.Coords) (c0_i32_5 : BitVec 32) : Fin 1 → Nat :=
  let arg1 : BitVec 32 := BitVec.ofNat 32 (i 1).val
  let c4_i32 : BitVec 32 := 4#32
  let v28 : BitVec 32 := Scalar.muli arg1 c4_i32
  let v29 : BitVec 32 := Scalar.addi v28 c0_i32_5
  let v30 : Index := Scalar.indexCast v29
  ![v30.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x4224x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x8x4224x128 : Shape := ⟨4, ![4, 8, 4224, 128]⟩
abbrev S4x2x4224x128 : Shape := ⟨4, ![4, 2, 4224, 128]⟩
abbrev S8 : Shape := ⟨1, ![8]⟩
abbrev S4x2x4x33x128x128 : Shape := ⟨6, ![4, 2, 4, 33, 128, 128]⟩
abbrev S4x2x33x128x128 : Shape := ⟨5, ![4, 2, 33, 128, 128]⟩
abbrev S4x2x1x128x128 : Shape := ⟨5, ![4, 2, 1, 128, 128]⟩
abbrev S_ : Shape := ⟨0, ![]⟩
abbrev S4x2x32x128x128 : Shape := ⟨5, ![4, 2, 32, 128, 128]⟩
abbrev S4x2x33x384x128 : Shape := ⟨5, ![4, 2, 33, 384, 128]⟩
abbrev S4x2x16x128 : Shape := ⟨4, ![4, 2, 16, 128]⟩
abbrev S33 : Shape := ⟨1, ![33]⟩
abbrev S33x1 : Shape := ⟨2, ![33, 1]⟩
abbrev S128 : Shape := ⟨1, ![128]⟩
abbrev S1x128 : Shape := ⟨2, ![1, 128]⟩
abbrev S33x128 : Shape := ⟨2, ![33, 128]⟩
abbrev S384 : Shape := ⟨1, ![384]⟩
abbrev S1x384 : Shape := ⟨2, ![1, 384]⟩
abbrev S33x384 : Shape := ⟨2, ![33, 384]⟩
abbrev S33x128x1 : Shape := ⟨3, ![33, 128, 1]⟩
abbrev S33x1x384 : Shape := ⟨3, ![33, 1, 384]⟩
abbrev S33x128x384 : Shape := ⟨3, ![33, 128, 384]⟩
abbrev S16 : Shape := ⟨1, ![16]⟩
abbrev S1x1x16 : Shape := ⟨3, ![1, 1, 16]⟩
abbrev S33x128x16 : Shape := ⟨3, ![33, 128, 16]⟩
abbrev S4x2x33x384x4x128 : Shape := ⟨6, ![4, 2, 33, 384, 4, 128]⟩
abbrev S4x2x4x33x128x384 : Shape := ⟨6, ![4, 2, 4, 33, 128, 384]⟩
abbrev S4x2x4x33x128x16 : Shape := ⟨6, ![4, 2, 4, 33, 128, 16]⟩
abbrev S2x4 : Shape := ⟨2, ![2, 4]⟩
abbrev S1x2x4x1x1x1 : Shape := ⟨6, ![1, 2, 4, 1, 1, 1]⟩
abbrev S4x2x4x33x128x1 : Shape := ⟨6, ![4, 2, 4, 33, 128, 1]⟩
abbrev S4x2x4x33x128x401 : Shape := ⟨6, ![4, 2, 4, 33, 128, 401]⟩
abbrev S4x2x4x33x128 : Shape := ⟨5, ![4, 2, 4, 33, 128]⟩
abbrev S4x2x33x128x4x128 : Shape := ⟨6, ![4, 2, 33, 128, 4, 128]⟩
abbrev S8x4x4224x128 : Shape := ⟨4, ![8, 4, 4224, 128]⟩
abbrev S8x16896x128 : Shape := ⟨3, ![8, 16896, 128]⟩

abbrev nBuf : Space → Nat
  | .hbm => 131
  | .vmem => 0
  | .smem => 0
  | _ => 0

abbrev hbmTy0_0 (i : Nat) : BufTy := match i % 128 with
  | 0 => ⟨S4x8x4224x128, .f32⟩
  | 1 => ⟨S4x2x4224x128, .f32⟩
  | 2 => ⟨S4x2x4224x128, .f32⟩
  | 3 => ⟨S8, .f32⟩
  | 4 => ⟨S4x2x4x33x128x128, .f32⟩
  | 5 => ⟨S4x2x33x128x128, .f32⟩
  | 6 => ⟨S4x2x1x128x128, .f32⟩
  | 7 => ⟨S_, .f32⟩
  | 8 => ⟨S4x2x1x128x128, .f32⟩
  | 9 => ⟨S4x2x32x128x128, .f32⟩
  | 10 => ⟨S4x2x33x128x128, .f32⟩
  | 11 => ⟨S4x2x32x128x128, .f32⟩
  | 12 => ⟨S4x2x33x128x128, .f32⟩
  | 13 => ⟨S4x2x33x384x128, .f32⟩
  | 14 => ⟨S4x2x33x128x128, .f32⟩
  | 15 => ⟨S4x2x1x128x128, .f32⟩
  | 16 => ⟨S_, .f32⟩
  | 17 => ⟨S4x2x1x128x128, .f32⟩
  | 18 => ⟨S4x2x32x128x128, .f32⟩
  | 19 => ⟨S4x2x33x128x128, .f32⟩
  | 20 => ⟨S4x2x32x128x128, .f32⟩
  | 21 => ⟨S4x2x33x128x128, .f32⟩
  | 22 => ⟨S4x2x33x384x128, .f32⟩
  | 23 => ⟨S4x2x16x128, .f32⟩
  | 24 => ⟨S4x2x16x128, .f32⟩
  | 25 => ⟨S33, .i32⟩
  | 26 => ⟨S33x1, .i32⟩
  | 27 => ⟨S_, .i32⟩
  | 28 => ⟨S33x1, .i32⟩
  | 29 => ⟨S33x1, .i32⟩
  | 30 => ⟨S128, .i32⟩
  | 31 => ⟨S1x128, .i32⟩
  | 32 => ⟨S33x128, .i32⟩
  | 33 => ⟨S33x128, .i32⟩
  | 34 => ⟨S33x128, .i32⟩
  | 35 => ⟨S33, .i32⟩
  | 36 => ⟨S33x1, .i32⟩
  | 37 => ⟨S_, .i32⟩
  | 38 => ⟨S33x1, .i32⟩
  | 39 => ⟨S33x1, .i32⟩
  | 40 => ⟨S_, .i32⟩
  | 41 => ⟨S33x1, .i32⟩
  | 42 => ⟨S33x1, .i32⟩
  | 43 => ⟨S384, .i32⟩
  | 44 => ⟨S1x384, .i32⟩
  | 45 => ⟨S33x384, .i32⟩
  | 46 => ⟨S33x384, .i32⟩
  | 47 => ⟨S33x384, .i32⟩
  | 48 => ⟨S33x128x1, .i32⟩
  | 49 => ⟨S33x1x384, .i32⟩
  | 50 => ⟨S33x128x384, .i32⟩
  | 51 => ⟨S33x128x384, .i32⟩
  | 52 => ⟨S33x128x384, .i32⟩
  | 53 => ⟨S33x128x384, .i32⟩
  | 54 => ⟨S_, .i32⟩
  | 55 => ⟨S33x128x384, .i32⟩
  | 56 => ⟨S33x128x384, .i1⟩
  | 57 => ⟨S33x1x384, .i32⟩
  | 58 => ⟨S_, .i32⟩
  | 59 => ⟨S33x1x384, .i32⟩
  | 60 => ⟨S33x1x384, .i1⟩
  | 61 => ⟨S33x128x384, .i1⟩
  | 62 => ⟨S33x128x384, .i1⟩
  | 63 => ⟨S33x1x384, .i32⟩
  | 64 => ⟨S_, .i32⟩
  | 65 => ⟨S33x1x384, .i32⟩
  | 66 => ⟨S33x1x384, .i1⟩
  | 67 => ⟨S33x128x384, .i1⟩
  | 68 => ⟨S33x128x384, .i1⟩
  | 69 => ⟨S16, .i32⟩
  | 70 => ⟨S_, .i32⟩
  | 71 => ⟨S16, .i32⟩
  | 72 => ⟨S16, .i32⟩
  | 73 => ⟨S33x128x1, .i32⟩
  | 74 => ⟨S1x1x16, .i32⟩
  | 75 => ⟨S33x128x16, .i32⟩
  | 76 => ⟨S33x128x16, .i32⟩
  | 77 => ⟨S33x128x16, .i32⟩
  | 78 => ⟨S33x128x16, .i32⟩
  | 79 => ⟨S_, .i32⟩
  | 80 => ⟨S33x128x16, .i32⟩
  | 81 => ⟨S33x128x16, .i1⟩
  | 82 => ⟨S_, .f32⟩
  | 83 => ⟨S_, .f32⟩
  | 84 => ⟨S_, .f32⟩
  | 85 => ⟨S_, .f32⟩
  | 86 => ⟨S4x2x33x384x4x128, .f32⟩
  | 87 => ⟨S4x2x4x33x128x384, .f32⟩
  | 88 => ⟨S4x2x4x33x128x384, .f32⟩
  | 89 => ⟨S4x2x4x33x128x384, .f32⟩
  | 90 => ⟨S4x2x4x33x128x16, .f32⟩
  | 91 => ⟨S4x2x4x33x128x16, .f32⟩
  | 92 => ⟨S4x2x4x33x128x16, .f32⟩
  | 93 => ⟨S2x4, .f32⟩
  | 94 => ⟨S1x2x4x1x1x1, .f32⟩
  | 95 => ⟨S4x2x4x33x128x1, .f32⟩
  | 96 => ⟨S_, .f32⟩
  | 97 => ⟨S_, .f32⟩
  | 98 => ⟨S4x2x4x33x128x384, .i1⟩
  | 99 => ⟨S4x2x4x33x128x384, .f32⟩
  | 100 => ⟨S4x2x4x33x128x384, .f32⟩
  | 101 => ⟨S_, .f32⟩
  | 102 => ⟨S_, .f32⟩
  | 103 => ⟨S4x2x4x33x128x16, .i1⟩
  | 104 => ⟨S4x2x4x33x128x16, .f32⟩
  | 105 => ⟨S4x2x4x33x128x16, .f32⟩
  | 106 => ⟨S4x2x4x33x128x401, .f32⟩
  | 107 => ⟨S_, .f32⟩
  | 108 => ⟨S4x2x4x33x128, .f32⟩
  | 109 => ⟨S_, .f32⟩
  | 110 => ⟨S4x2x4x33x128, .f32⟩
  | 111 => ⟨S4x2x4x33x128, .f32⟩
  | 112 => ⟨S4x2x4x33x128x1, .f32⟩
  | 113 => ⟨S4x2x4x33x128x401, .f32⟩
  | 114 => ⟨S4x2x4x33x128x401, .f32⟩
  | 115 => ⟨S4x2x4x33x128x401, .f32⟩
  | 116 => ⟨S_, .f32⟩
  | 117 => ⟨S4x2x4x33x128, .f32⟩
  | 118 => ⟨S4x2x4x33x128x1, .f32⟩
  | 119 => ⟨S4x2x4x33x128x401, .f32⟩
  | 120 => ⟨S4x2x4x33x128x401, .f32⟩
  | 121 => ⟨S4x2x4x33x128x384, .f32⟩
  | 122 => ⟨S4x2x33x128x4x128, .f32⟩
  | 123 => ⟨S4x2x4x33x128x128, .f32⟩
  | 124 => ⟨S4x2x4x33x128x16, .f32⟩
  | 125 => ⟨S4x2x4x33x128x128, .f32⟩
  | 126 => ⟨S4x2x4x33x128x128, .f32⟩
  | 127 => ⟨S4x8x4224x128, .f32⟩
  | _ => ⟨S4x8x4224x128, .f32⟩

abbrev hbmTy0_1 (i : Nat) : BufTy := match i % 128 with
  | 0 => ⟨S8x4x4224x128, .f32⟩
  | 1 => ⟨S8x16896x128, .f32⟩
  | 2 => ⟨S8x16896x128, .bf16⟩
  | _ => ⟨S4x8x4224x128, .f32⟩

abbrev hbmTy (i : Nat) : BufTy := match i / 128 with
  | 0 => hbmTy0_0 i
  | 1 => hbmTy0_1 i
  | _ => ⟨S4x8x4224x128, .f32⟩

abbrev bufTy : (tb : Table) → Fin (tcTables nBuf tb) → BufTy
  | .hbm, ⟨i, _⟩ => hbmTy i
  | _, _ => ⟨S4x8x4224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_3 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_4 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_5 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c_6 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c_7 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_10 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_v80 : Ref sig .tc := ⟨.hbm, 100, rfl⟩
abbrev main_cst_11 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v81 : Ref sig .tc := ⟨.hbm, 105, rfl⟩
abbrev main_v82 : Ref sig .tc := ⟨.hbm, 106, rfl⟩
abbrev main_cst_12 : Ref sig .tc := ⟨.hbm, 107, rfl⟩
abbrev main_v83 : Ref sig .tc := ⟨.hbm, 108, rfl⟩
abbrev main_cst_13 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_14 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩

abbrev nD : Nat := 1
abbrev τ : Topo := Topo.v7x

variable {F : FTy → Type} [FloatOps F]
-- ==== Kernel2.lean ====
abbrev S4x4112x2048 : Shape := ⟨3, ![4, 4112, 2048]⟩
abbrev S2048x5632 : Shape := ⟨2, ![2048, 5632]⟩
abbrev S5632x2048 : Shape := ⟨2, ![5632, 2048]⟩
abbrev S2048 : Shape := ⟨1, ![2048]⟩
abbrev S4x2048x5632 : Shape := ⟨3, ![4, 2048, 5632]⟩
abbrev S_ : Shape := ⟨0, ![]⟩
abbrev S4x112x2048 : Shape := ⟨3, ![4, 112, 2048]⟩
abbrev S4x4224x2048 : Shape := ⟨3, ![4, 4224, 2048]⟩
abbrev S16896x2048 : Shape := ⟨2, ![16896, 2048]⟩
abbrev S2048x11x512 : Shape := ⟨3, ![2048, 11, 512]⟩
abbrev S11x2048x512 : Shape := ⟨3, ![11, 2048, 512]⟩
abbrev S1x2048 : Shape := ⟨2, ![1, 2048]⟩
abbrev S1 : Shape := ⟨1, ![1]⟩
abbrev S11x2816x512 : Shape := ⟨3, ![11, 2816, 512]⟩
abbrev S768x2048 : Shape := ⟨2, ![768, 2048]⟩
abbrev S1x2048x512 : Shape := ⟨3, ![1, 2048, 512]⟩
abbrev S512x2048 : Shape := ⟨2, ![512, 2048]⟩
abbrev S1x128x512 : Shape := ⟨3, ![1, 128, 512]⟩
abbrev S128x512 : Shape := ⟨2, ![128, 512]⟩
abbrev S2048x512 : Shape := ⟨2, ![2048, 512]⟩
abbrev S768x512 : Shape := ⟨2, ![768, 512]⟩
abbrev S256x2048 : Shape := ⟨2, ![256, 2048]⟩
abbrev S256x512 : Shape := ⟨2, ![256, 512]⟩
abbrev S256x1 : Shape := ⟨2, ![256, 1]⟩
abbrev S256 : Shape := ⟨1, ![256]⟩

abbrev nBuf : Space → Nat
  | .hbm => 30
  | .vmem => 20
  | .smem => 1
  | _ => 0

abbrev bufTy : (tb : Table) → Fin (tcTables nBuf tb) → BufTy
  | .hbm, ⟨0, _⟩ => ⟨S4x4112x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S4x4112x2048, .f32⟩
  | .hbm, ⟨7, _⟩ => ⟨S4x2048x5632, .f32⟩
  | .hbm, ⟨8, _⟩ => ⟨S_, .f32⟩
  | .hbm, ⟨9, _⟩ => ⟨S4x112x2048, .f32⟩
  | .hbm, ⟨10, _⟩ => ⟨S4x4224x2048, .f32⟩
  | .hbm, ⟨11, _⟩ => ⟨S16896x2048, .f32⟩
  | .hbm, ⟨12, _⟩ => ⟨S16896x2048, .bf16⟩
  | .hbm, ⟨13, _⟩ => ⟨S2048x5632, .bf16⟩
  | .hbm, ⟨14, _⟩ => ⟨S2048x11x512, .bf16⟩
  | .hbm, ⟨15, _⟩ => ⟨S11x2048x512, .bf16⟩
  | .hbm, ⟨16, _⟩ => ⟨S2048x5632, .bf16⟩
  | .hbm, ⟨17, _⟩ => ⟨S2048x11x512, .bf16⟩
  | .hbm, ⟨18, _⟩ => ⟨S11x2048x512, .bf16⟩
  | .hbm, ⟨19, _⟩ => ⟨S5632x2048, .bf16⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S4x112x2048, .f32⟩
  | .hbm, ⟨24, _⟩ => ⟨S4x4224x2048, .f32⟩
  | .hbm, ⟨25, _⟩ => ⟨S16896x2048, .f32⟩
  | .hbm, ⟨26, _⟩ => ⟨S_, .i32⟩
  | .hbm, ⟨27, _⟩ => ⟨S16896x2048, .f32⟩
  | .hbm, ⟨28, _⟩ => ⟨S16896x2048, .bf16⟩
  | .hbm, ⟨29, _⟩ => ⟨S11x2816x512, .bf16⟩
  | .local _ .vmem, ⟨0, _⟩ => ⟨S768x2048, .bf16⟩
  | .local _ .vmem, ⟨1, _⟩ => ⟨S768x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S768x2048, .f32⟩
  | .local _ .vmem, ⟨11, _⟩ => ⟨S768x2048, .f32⟩
  | .local _ .vmem, ⟨12, _⟩ => ⟨S1x128x512, .f32⟩
  | .local _ .vmem, ⟨13, _⟩ => ⟨S1x128x512, .f32⟩
  | .local _ .vmem, ⟨14, _⟩ => ⟨S768x2048, .f32⟩
  | .local _ .vmem, ⟨15, _⟩ => ⟨S768x2048, .f32⟩
  | .local _ .vmem, ⟨16, _⟩ => ⟨S768x2048, .bf16⟩
  | .local _ .vmem, ⟨17, _⟩ => ⟨S768x2048, .bf16⟩
  | .local _ .vmem, ⟨18, _⟩ => ⟨S1x128x512, .bf16⟩
  | .local _ .vmem, ⟨19, _⟩ => ⟨S1x128x512, .bf16⟩
  | .local _ .smem, ⟨0, _⟩ => ⟨S1, .i32⟩
  | _, _ => ⟨S4x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v16 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![22, 11], ![false, false]⟩

abbrev pre0 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c15_i32 : BitVec 32 := 15#32
  let v1 : BitVec 32 := Scalar.minsi arg0 c15_i32
  let c0_i32 : BitVec 32 := 0#32
  ![v0.toNat, v1.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S768x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4x4112x2048 : Shape := ⟨3, ![4, 4112, 2048]⟩
abbrev S2048x5632 : Shape := ⟨2, ![2048, 5632]⟩
abbrev S5632x2048 : Shape := ⟨2, ![5632, 2048]⟩
abbrev S2048 : Shape := ⟨1, ![2048]⟩
abbrev S4x2048x5632 : Shape := ⟨3, ![4, 2048, 5632]⟩
abbrev S4x4112x5632 : Shape := ⟨3, ![4, 4112, 5632]⟩
abbrev S_ : Shape := ⟨0, ![]⟩
abbrev S4x4112 : Shape := ⟨2, ![4, 4112]⟩
abbrev S4x4112x1 : Shape := ⟨3, ![4, 4112, 1]⟩
abbrev S1x1x2048 : Shape := ⟨3, ![1, 1, 2048]⟩
abbrev S1x2048x5632 : Shape := ⟨3, ![1, 2048, 5632]⟩
abbrev S2048x11x512 : Shape := ⟨3, ![2048, 11, 512]⟩
abbrev S11x2048x512 : Shape := ⟨3, ![11, 2048, 512]⟩
abbrev S11x128x512 : Shape := ⟨3, ![11, 128, 512]⟩
abbrev S11x2816x512 : Shape := ⟨3, ![11, 2816, 512]⟩
abbrev S4x4224x2048 : Shape := ⟨3, ![4, 4224, 2048]⟩
abbrev S16896x2048 : Shape := ⟨2, ![16896, 2048]⟩

abbrev nBuf : Space → Nat
  | .hbm => 70
  | .vmem => 0
  | .smem => 0
  | _ => 0

abbrev bufTy : (tb : Table) → Fin (tcTables nBuf tb) → BufTy
  | .hbm, ⟨0, _⟩ => ⟨S4x4112x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S4x4112x2048, .f32⟩
  | .hbm, ⟨7, _⟩ => ⟨S4x2048x5632, .f32⟩
  | .hbm, ⟨8, _⟩ => ⟨S4x4112x5632, .f32⟩
  | .hbm, ⟨9, _⟩ => ⟨S4x4112x5632, .f32⟩
  | .hbm, ⟨10, _⟩ => ⟨S4x4112x5632, .f32⟩
  | .hbm, ⟨11, _⟩ => ⟨S_, .f32⟩
  | .hbm, ⟨12, _⟩ => ⟨S4x4112x5632, .f32⟩
  | .hbm, ⟨13, _⟩ => ⟨S4x4112x5632, .f32⟩
  | .hbm, ⟨14, _⟩ => ⟨S_, .f32⟩
  | .hbm, ⟨15, _⟩ => ⟨S4x4112x5632, .f32⟩
  | .hbm, ⟨16, _⟩ => ⟨S4x4112x5632, .f32⟩
  | .hbm, ⟨17, _⟩ => ⟨S4x4112x5632, .f32⟩
  | .hbm, ⟨18, _⟩ => ⟨S4x4112x5632, .f32⟩
  | .hbm, ⟨19, _⟩ => ⟨S4x4112x5632, .f32⟩
  | .hbm, ⟨20, _⟩ => ⟨S4x4112x2048, .f32⟩
  | .hbm, ⟨21, _⟩ => ⟨S4x4112x2048, .f32⟩
  | .hbm, ⟨22, _⟩ => ⟨S_, .f32⟩
  | .hbm, ⟨23, _⟩ => ⟨S4x4112, .f32⟩
  | .hbm, ⟨24, _⟩ => ⟨S4x4112x1, .f32⟩
  | .hbm, ⟨25, _⟩ => ⟨S_, .f32⟩
  | .hbm, ⟨26, _⟩ => ⟨S4x4112x1, .f32⟩
  | .hbm, ⟨27, _⟩ => ⟨S4x4112x1, .f32⟩
  | .hbm, ⟨28, _⟩ => ⟨S_, .f32⟩
  | .hbm, ⟨29, _⟩ => ⟨S4x4112x1, .f32⟩
  | .hbm, ⟨30, _⟩ => ⟨S4x4112x1, .f32⟩
  | .hbm, ⟨31, _⟩ => ⟨S4x4112x1, .f32⟩
  | .hbm, ⟨32, _⟩ => ⟨S4x4112x2048, .f32⟩
  | .hbm, ⟨33, _⟩ => ⟨S4x4112x2048, .f32⟩
  | .hbm, ⟨34, _⟩ => ⟨S1x1x2048, .f32⟩
  | .hbm, ⟨35, _⟩ => ⟨S4x4112x2048, .f32⟩
  | .hbm, ⟨36, _⟩ => ⟨S4x4112x2048, .f32⟩
  | .hbm, ⟨37, _⟩ => ⟨S4x4112x2048, .f32⟩
  | .hbm, ⟨38, _⟩ => ⟨S4x4112x2048, .f32⟩
  | .hbm, ⟨39, _⟩ => ⟨S_, .f32⟩
  | .hbm, ⟨40, _⟩ => ⟨S4x4112, .f32⟩
  | .hbm, ⟨41, _⟩ => ⟨S4x4112x1, .f32⟩
  | .hbm, ⟨42, _⟩ => ⟨S_, .f32⟩
  | .hbm, ⟨43, _⟩ => ⟨S4x4112x1, .f32⟩
  | .hbm, ⟨44, _⟩ => ⟨S4x4112x1, .f32⟩
  | .hbm, ⟨45, _⟩ => ⟨S_, .f32⟩
  | .hbm, ⟨46, _⟩ => ⟨S4x4112x1, .f32⟩
  | .hbm, ⟨47, _⟩ => ⟨S4x4112x1, .f32⟩
  | .hbm, ⟨48, _⟩ => ⟨S4x4112x1, .f32⟩
  | .hbm, ⟨49, _⟩ => ⟨S4x4112x2048, .f32⟩
  | .hbm, ⟨50, _⟩ => ⟨S4x4112x2048, .f32⟩
  | .hbm, ⟨51, _⟩ => ⟨S1x1x2048, .f32⟩
  | .hbm, ⟨52, _⟩ => ⟨S4x4112x2048, .f32⟩
  | .hbm, ⟨53, _⟩ => ⟨S4x4112x2048, .f32⟩
  | .hbm, ⟨54, _⟩ => ⟨S1x2048x5632, .f32⟩
  | .hbm, ⟨55, _⟩ => ⟨S2048x5632, .f32⟩
  | .hbm, ⟨56, _⟩ => ⟨S2048x11x512, .f32⟩
  | .hbm, ⟨57, _⟩ => ⟨S11x2048x512, .f32⟩
  | .hbm, ⟨58, _⟩ => ⟨S11x128x512, .f32⟩
  | .hbm, ⟨59, _⟩ => ⟨S11x2816x512, .f32⟩
  | .hbm, ⟨60, _⟩ => ⟨S_, .i32⟩
  | .hbm, ⟨61, _⟩ => ⟨S_, .f32⟩
  | .hbm, ⟨62, _⟩ => ⟨S4x4224x2048, .f32⟩
  | .hbm, ⟨63, _⟩ => ⟨S16896x2048, .f32⟩
  | .hbm, ⟨64, _⟩ => ⟨S_, .i32⟩
  | .hbm, ⟨65, _⟩ => ⟨S_, .f32⟩
  | .hbm, ⟨66, _⟩ => ⟨S4x4224x2048, .f32⟩
  | .hbm, ⟨67, _⟩ => ⟨S16896x2048, .f32⟩
  | .hbm, ⟨68, _⟩ => ⟨S16896x2048, .bf16⟩
  | .hbm, ⟨69, _⟩ => ⟨S11x2816x512, .bf16⟩
  | _, _ => ⟨S4x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c : Ref sig .tc := ⟨.hbm, 60, rfl⟩
abbrev main_call1_v0 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_call2_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Kernel3.lean ====
abbrev S4x4224x1024 : Shape := ⟨3, ![4, 4224, 1024]⟩
abbrev S2048x2048 : Shape := ⟨2, ![2048, 2048]⟩
abbrev S2048 : Shape := ⟨1, ![2048]⟩
abbrev S4x4224x2048 : Shape := ⟨3, ![4, 4224, 2048]⟩
abbrev S16896x8x128 : Shape := ⟨3, ![16896, 8, 128]⟩
abbrev S8x16896x128 : Shape := ⟨3, ![8, 16896, 128]⟩
abbrev S1x2048 : Shape := ⟨2, ![1, 2048]⟩
abbrev S16896x2048 : Shape := ⟨2, ![16896, 2048]⟩
abbrev S8x768x128 : Shape := ⟨3, ![8, 768, 128]⟩
abbrev S768x2048 : Shape := ⟨2, ![768, 2048]⟩
abbrev S1x192x128 : Shape := ⟨3, ![1, 192, 128]⟩
abbrev S192x128 : Shape := ⟨2, ![192, 128]⟩
abbrev S192x2048 : Shape := ⟨2, ![192, 2048]⟩
abbrev S192 : Shape := ⟨1, ![192]⟩
abbrev S192x1 : Shape := ⟨2, ![192, 1]⟩

abbrev nBuf : Space → Nat
  | .hbm => 18
  | .vmem => 13
  | .smem => 0
  | _ => 0

abbrev bufTy : (tb : Table) → Fin (tcTables nBuf tb) → BufTy
  | .hbm, ⟨0, _⟩ => ⟨S4x4224x1024, .f32⟩
  | .hbm, ⟨1, _⟩ => ⟨S4x4224x1024, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S4x4224x2048, .f32⟩
  | .hbm, ⟨6, _⟩ => ⟨S16896x8x128, .f32⟩
  | .hbm, ⟨7, _⟩ => ⟨S8x16896x128, .f32⟩
  | .hbm, ⟨8, _⟩ => ⟨S8x16896x128, .bf16⟩
  | .hbm, ⟨9, _⟩ => ⟨S16896x8x128, .f32⟩
  | .hbm, ⟨10, _⟩ => ⟨S8x16896x128, .f32⟩
  | .hbm, ⟨11, _⟩ => ⟨S8x16896x128, .bf16⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S16896x2048, .f32⟩
  | .hbm, ⟨16, _⟩ => ⟨S16896x2048, .f32⟩
  | .hbm, ⟨17, _⟩ => ⟨S16896x2048, .bf16⟩
  | .local _ .vmem, ⟨0, _⟩ => ⟨S8x768x128, .bf16⟩
  | .local _ .vmem, ⟨1, _⟩ => ⟨S8x768x128, .bf16⟩
  | .local _ .vmem, ⟨2, _⟩ => ⟨S8x768x128, .bf16⟩
  | .local _ .vmem, ⟨3, _⟩ => ⟨S8x768x128, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S768x2048, .f32⟩
  | .local _ .vmem, ⟨8, _⟩ => ⟨S768x2048, .f32⟩
  | .local _ .vmem, ⟨9, _⟩ => ⟨S768x2048, .f32⟩
  | .local _ .vmem, ⟨10, _⟩ => ⟨S768x2048, .f32⟩
  | .local _ .vmem, ⟨11, _⟩ => ⟨S768x2048, .bf16⟩
  | .local _ .vmem, ⟨12, _⟩ => ⟨S768x2048, .bf16⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x4224x1024 : Shape := ⟨3, ![4, 4224, 1024]⟩
abbrev S2048x2048 : Shape := ⟨2, ![2048, 2048]⟩
abbrev S2048 : Shape := ⟨1, ![2048]⟩
abbrev S4x4224x2048 : Shape := ⟨3, ![4, 4224, 2048]⟩
abbrev S_ : Shape := ⟨0, ![]⟩
abbrev S4x4224 : Shape := ⟨2, ![4, 4224]⟩
abbrev S4x4224x1 : Shape := ⟨3, ![4, 4224, 1]⟩
abbrev S1x1x2048 : Shape := ⟨3, ![1, 1, 2048]⟩
abbrev S16896x2048 : Shape := ⟨2, ![16896, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x4224x1024, .f32⟩
  | .hbm, ⟨1, _⟩ => ⟨S4x4224x1024, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S4x4224x2048, .f32⟩
  | .hbm, ⟨6, _⟩ => ⟨S4x4224x2048, .f32⟩
  | .hbm, ⟨7, _⟩ => ⟨S4x4224x2048, .f32⟩
  | .hbm, ⟨8, _⟩ => ⟨S4x4224x2048, .f32⟩
  | .hbm, ⟨9, _⟩ => ⟨S_, .f32⟩
  | .hbm, ⟨10, _⟩ => ⟨S4x4224, .f32⟩
  | .hbm, ⟨11, _⟩ => ⟨S4x4224x1, .f32⟩
  | .hbm, ⟨12, _⟩ => ⟨S_, .f32⟩
  | .hbm, ⟨13, _⟩ => ⟨S4x4224x1, .f32⟩
  | .hbm, ⟨14, _⟩ => ⟨S4x4224x1, .f32⟩
  | .hbm, ⟨15, _⟩ => ⟨S_, .f32⟩
  | .hbm, ⟨16, _⟩ => ⟨S4x4224x1, .f32⟩
  | .hbm, ⟨17, _⟩ => ⟨S4x4224x1, .f32⟩
  | .hbm, ⟨18, _⟩ => ⟨S4x4224x1, .f32⟩
  | .hbm, ⟨19, _⟩ => ⟨S4x4224x2048, .f32⟩
  | .hbm, ⟨20, _⟩ => ⟨S4x4224x2048, .f32⟩
  | .hbm, ⟨21, _⟩ => ⟨S1x1x2048, .f32⟩
  | .hbm, ⟨22, _⟩ => ⟨S4x4224x2048, .f32⟩
  | .hbm, ⟨23, _⟩ => ⟨S4x4224x2048, .f32⟩
  | .hbm, ⟨24, _⟩ => ⟨S4x4224x2048, .f32⟩
  | .hbm, ⟨25, _⟩ => ⟨S4x4224x2048, .f32⟩
  | .hbm, ⟨26, _⟩ => ⟨S_, .f32⟩
  | .hbm, ⟨27, _⟩ => ⟨S4x4224, .f32⟩
  | .hbm, ⟨28, _⟩ => ⟨S4x4224x1, .f32⟩
  | .hbm, ⟨29, _⟩ => ⟨S_, .f32⟩
  | .hbm, ⟨30, _⟩ => ⟨S4x4224x1, .f32⟩
  | .hbm, ⟨31, _⟩ => ⟨S4x4224x1, .f32⟩
  | .hbm, ⟨32, _⟩ => ⟨S_, .f32⟩
  | .hbm, ⟨33, _⟩ => ⟨S4x4224x1, .f32⟩
  | .hbm, ⟨34, _⟩ => ⟨S4x4224x1, .f32⟩
  | .hbm, ⟨35, _⟩ => ⟨S4x4224x1, .f32⟩
  | .hbm, ⟨36, _⟩ => ⟨S4x4224x2048, .f32⟩
  | .hbm, ⟨37, _⟩ => ⟨S4x4224x2048, .f32⟩
  | .hbm, ⟨38, _⟩ => ⟨S1x1x2048, .f32⟩
  | .hbm, ⟨39, _⟩ => ⟨S4x4224x2048, .f32⟩
  | .hbm, ⟨40, _⟩ => ⟨S4x4224x2048, .f32⟩
  | .hbm, ⟨41, _⟩ => ⟨S16896x2048, .f32⟩
  | .hbm, ⟨42, _⟩ => ⟨S16896x2048, .f32⟩
  | .hbm, ⟨43, _⟩ => ⟨S16896x2048, .bf16⟩
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Proof.AttnPieces.lean ====
module

public import proofs.«01_k».proof.Proof.Gen.KernelIdeal.Frame
public import Idealize.ShloMosaic.Lib.Pipeline.Value

/-! # What one grid point of the attention stores

The body works on 33 blocks of 128 rows, and for each block it stores four heads. Every store is one
formula of the block number and the head: the formula is stated here once, and the list of stores the run
found is shown to be that formula at each block and head. -/

@[expose] public section

set_option maxRecDepth 16384

noncomputable section

namespace Cert.KernelIdeal.Attn

open Cert.KernelIdeal Cert.KernelIdeal.Gen
open Idealize.ShloMosaic Idealize.ShloMosaic.TcCoe Idealize.SL.Sem

variable {F : FTy → Type} [FloatOps F] [Named F]

/-- Four slabs of 128 rows, one under the other. -/
def cat4 (a b c d : Vec F S1x128x128 .bf16) : FVec F S512x128 .bf16 :=
  concatenate S512x128 0
    [⟨S128x128, shapeCast S128x128 a shapeCasts_S1x128x128_S128x128⟩,
     ⟨S128x128, shapeCast S128x128 b shapeCasts_S1x128x128_S128x128⟩,
     ⟨S128x128, shapeCast S128x128 c shapeCasts_S1x128x128_S128x128⟩,
     ⟨S128x128, shapeCast S128x128 d shapeCasts_S1x128x128_S128x128⟩]
    concatenates_S128x128_S128x128_S128x128_S128x128_S512x128_d0

/-- The value rows with a block of ones beside them. -/
def withOnes (v : FVec F S512x128 .bf16) : FVec F S512x256 .bf16 :=
  concatenate S512x256 1 [⟨S512x128, v⟩, ⟨S512x128, k0_pay9⟩] concatenates_S512x128_S512x128_S512x256_d1

/-- Query rows against key rows. -/
def prods (q k : FVec F S512x128 .bf16) : FVec F S512x512 .f32 :=
  matmul dot_S512x128_S512x128_S512x512_1_1_0_0_n_n none q k (constant S512x512 .f32 0x00000000#32)

/-- One block's mask, once for each of the four heads. -/
def bias4 (b : FVec F S128x512 .f32) : FVec F S512x512 .f32 :=
  concatenate S512x512 0 [⟨S128x512, b⟩, ⟨S128x512, b⟩, ⟨S128x512, b⟩, ⟨S128x512, b⟩]
    concatenates_S128x512_S128x512_S128x512_S128x512_S512x512_d0

/-- The scores of an edge block: the mask is added everywhere. -/
def edgeScores (s : FVec F S512x512 .f32) (b : FVec F S128x512 .f32) : FVec F S512x512 .f32 :=
  addf s (bias4 b)

/-- The scores of an interior block: the mask is not added to the block's own columns. -/
def innerScores (s : FVec F S512x512 .f32) (b : FVec F S128x512 .f32) : FVec F S512x512 .f32 :=
  concatenate S512x512 1
    [⟨S512x128, addf (extractStridedSlice S512x128 ![0, 0] s slices_S512x512_o0_0_S512x128)
        (extractStridedSlice S512x128 ![0, 0] (bias4 b) slices_S512x512_o0_0_S512x128)⟩,
     ⟨S512x128, extractStridedSlice S512x128 ![0, 128] s slices_S512x512_o0_128_S512x128⟩,
     ⟨S512x256, addf (extractStridedSlice S512x256 ![0, 256] s slices_S512x512_o0_256_S512x256)
        (extractStridedSlice S512x256 ![0, 256] (bias4 b) slices_S512x512_o0_256_S512x256)⟩]
    concatenates_S512x128_S512x128_S512x256_S512x512_d1

/-- The row maxima, the sink included. -/
def rowMax (sk : FVec F S512x1 .f32) (s : FVec F S512x512 .f32) : FVec F S512x1 .f32 :=
  maximumf (shapeCast S512x1 (multiReduction .maximumf [1] S512 s 0xFF800000#32 reduces_S512x512_S512 (.inl rfl) rfl)
    shapeCasts_S512_S512x1) sk

/-- The weights before they are normalised. -/
def weights (sk : FVec F S512x1 .f32) (s : FVec F S512x512 .f32) : FVec F S512x512 .f32 :=
  exp2 (subf s (broadcastTo S512x512 (rowMax sk s) broadcasts_S512x1_S512x512))

/-- The weighted values and, in the right half, the weights' sums. -/
def weighted (sk : FVec F S512x1 .f32) (s : FVec F S512x512 .f32) (v : FVec F S512x256 .bf16) : FVec F S512x256 .f32 :=
  matmul dot_S512x512_S512x256_S512x256_1_0_0_1_n_n none (truncf .bf16 (weights sk s) bitsLt_bf16_f32) v
    (constant S512x256 .f32 0x00000000#32)

/-- The block's result for its four heads. -/
def attend (sk : FVec F S512x1 .f32) (s : FVec F S512x512 .f32) (v : FVec F S512x256 .bf16) : FVec F S512x128 .f32 :=
  divf (extractStridedSlice S512x128 ![0, 0] (weighted sk s v) slices_S512x256_o0_0_S512x128)
    (addf (extractStridedSlice S512x128 ![0, 128] (weighted sk s v) slices_S512x256_o0_128_S512x128)
      (broadcastTo S512x128 (exp2 (subf sk (rowMax sk s))) broadcasts_S512x1_S512x128))

/-- The four heads' rows start at these rows of the block's result. -/
theorem slices_head (g : Fin 4) : S512x128.Slices ![128 * g.val, 0] S128x128 := by
  fin_cases g <;> decide

/-- What is stored for head `g`. -/
def headOut (o : FVec F S512x128 .f32) (g : Fin 4) : FVec F S1x128x128 .bf16 :=
  shapeCast S1x128x128 (truncf .bf16 (extractStridedSlice S128x128 ![128 * g.val, 0] o (slices_head g)) bitsLt_bf16_f32)
    shapeCasts_S128x128_S1x128x128

/-- The mask of the block whose query rows start at `a` and whose key columns start at `b`. -/
def maskBias (a b : BitVec 32) : FVec F S128x512 .f32 :=
  select
    (ori
      (andi
        (andi
          (andi (cmpi .slt (iota .tc S128x512 32 [1] iota_S128x512_d1_w32) (broadcast S128x512 384#32))
            (cmpi .sle (absi (subi (addi (broadcast S128x512 a) (iota .tc S128x512 32 [0] iota_S128x512_d0_w32))
              (addi (broadcast S128x512 b) (iota .tc S128x512 32 [1] iota_S128x512_d1_w32)))) (broadcast S128x512 128#32)))
          (cmpi .sge (addi (broadcast S128x512 b) (iota .tc S128x512 32 [1] iota_S128x512_d1_w32)) (broadcast S128x512 112#32)))
        (cmpi .slt (addi (broadcast S128x512 b) (iota .tc S128x512 32 [1] iota_S128x512_d1_w32)) (broadcast S128x512 4224#32)))
      (andi
        (andi
          (xori (cmpi .slt (iota .tc S128x512 32 [1] iota_S128x512_d1_w32) (broadcast S128x512 384#32)) (constantI S128x512 1 1#1))
          (cmpi .sge (subi (iota .tc S128x512 32 [1] iota_S128x512_d1_w32) (broadcast S128x512 384#32)) (broadcast S128x512 112#32)))
        (cmpi .sgt (absi (subi (addi (broadcast S128x512 a) (iota .tc S128x512 32 [0] iota_S128x512_d0_w32))
          (subi (iota .tc S128x512 32 [1] iota_S128x512_d1_w32) (broadcast S128x512 384#32)))) (broadcast S128x512 128#32))))
    (broadcast S128x512 (Scalar.ofBits .f32 0x00000000#32))
    (broadcast S128x512 (Named.named κ "mask" 0xF149F2CA#32))

/-- A block of 128 rows is inside the query block. -/
theorem inb_q (g : Fin 4) (n : Fin 33) : ∀ a, (![g.val, 128 * n.val, 0] : Fin 3 → Nat) a + S1x128x128.size a ≤ S4x4224x128.size a := by
  have := g.isLt; have := n.isLt
  intro a; fin_cases a
  · show g.val + 1 ≤ 4; omega
  · show 128 * n.val + 128 ≤ 4224; omega
  · show 0 + 128 ≤ 128; omega

/-- A block of 128 rows is inside the key or value block. -/
theorem inb_k (n : Fin 33) : ∀ a, (![0, 128 * n.val, 0] : Fin 3 → Nat) a + S1x128x128.size a ≤ S1x4224x128.size a := by
  have := n.isLt
  intro a; fin_cases a
  · show 0 + 1 ≤ 1; omega
  · show 128 * n.val + 128 ≤ 4224; omega
  · show 0 + 128 ≤ 128; omega

section Pieces

variable (arg3 : Memref sig .tc .vmem S4x4224x128 .bf16) (harg3 : arg3.IsWhole)
  (arg4 : Memref sig .tc .vmem S1x4224x128 .bf16) (harg4 : arg4.IsWhole)
  (arg5 : Memref sig .tc .vmem S1x4224x128 .bf16) (harg5 : arg5.IsWhole)
  (x1 : Vec F S4x4224x128 .bf16) (x2 x3 : Vec F S1x4224x128 .bf16)

/-- Head `g`'s query rows of block `n`. -/
def ldQ (g : Fin 4) (n : Fin 33) : Vec F S1x128x128 .bf16 :=
  View.readAt (Elt F) arg3.view (Rect.unit (s := S4x4224x128) ![g.val, 128 * n.val, 0] S1x128x128.size (inb_q g n)).toLoadRect (harg3.unread x1)

/-- The key (or value) rows of block `n`. -/
def ldK (n : Fin 33) : Vec F S1x128x128 .bf16 :=
  View.readAt (Elt F) arg4.view (Rect.unit (s := S1x4224x128) ![0, 128 * n.val, 0] S1x128x128.size (inb_k n)).toLoadRect (harg4.unread x2)

/-- The block before, or the first. -/
def prevB (n : Fin 33) : Fin 33 := ⟨n.val - 1, by omega⟩
/-- The block after, or the last. -/
def nextB (n : Fin 33) : Fin 33 := ⟨min (n.val + 1) 32, by omega⟩

/-- The block's products of queries and keys. -/
def blkProds (n : Fin 33) : FVec F S512x512 .f32 :=
  prods (cat4 (ldQ arg3 harg3 x1 0 n) (ldQ arg3 harg3 x1 1 n) (ldQ arg3 harg3 x1 2 n) (ldQ arg3 harg3 x1 3 n))
    (cat4 (ldK arg4 harg4 x2 (prevB n)) (ldK arg4 harg4 x2 n) (ldK arg4 harg4 x2 (nextB n)) (ldK arg4 harg4 x2 0))

/-- The block's values, with the ones. -/
def blkVals (n : Fin 33) : FVec F S512x256 .bf16 :=
  withOnes (cat4 (ldK arg5 harg5 x3 (prevB n)) (ldK arg5 harg5 x3 n) (ldK arg5 harg5 x3 (nextB n)) (ldK arg5 harg5 x3 0))

/-- The store of head `g` of an edge block. -/
def edgePiece (sk : FVec F S512x1 .f32) (a b : BitVec 32) (n : Fin 33) (g : Fin 4) : View.Piece (Elt F) S4x4224x128 .bf16 :=
  ⟨Rect.unit (s := S4x4224x128) ![g.val, 128 * n.val, 0] S1x128x128.size (inb_q g n),
    headOut (attend sk (edgeScores (blkProds arg3 harg3 arg4 harg4 x1 x2 n) (maskBias a b)) (blkVals arg5 harg5 x3 n)) g⟩

/-- The store of head `g` of an interior block. -/
def innerPiece (sk : FVec F S512x1 .f32) (B : FVec F S128x512 .f32) (n : Fin 33) (g : Fin 4) : View.Piece (Elt F) S4x4224x128 .bf16 :=
  ⟨Rect.unit (s := S4x4224x128) ![g.val, 128 * n.val, 0] S1x128x128.size (inb_q g n),
    headOut (attend sk (innerScores (blkProds arg3 harg3 arg4 harg4 x1 x2 n) B) (blkVals arg5 harg5 x3 n)) g⟩

/-- A block's four stores, the last first, before those already there. -/
def four (p : Fin 4 → View.Piece (Elt F) S4x4224x128 .bf16) (L : List (View.Piece (Elt F) S4x4224x128 .bf16)) :
    List (View.Piece (Elt F) S4x4224x128 .bf16) :=
  p 3 :: p 2 :: p 1 :: p 0 :: L

/-- The stores of the interior blocks `2 … k + 1`, the last first, before those already there. -/
def innerPieces (sk : FVec F S512x1 .f32) (B : FVec F S128x512 .f32) (L : List (View.Piece (Elt F) S4x4224x128 .bf16)) :
    (k : Nat) → k ≤ 30 → List (View.Piece (Elt F) S4x4224x128 .bf16)
  | 0, _ => L
  | k + 1, h => four (innerPiece arg3 harg3 arg4 harg4 arg5 harg5 x1 x2 x3 sk B ⟨k + 2, by omega⟩)
      (innerPieces sk B L k (by omega))

end Pieces

/-- The interior blocks' mask as the scratch holds it. -/
def B0 : FVec F S128x512 .f32 := shapeCast S128x512 (maskBias 256#32 128#32) shapeCasts_S128x512_S128x512

/-- Every store of the grid point, the last first. -/
def allPieces (arg3 : Memref sig .tc .vmem S4x4224x128 .bf16) (harg3 : arg3.IsWhole)
    (arg4 : Memref sig .tc .vmem S1x4224x128 .bf16) (harg4 : arg4.IsWhole)
    (arg5 : Memref sig .tc .vmem S1x4224x128 .bf16) (harg5 : arg5.IsWhole)
    (x1 : Vec F S4x4224x128 .bf16) (x2 x3 : Vec F S1x4224x128 .bf16)
    (sk : FVec F S512x1 .f32) (B : FVec F S128x512 .f32) : List (View.Piece (Elt F) S4x4224x128 .bf16) :=
  four (edgePiece arg3 harg3 arg4 harg4 arg5 harg5 x1 x2 x3 sk 4096#32 3968#32 32)
    (innerPieces arg3 harg3 arg4 harg4 arg5 harg5 x1 x2 x3 sk B
      (four (edgePiece arg3 harg3 arg4 harg4 arg5 harg5 x1 x2 x3 sk 128#32 0#32 1)
        (four (edgePiece arg3 harg3 arg4 harg4 arg5 harg5 x1 x2 x3 sk 0#32 4294967168#32 0) [])) 30 (le_refl _))

set_option maxHeartbeats 4000000 in
/-- The stores the run found are the formula at every block and head. -/
theorem pieces_eq (c : Dev nD) (i : grid0.Coords) (arg2 : Memref sig .tc .smem S8 .f32) (harg2 : arg2.IsWhole) (arg3 : Memref sig .tc .vmem S4x4224x128 .bf16) (harg3 : arg3.IsWhole) (arg4 : Memref sig .tc .vmem S1x4224x128 .bf16) (harg4 : arg4.IsWhole) (arg5 : Memref sig .tc .vmem S1x4224x128 .bf16) (harg5 : arg5.IsWhole) (arg6 : Memref sig .tc .vmem S4x4224x128 .bf16) (harg6 : arg6.IsWhole) (arg7 : Memref sig .tc .vmem S128x512 .f32) (harg7 : arg7.IsWhole)
    (x0 : Vec F S8 .f32) (x1 : Vec F S4x4224x128 .bf16) (x2 : Vec F S1x4224x128 .bf16) (x3 : Vec F S1x4224x128 .bf16) :
    (kernelRun0_A c i arg2 harg2 arg3 harg3 arg4 harg4 arg5 harg5 arg6 harg6 arg7 harg7 x0 x1 x2 x3).1
      = allPieces arg3 harg3 arg4 harg4 arg5 harg5 x1 x2 x3 (kernelRun0_A.sl.r_6 c i arg2 harg2 x0)
          (kernelRun0_A.sl.v296 c arg7) := by
  rfl

end Cert.KernelIdeal.Attn

end
-- ==== Proof.Words.lean ====
module

public import Idealize.ShloMosaic.Lib.Pointwise
public import Idealize.ShloMosaic.Lib.Affine

/-! # Index words as integers, their comparisons as propositions, and a few constants -/

@[expose] public section

noncomputable section

namespace Cert.Words

open Idealize.ShloMosaic

/-- The word of an integer. -/
def W (z : ℤ) : BitVec 32 := BitVec.ofInt 32 z

/-- A bit from a proposition. -/
def bit (p : Prop) [Decidable p] : BitVec 1 := if p then 1#1 else 0#1

theorem ofNat_eq (n : ℕ) : BitVec.ofNat 32 n = W n := by
  simp [W, BitVec.ofInt_natCast]

theorem addi_W (x y : ℤ) : IntOp.addi (W x) (W y) = W (x + y) := by
  simp [IntOp.addi, W, BitVec.ofInt_add]

theorem subi_W (x y : ℤ) : IntOp.subi (W x) (W y) = W (x - y) := by
  apply BitVec.eq_of_toInt_eq
  simp [IntOp.subi, W, BitVec.toInt_sub, BitVec.toInt_ofInt, Int.sub_emod]

theorem muli_W (x y : ℤ) : IntOp.muli (W x) (W y) = W (x * y) := by
  simp [IntOp.muli, W, BitVec.ofInt_mul]

theorem toInt_W (x : ℤ) (h : -2147483648 ≤ x ∧ x < 2147483648) : (W x).toInt = x := by
  rw [W, BitVec.toInt_ofInt_eq_self] <;> omega

theorem absi_W (x : ℤ) (h : -2147483648 < x ∧ x < 2147483648) : IntOp.absi (W x) = W |x| := by
  have hx := toInt_W x (by omega)
  unfold IntOp.absi
  rw [BitVec.msb_eq_toInt, hx]
  split
  · rename_i hh
    have hh : x < 0 := by simpa using hh
    rw [abs_of_neg hh]
    simp [W, BitVec.ofInt_neg]
  · rename_i hh
    have hh : 0 ≤ x := by simpa using hh
    rw [abs_of_nonneg hh]

theorem bit_congr (p q : Prop) [Decidable p] [Decidable q] (h : p ↔ q) : bit p = bit q := by
  unfold bit; simp [h]

theorem bit_iff (b : BitVec 1) (p : Prop) [Decidable p] (h : b = 1#1 ↔ p) : b = bit p := by
  unfold bit
  split
  · exact h.2 ‹_›
  · rename_i hp
    have : b ≠ 1#1 := fun e => hp (h.1 e)
    clear h; revert this; revert b; decide

theorem slt_W (x y : ℤ) (hx : -2147483648 ≤ x ∧ x < 2147483648) (hy : -2147483648 ≤ y ∧ y < 2147483648) :
    IntOp.cmpi .slt (W x) (W y) = bit (x < y) :=
  bit_iff _ _ (by rw [IntOp.cmpi_slt, toInt_W x hx, toInt_W y hy])
theorem sle_W (x y : ℤ) (hx : -2147483648 ≤ x ∧ x < 2147483648) (hy : -2147483648 ≤ y ∧ y < 2147483648) :
    IntOp.cmpi .sle (W x) (W y) = bit (x ≤ y) :=
  bit_iff _ _ (by rw [IntOp.cmpi_sle, toInt_W x hx, toInt_W y hy])
theorem sgt_W (x y : ℤ) (hx : -2147483648 ≤ x ∧ x < 2147483648) (hy : -2147483648 ≤ y ∧ y < 2147483648) :
    IntOp.cmpi .sgt (W x) (W y) = bit (y < x) :=
  bit_iff _ _ (by rw [IntOp.cmpi_sgt, toInt_W x hx, toInt_W y hy])
theorem sge_W (x y : ℤ) (hx : -2147483648 ≤ x ∧ x < 2147483648) (hy : -2147483648 ≤ y ∧ y < 2147483648) :
    IntOp.cmpi .sge (W x) (W y) = bit (y ≤ x) :=
  bit_iff _ _ (by rw [IntOp.cmpi_sge, toInt_W x hx, toInt_W y hy])

theorem sle_abs (x y : ℤ) (hx : -2147483648 < x ∧ x < 2147483648) (hy : -2147483648 ≤ y ∧ y < 2147483648) :
    IntOp.cmpi .sle (IntOp.absi (W x)) (W y) = bit (-y ≤ x ∧ x ≤ y) := by
  have h : -2147483648 ≤ |x| ∧ |x| < 2147483648 := ⟨le_trans (by norm_num) (abs_nonneg x), abs_lt.2 ⟨by omega, by omega⟩⟩
  rw [absi_W x hx, sle_W _ _ h hy]
  exact bit_congr _ _ abs_le
theorem sgt_abs (x y : ℤ) (hx : -2147483648 < x ∧ x < 2147483648) (hy : -2147483648 ≤ y ∧ y < 2147483648) :
    IntOp.cmpi .sgt (IntOp.absi (W x)) (W y) = bit (y < x ∨ y < -x) := by
  have h : -2147483648 ≤ |x| ∧ |x| < 2147483648 := ⟨le_trans (by norm_num) (abs_nonneg x), abs_lt.2 ⟨by omega, by omega⟩⟩
  rw [absi_W x hx, sgt_W _ _ h hy]
  exact bit_congr _ _ lt_abs

theorem andi_bit (p q : Prop) [Decidable p] [Decidable q] : IntOp.andi (bit p) (bit q) = bit (p ∧ q) := by
  unfold bit IntOp.andi; by_cases p <;> by_cases q <;> simp [*]
theorem ori_bit (p q : Prop) [Decidable p] [Decidable q] : IntOp.ori (bit p) (bit q) = bit (p ∨ q) := by
  unfold bit IntOp.ori; by_cases p <;> by_cases q <;> simp [*]
theorem not_bit (p : Prop) [Decidable p] : IntOp.xori (bit p) 1#1 = bit (¬ p) := by
  unfold bit IntOp.xori; by_cases p <;> simp [*]
theorem select_bit {α : Type} (p : Prop) [Decidable p] (a b : α) : Scalar.select (bit p) a b = if p then a else b := by
  unfold bit Scalar.select; by_cases p <;> simp [*]

/-- Minus infinity. -/
theorem ninf : Ideal.ofBits .f32 0xFF800000#32 = ⊥ := by simp [Ideal.ofBits, Ideal.ieee]

/-- The head's width. -/
theorem width : Ideal.ofBits .f32 0x43000000#32 = ((128 : ℝ) : EReal) := by
  simp [Ideal.ofBits, Ideal.ieee, -EReal.coe_mul]; norm_num

/-- Two. -/
theorem two : Ideal.ofBits .f32 0x40000000#32 = ((2 : ℝ) : EReal) := by
  simp [Ideal.ofBits, Ideal.ieee, -EReal.coe_mul]; norm_num

end Cert.Words

end
-- ==== Proof.AttnRead.lean ====
module

public import proofs.«01_k».proof.Proof.AttnPieces
public import proofs.«01_k».proof.Proof.Words
public import Idealize.ShloMosaic.Lib.WholeRead

/-! # The attention's formula, read at an index -/

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.Words

/-- The block's result at a row: the weights against the values, over the weights' sum and the sink's. -/
theorem attend_at (sk : FVec Ideal S512x1 .f32) (s : FVec Ideal S512x512 .f32) (v : FVec Ideal S512x128 .bf16)
    (r : Fin 512) (e : Fin 128) :
    attend sk s (withOnes v) (ix2 r e) =
      Ideal.div (∑ x, Ideal.exp2 (s (ix2 r x) - max (Finset.fold max ⊥ (fun x => s (ix2 r x)) Finset.univ) (sk (ix2 r 0))) * v (ix2 x e))
        ((∑ x, Ideal.exp2 (s (ix2 r x) - max (Finset.fold max ⊥ (fun x => s (ix2 r x)) Finset.univ) (sk (ix2 r 0))))
          + Ideal.exp2 (sk (ix2 r 0) - max (Finset.fold max ⊥ (fun x => s (ix2 r x)) Finset.univ) (sk (ix2 r 0)))) := by
  rw [← ninf]
  pointwise [attend, weighted, weights, rowMax, withOnes, k0_pay9]
  rfl

/-- A product of queries and keys. -/
theorem prods_at (q k : FVec Ideal S512x128 .bf16) (r c : Fin 512) :
    prods q k (ix2 r c) = ∑ d : Fin 128, q (ix2 r d) * k (ix2 c d) := by
  pointwise [prods]

/-- A block's mask is the same for each head. -/
theorem bias4_at (b : FVec Ideal S128x512 .f32) (r c : Fin 512) :
    bias4 b (ix2 r c) = b (ix2 ⟨r.val % 128, by omega⟩ c) := by
  have := r.isLt
  pointwise [bias4]
  split_ifs <;>
  · refine congrArg b (congrArg (fun t => ix2 t c) (Fin.ext ?_))
    simp only []; omega

/-- Which of four. -/
def pick4 {α : Type} (x y z w : α) (i : Fin 4) : α := ![x, y, z, w] i

/-- A row of four slabs. -/
theorem cat4_at (x y z w : Vec Ideal S1x128x128 .bf16) (r : Fin 512) (e : Fin 128) :
    cat4 x y z w (ix2 r e) = pick4 x y z w ⟨r.val / 128, by omega⟩ (ix3 0 ⟨r.val % 128, by omega⟩ e) := by
  have := r.isLt
  pointwise [cat4]
  have p0 : r.val < 128 → ∀ i, pick4 x y z w ⟨r.val / 128, by omega⟩ i = x i := fun h i => by
    rw [show (⟨r.val / 128, by omega⟩ : Fin 4) = 0 from Fin.ext (by show r.val / 128 = 0; omega)]; rfl
  have p1 : ¬ r.val < 128 → r.val < 256 → ∀ i, pick4 x y z w ⟨r.val / 128, by omega⟩ i = y i := fun h h' i => by
    rw [show (⟨r.val / 128, by omega⟩ : Fin 4) = 1 from Fin.ext (by show r.val / 128 = 1; omega)]; rfl
  have p2 : ¬ r.val < 256 → r.val < 384 → ∀ i, pick4 x y z w ⟨r.val / 128, by omega⟩ i = z i := fun h h' i => by
    rw [show (⟨r.val / 128, by omega⟩ : Fin 4) = 2 from Fin.ext (by show r.val / 128 = 2; omega)]; rfl
  have p3 : ¬ r.val < 384 → ∀ i, pick4 x y z w ⟨r.val / 128, by omega⟩ i = w i := fun h i => by
    rw [show (⟨r.val / 128, by omega⟩ : Fin 4) = 3 from Fin.ext (by show r.val / 128 = 3; omega)]; rfl
  have cg : ∀ (f : Vec Ideal S1x128x128 .bf16) (a b : Fin 128), a.val = b.val → f (ix3 0 a e) = f (ix3 0 b e) := fun f a b h => by rw [Fin.ext h]
  split_ifs
  all_goals first
  | exact absurd rfl ‹_›
  | (rw [p0 (by omega)]; exact cg _ _ _ (by dsimp only; omega))
  | (rw [p1 (by omega) (by omega)]; exact cg _ _ _ (by dsimp only; omega))
  | (rw [p2 (by omega) (by omega)]; exact cg _ _ _ (by dsimp only; omega))
  | (rw [p3 (by omega)]; exact cg _ _ _ (by dsimp only; omega))

/-- An interior block's scores. -/
theorem inner_at (s : FVec Ideal S512x512 .f32) (b : FVec Ideal S128x512 .f32) (r c : Fin 512) :
    innerScores s b (ix2 r c) = if 128 ≤ c.val ∧ c.val < 256 then s (ix2 r c) else s (ix2 r c) + bias4 b (ix2 r c) := by
  have := c.isLt
  pointwise [innerScores]
  have e2 : 128 ≤ c.val → ∀ h, (⟨128 + (c.val - 128), h⟩ : Fin 512) = c := fun _ h => Fin.ext (by simp only []; omega)
  have e3 : ¬ c.val < 128 → ¬ c.val - 128 < 128 → ∀ h, (⟨256 + (c.val - 128 - 128), h⟩ : Fin 512) = c := fun _ _ h => Fin.ext (by simp only []; omega)
  by_cases h1 : c.val < 128
  · have h2 : ¬ (128 ≤ c.val ∧ c.val < 256) := by omega
    simp [h1, h2]
  · by_cases h3 : c.val - 128 < 128
    · have h2 : (128 ≤ c.val ∧ c.val < 256) := by omega
      simp [h1, h2, h3, e2]
    · have h2 : ¬ (128 ≤ c.val ∧ c.val < 256) := by omega
      simp [h1, h2, h3, e3]

/-- One head's rows of a block's result. -/
theorem headOut_at (o : FVec Ideal S512x128 .f32) (g : Fin 4) (x : Fin 1) (r e : Fin 128) :
    headOut o g (ix3 x r e) = o (ix2 ⟨128 * g.val + r.val, by omega⟩ e) := by
  pointwise [headOut]

/-- Which of a block's 512 columns its row `r` sees. -/
abbrev okC (n r c : ℕ) : Prop :=
  (c < 384 ∧ r ≤ c ∧ c ≤ r + 256 ∧ 240 ≤ 128 * n + c ∧ 128 * n + c < 4352) ∨ (496 ≤ c ∧ c < 512 ∧ c + 128 < 128 * n + r + 384)

/-- The mask's name stands for minus infinity. -/
theorem mask_named : (Named.named κ "mask" 0xF149F2CA#32 : Ideal .f32) = (⊥ : EReal) :=
  IdealRules.named_const.ideal_named_scalar _ _ _ _ rfl

/-- The mask of a block: nothing where the row sees the column, minus infinity elsewhere. -/
theorem mask_at (a b : BitVec 32) (n : ℕ) (hn : n < 33) (ha : a = W (128 * n)) (hb : b = W (128 * n - 128)) (r : Fin 128) (c : Fin 512) :
    maskBias (F := Ideal) a b (ix2 r c) = if okC n r.val c.val then 0 else ⊥ := by
  have := r.isLt; have := c.isLt
  pointwise [maskBias]
  rw [show (Named.named κ "mask" 4048155338#32 : Ideal .f32) = (⊥ : EReal) from mask_named, ha, hb]
  rw [show (128#32) = W 128 from rfl, show (384#32) = W 384 from rfl, show (112#32) = W 112 from rfl, show (4224#32) = W 4224 from rfl]
  simp only [ofNat_eq, addi_W, subi_W, muli_W]
  rw [sle_abs _ _ (by omega) (by omega), sge_W _ _ (by omega) (by omega), sge_W _ _ (by omega) (by omega),
    slt_W _ _ (by omega) (by omega), slt_W _ _ (by omega) (by omega), sgt_abs _ _ (by omega) (by omega), not_bit]
  simp only [andi_bit, ori_bit, select_bit]
  refine if_congr ?_ rfl rfl
  omega

/-- The interior blocks' mask, as the scratch holds it. -/
theorem B0_eq : B0 (F := Ideal) = maskBias 256#32 128#32 := by
  unfold B0
  funext i
  idx_vars i
  pointwise

end Cert.KernelIdeal.Attn

end
-- ==== Proof.AttnSink.lean ====
module

public import proofs.«01_k».proof.Proof.AttnRead

/-! # The attention's sink column

Each grid point reads its four heads' sinks from the table, scales them to powers of two, and spreads them
over the four slabs of 128 rows. -/

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.Words

/-- The name of `1 / log 2` stands for it. -/
theorem log2e_named : (Named.named κ "log2e" 0x3FB8AA3B#32 : Ideal .f32) = (((Real.log 2)⁻¹ : ℝ) : EReal) :=
  IdealRules.named_const.ideal_named_scalar _ _ _ _ rfl

/-- A row's slab number. -/
theorem slab (r : Fin 512) : k0_pay2 (ix2 r 0) = BitVec.ofNat 32 (r.val / 128) :=
  (by decide +kernel : ∀ r : Fin 512, k0_pay2 (ix2 r 0) = BitVec.ofNat 32 (r.val / 128)) r

/-- The sink read for slab `g`. -/
def ldS (i : grid0.Coords) (arg2 : Memref sig .tc .smem S8 .f32) (harg2 : arg2.IsWhole) (x0 : Vec Ideal S8 .f32) (g : Fin 4) : EReal :=
  View.readAt (Elt Ideal) arg2.view (Rect.unit (s := S8) (k0_off1 i (BitVec.ofNat 32 g.val)) S1.size (k0_off1_inb i g)).toLoadRect
    (harg2.unread x0) (Shape.Idx.first (numel1_S1.symm ▸ Nat.one_pos))

/-- The sink read for slab `g` is the table's entry of the point's head `g`. -/
theorem ldS_eq (i : grid0.Coords) (arg2 : Memref sig .tc .smem S8 .f32) (harg2 : arg2.IsWhole) (x0 : Vec Ideal S8 .f32) (g : Fin 4)
    (h : 4 * (i 1).val + g.val < 8) : ldS i arg2 harg2 x0 g = x0 (ix1 ⟨4 * (i 1).val + g.val, h⟩) := by
  unfold ldS
  refine (harg2.readAt_unread x0 _ _).trans (congrArg x0 ?_)
  funext a
  fin_cases a
  refine Fin.ext ?_
  show (k0_off1 i (BitVec.ofNat 32 g.val)) 0 + 1 * 0 = 4 * (i 1).val + g.val
  rw [k0_off1_eq]
  rfl

/-- The column, from the four sinks. -/
def sinkCol (l : Fin 4 → EReal) : FVec Ideal S512x1 .f32 :=
  k0_pay6 (F := Ideal) k0_pay2 (k0_pay3 (F := Ideal) (l 0)) k0_pay4 (k0_pay5 (F := Ideal) (l 1)) (l 2) (l 3)

/-- The column the run computes. -/
theorem sink_eq (c : Dev nD) (i : grid0.Coords) (arg2 : Memref sig .tc .smem S8 .f32) (harg2 : arg2.IsWhole) (x0 : Vec Ideal S8 .f32) :
    kernelRun0_A.sl.r_6 c i arg2 harg2 x0 = sinkCol (ldS i arg2 harg2 x0) := by
  rfl

/-- A row of the column: its slab's sink over `log 2`. -/
theorem sinkCol_at (l : Fin 4 → EReal) (r : Fin 512) :
    sinkCol l (ix2 r 0) = l ⟨r.val / 128, by omega⟩ * (((Real.log 2)⁻¹ : ℝ) : EReal) := by
  have hr := r.isLt
  have hs := slab r
  pointwise [sinkCol, k0_pay6, k0_pay5, k0_pay4, k0_pay3]
  rw [show (Named.named κ "log2e" 1069066811#32 : Ideal .f32) = (((Real.log 2)⁻¹ : ℝ) : EReal) from log2e_named, hs]
  have hc : r.val / 128 = 0 ∨ r.val / 128 = 1 ∨ r.val / 128 = 2 ∨ r.val / 128 = 3 := by omega
  rcases hc with h | h | h | h
  · rw [show (⟨r.val / 128, by omega⟩ : Fin 4) = 0 from Fin.ext h, h]; rfl
  · rw [show (⟨r.val / 128, by omega⟩ : Fin 4) = 1 from Fin.ext h, h]; rfl
  · rw [show (⟨r.val / 128, by omega⟩ : Fin 4) = 2 from Fin.ext h, h]; rfl
  · rw [show (⟨r.val / 128, by omega⟩ : Fin 4) = 3 from Fin.ext h, h]; rfl

end Cert.KernelIdeal.Attn

end
-- ==== Proof.SoftMath.lean ====
module

public import Idealize.ShloMosaic.Lib.Pointwise

/-! # A softmax with a sink, on the extended reals

The kernel's weights are powers of two of scores divided by log 2, less the row's maximum; the
reference's are exponentials of the scores, less the maximum. Both are the same normalised weights,
whatever the values they multiply. -/

@[expose] public section

set_option maxRecDepth 16384

noncomputable section

namespace Cert.SoftMath

open Idealize.ShloMosaic

/-- The sum of reals, as extended reals. -/
theorem coe_sum {ι : Type} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- A nonnegative real goes into a sum. -/
theorem mul_sum_coe {ι : Type} (S : Finset ι) (k : ℝ) (hk : 0 ≤ k) (f : ι → EReal) :
    (k : EReal) * ∑ i ∈ S, f i = ∑ i ∈ S, (k : EReal) * f i := by
  classical
  induction S using Finset.induction_on with
  | empty => simp
  | insert i S hi ih =>
    rw [Finset.sum_insert hi, Finset.sum_insert hi,
      EReal.left_distrib_of_nonneg_of_ne_top (EReal.coe_nonneg.2 hk) (EReal.coe_ne_top k), ih]

/-- The greatest of finitely many values that are not `⊤`, and of a real, is a real. -/
theorem max_real {ι : Type} [Fintype ι] (s : ι → EReal) (hs : ∀ c, s c < ⊤) (x : ℝ) :
    ∃ μ : ℝ, max (Finset.fold max ⊥ s Finset.univ) (x : EReal) = (μ : EReal) := by
  have h1 : max (Finset.fold max ⊥ s Finset.univ) (x : EReal) ≠ ⊤ := by
    refine (max_lt ?_ (EReal.coe_lt_top x)).ne
    rw [Finset.fold_max_lt]
    exact ⟨bot_lt_top, fun c _ => hs c⟩
  have h2 : max (Finset.fold max ⊥ s Finset.univ) (x : EReal) ≠ ⊥ :=
    ((EReal.bot_lt_coe x).trans_le (le_max_right _ _)).ne'
  exact ⟨_, (EReal.coe_toReal h1 h2).symm⟩

/-- The weight of a score before it is normalised. -/
def wt (ok : Prop) [Decidable ok] (a : ℝ) : ℝ := if ok then Real.exp a else 0

theorem wt_nonneg (ok : Prop) [Decidable ok] (a : ℝ) : 0 ≤ wt ok a := by
  unfold wt; split
  · exact (Real.exp_pos a).le
  · exact le_refl _

/-- A power of two of a masked score. -/
theorem exp2_masked (ok : Prop) [Decidable ok] (a μ : ℝ) :
    Ideal.exp2 ((if ok then ((a / Real.log 2 : ℝ) : EReal) else ⊥) - (μ : EReal))
      = ((Real.exp (-(Real.log 2 * μ)) * wt ok a : ℝ) : EReal) := by
  have hl : Real.log 2 ≠ 0 := (Real.log_pos (by norm_num)).ne'
  unfold wt
  split
  · rw [← EReal.coe_sub, Ideal.exp2_coe]
    congr 1
    show (2 : ℝ) ^ (a / Real.log 2 - μ) = _
    rw [Real.rpow_def_of_pos (by norm_num), ← Real.exp_add]
    congr 1
    field_simp
    ring
  · rw [EReal.bot_sub, Ideal.exp2_bot, mul_zero, EReal.coe_zero]

/-- An exponential of a masked score. -/
theorem exp_masked (ok : Prop) [Decidable ok] (a μ : ℝ) :
    Ideal.exp ((if ok then (a : EReal) else ⊥) - (μ : EReal)) = ((Real.exp (-μ) * wt ok a : ℝ) : EReal) := by
  unfold wt
  split
  · rw [← EReal.coe_sub, Ideal.exp_coe, ← Real.exp_add]
    congr 2
    ring
  · rw [EReal.bot_sub, Ideal.exp_bot, mul_zero, EReal.coe_zero]

section
variable {ι : Type} [Fintype ι] (ok : ι → Prop) [DecidablePred ok] (a : ι → ℝ) (b : ℝ)

/-- The sum of the weights and of the sink's. -/
def den : ℝ := (∑ c, wt (ok c) (a c)) + Real.exp b

theorem den_pos : 0 < den ok a b :=
  add_pos_of_nonneg_of_pos (Finset.sum_nonneg fun c _ => wt_nonneg _ _) (Real.exp_pos b)

/-- The kernel's row: powers of two, the maximum taken off, the weights' sum divided out at the end. -/
theorem kernel_row (v : ι → EReal) (s : ι → EReal) (sk : EReal)
    (hs : ∀ c, s c = if ok c then ((a c / Real.log 2 : ℝ) : EReal) else ⊥) (hsk : sk = ((b / Real.log 2 : ℝ) : EReal)) :
    Ideal.div (∑ c, Ideal.exp2 (s c - max (Finset.fold max ⊥ s Finset.univ) sk) * v c)
        ((∑ c, Ideal.exp2 (s c - max (Finset.fold max ⊥ s Finset.univ) sk))
          + Ideal.exp2 (sk - max (Finset.fold max ⊥ s Finset.univ) sk))
      = (∑ c, ((wt (ok c) (a c) : ℝ) : EReal) * v c) * ((1 / den ok a b : ℝ) : EReal) := by
  obtain ⟨μ, hμ⟩ := max_real s (fun c => by rw [hs c]; split; exacts [EReal.coe_lt_top _, bot_lt_top]) (b / Real.log 2)
  rw [hsk, hμ]
  set k : ℝ := Real.exp (-(Real.log 2 * μ)) with hk
  have hkp : 0 < k := Real.exp_pos _
  have e1 : ∀ c, Ideal.exp2 (s c - (μ : EReal)) = ((k * wt (ok c) (a c) : ℝ) : EReal) := fun c => by
    rw [hs c, exp2_masked]
  have e2 : Ideal.exp2 (((b / Real.log 2 : ℝ) : EReal) - (μ : EReal)) = ((k * Real.exp b : ℝ) : EReal) := by
    have := exp2_masked True b μ
    simpa [wt] using this
  simp only [e1, e2]
  have hd : ((∑ c, ((k * wt (ok c) (a c) : ℝ) : EReal)) + ((k * Real.exp b : ℝ) : EReal)) = ((k * den ok a b : ℝ) : EReal) := by
    rw [← coe_sum, ← EReal.coe_add, ← Finset.mul_sum, ← mul_add]; rfl
  have hn : (∑ c, ((k * wt (ok c) (a c) : ℝ) : EReal) * v c) = (k : EReal) * ∑ c, ((wt (ok c) (a c) : ℝ) : EReal) * v c := by
    rw [mul_sum_coe _ _ hkp.le]
    exact Finset.sum_congr rfl fun c _ => by rw [EReal.coe_mul, mul_assoc]
  rw [hd, hn, Ideal.div_coe (mul_pos hkp (den_pos ok a b)).ne', mul_comm (k : EReal), mul_assoc, ← EReal.coe_mul]
  congr 2
  have := (den_pos ok a b).ne'
  field_simp

/-- The reference's normalised weight: exponentials, the maximum taken off. -/
theorem ref_weight (t : ι → EReal) (ht : ∀ c, t c = if ok c then (a c : EReal) else ⊥) (hne : ∃ c, ok c) (j : ι) :
    Ideal.div (Ideal.exp (t j - max ⊥ (Finset.fold max ⊥ t Finset.univ)))
        (∑ c, Ideal.exp (t c - max ⊥ (Finset.fold max ⊥ t Finset.univ)))
      = ((wt (ok j) (a j) * (1 / ∑ c, wt (ok c) (a c)) : ℝ) : EReal) := by
  obtain ⟨c0, h0⟩ := hne
  have hM : ∃ μ : ℝ, max ⊥ (Finset.fold max ⊥ t Finset.univ) = (μ : EReal) := by
    obtain ⟨μ, hμ⟩ := max_real t (fun c => by rw [ht c]; split; exacts [EReal.coe_lt_top _, bot_lt_top]) (a c0)
    refine ⟨μ, ?_⟩
    rw [← hμ, bot_sup_eq]
    refine (max_eq_left ?_).symm
    rw [Finset.le_fold_max]
    exact Or.inr ⟨c0, Finset.mem_univ _, by rw [ht c0, if_pos h0]⟩
  obtain ⟨μ, hμ⟩ := hM
  rw [hμ]
  set k : ℝ := Real.exp (-μ) with hk
  have hkp : 0 < k := Real.exp_pos _
  have e1 : ∀ c, Ideal.exp (t c - (μ : EReal)) = ((k * wt (ok c) (a c) : ℝ) : EReal) := fun c => by
    rw [ht c, exp_masked]
  have hs : 0 < ∑ c, wt (ok c) (a c) := by
    refine Finset.sum_pos' (fun c _ => wt_nonneg _ _) ⟨c0, Finset.mem_univ _, ?_⟩
    rw [wt, if_pos h0]; exact Real.exp_pos _
  simp only [e1]
  rw [← coe_sum, ← Finset.mul_sum, Ideal.div_coe (mul_pos hkp hs).ne', ← EReal.coe_mul]
  congr 1
  have := hs.ne'
  field_simp

end

end Cert.SoftMath

end
-- ==== Proof.AttnRow.lean ====
module

public import proofs.«01_k».proof.Proof.SoftMath

/-! # One row of the windowed attention

The band's 384 columns, the sixteen rows every query sees and the sink: the kernel's and the reference's
way to the row's result. -/

@[expose] public section

set_option maxRecDepth 16384

noncomputable section

namespace Cert.AttnRow

open Idealize.ShloMosaic
open Cert.SoftMath

/-- Whether row `r` of block `n` sees column `j` of its band. -/
abbrev okB (n r j : ℕ) : Prop := r ≤ j ∧ j ≤ r + 256 ∧ 240 ≤ 128 * n + j ∧ 128 * n + j < 4352
/-- Whether row `r` of block `n` sees row `112 + x` apart from its band. -/
abbrev okM (n r x : ℕ) : Prop := 240 + x < 128 * n + r

/-- The sum of a row's weights. -/
def rowDen (n r : ℕ) (aB : Fin 384 → ℝ) (aM : Fin 16 → ℝ) (bS : ℝ) : ℝ :=
  (∑ j : Fin 384, wt (okB n r j.val) (aB j)) + (∑ x : Fin 16, wt (okM n r x.val) (aM x)) + Real.exp bS

/-- A row's result. -/
def rowVal (n r : ℕ) (aB : Fin 384 → ℝ) (aM : Fin 16 → ℝ) (bS : ℝ) (vB : Fin 384 → EReal) (vM : Fin 16 → EReal) : EReal :=
  ((∑ j : Fin 384, ((wt (okB n r j.val) (aB j) : ℝ) : EReal) * vB j) + ∑ x : Fin 16, ((wt (okM n r x.val) (aM x) : ℝ) : EReal) * vM x)
    * ((1 / rowDen n r aB aM bS : ℝ) : EReal)

/-- A sum over 512 columns: the band's, 112 more, the sixteen. -/
theorem sum512 {M : Type} [AddCommMonoid M] (f : Fin 512 → M) :
    ∑ c, f c = (∑ j : Fin 384, f ⟨j.val, by omega⟩) + ((∑ y : Fin 112, f ⟨384 + y.val, by omega⟩) + ∑ x : Fin 16, f ⟨496 + x.val, by omega⟩) := by
  have h1 := Fin.sum_univ_add (a := 384) (b := 128) f
  have h2 := Fin.sum_univ_add (a := 112) (b := 16) (fun i => f (Fin.natAdd 384 i))
  have h := h1.trans (congrArg₂ (· + ·) rfl h2)
  refine h.trans ?_
  refine congrArg₂ (· + ·) rfl (congrArg₂ (· + ·) rfl (Finset.sum_congr rfl fun x _ => congrArg f (Fin.ext ?_)))
  show 384 + (112 + x.val) = 496 + x.val
  omega

/-- A sum over 401 columns: the band's, the sixteen, the sink's. -/
theorem sum401 {M : Type} [AddCommMonoid M] (f : Fin 401 → M) :
    ∑ c, f c = (∑ j : Fin 384, f ⟨j.val, by omega⟩) + (∑ x : Fin 16, f ⟨384 + x.val, by omega⟩) + f ⟨400, by omega⟩ := by
  have h1 := Fin.sum_univ_castSucc (n := 400) f
  have h2 := Fin.sum_univ_add (a := 384) (b := 16) (fun i : Fin 400 => f i.castSucc)
  exact h1.trans (congrArg₂ (· + ·) h2 rfl)

/-- Splits a column of the 512. -/
theorem forall512 (P : Fin 512 → Prop) (hB : ∀ j : Fin 384, P ⟨j.val, by omega⟩) (hG : ∀ y : Fin 112, P ⟨384 + y.val, by omega⟩)
    (hM : ∀ x : Fin 16, P ⟨496 + x.val, by omega⟩) (c : Fin 512) : P c := by
  by_cases h1 : c.val < 384
  · exact hB ⟨c.val, h1⟩
  · by_cases h2 : c.val < 496
    · have := hG ⟨c.val - 384, by omega⟩
      rwa [show (⟨384 + (⟨c.val - 384, by omega⟩ : Fin 112).val, by dsimp only; omega⟩ : Fin 512) = c from Fin.ext (by dsimp only; omega)] at this
    · have := hM ⟨c.val - 496, by omega⟩
      rwa [show (⟨496 + (⟨c.val - 496, by omega⟩ : Fin 16).val, by dsimp only; omega⟩ : Fin 512) = c from Fin.ext (by dsimp only; omega)] at this

/-- Splits a column of the 401. -/
theorem forall401 (P : Fin 401 → Prop) (hB : ∀ j : Fin 384, P ⟨j.val, by omega⟩)
    (hM : ∀ x : Fin 16, P ⟨384 + x.val, by omega⟩) (hS : P ⟨400, by omega⟩) (c : Fin 401) : P c := by
  by_cases h1 : c.val < 384
  · exact hB ⟨c.val, h1⟩
  · by_cases h2 : c.val < 400
    · have := hM ⟨c.val - 384, by omega⟩
      rwa [show (⟨384 + (⟨c.val - 384, by omega⟩ : Fin 16).val, by dsimp only; omega⟩ : Fin 401) = c from Fin.ext (by dsimp only; omega)] at this
    · rwa [show (⟨400, by omega⟩ : Fin 401) = c from Fin.ext (by dsimp only; omega)] at hS

/-- Which of the 512 columns a row sees. -/
def okC (n r : ℕ) (c : Fin 512) : Prop := if c.val < 384 then okB n r c.val else if c.val < 496 then False else okM n r (c.val - 496)
instance (n r : ℕ) : DecidablePred (okC n r) := fun c => by unfold okC; infer_instance
/-- The 512 columns' scores. -/
def aC (aB : Fin 384 → ℝ) (aM : Fin 16 → ℝ) (c : Fin 512) : ℝ :=
  if h : c.val < 384 then aB ⟨c.val, h⟩ else if h2 : c.val < 496 then 0 else aM ⟨c.val - 496, by omega⟩

/-- Which of the 401 columns a row sees. -/
def okR (n r : ℕ) (c : Fin 401) : Prop := if c.val < 384 then okB n r c.val else if c.val < 400 then okM n r (c.val - 384) else True
instance (n r : ℕ) : DecidablePred (okR n r) := fun c => by unfold okR; infer_instance
/-- The 401 columns' scores. -/
def aR (aB : Fin 384 → ℝ) (aM : Fin 16 → ℝ) (bS : ℝ) (c : Fin 401) : ℝ :=
  if h : c.val < 384 then aB ⟨c.val, h⟩ else if h2 : c.val < 400 then aM ⟨c.val - 384, by omega⟩ else bS

section
variable (n r : ℕ) (aB : Fin 384 → ℝ) (aM : Fin 16 → ℝ) (bS : ℝ) (vB : Fin 384 → EReal) (vM : Fin 16 → EReal)

theorem wtC_B (j : Fin 384) (h : j.val < 512) : wt (okC n r ⟨j.val, h⟩) (aC aB aM ⟨j.val, h⟩) = wt (okB n r j.val) (aB j) := by
  simp only [wt, okC, aC, j.isLt, if_true, dif_pos, Fin.eta]
theorem wtC_G (y : Fin 112) (h : 384 + y.val < 512) : wt (okC n r ⟨384 + y.val, h⟩) (aC aB aM ⟨384 + y.val, h⟩) = 0 := by
  have := y.isLt
  simp only [wt, okC, show ¬ 384 + y.val < 384 by omega, show 384 + y.val < 496 by omega, if_true, if_false]
theorem wtC_M (x : Fin 16) (h : 496 + x.val < 512) : wt (okC n r ⟨496 + x.val, h⟩) (aC aB aM ⟨496 + x.val, h⟩) = wt (okM n r x.val) (aM x) := by
  have := x.isLt
  simp only [wt, okC, aC, show ¬ 496 + x.val < 384 by omega, show ¬ 496 + x.val < 496 by omega, if_false, dif_neg, not_false_eq_true,
    show 496 + x.val - 496 = x.val by omega, Fin.eta]

theorem wtR_B (j : Fin 384) (h : j.val < 401) : wt (okR n r ⟨j.val, h⟩) (aR aB aM bS ⟨j.val, h⟩) = wt (okB n r j.val) (aB j) := by
  simp only [wt, okR, aR, j.isLt, if_true, dif_pos, Fin.eta]
theorem wtR_M (x : Fin 16) (h : 384 + x.val < 401) : wt (okR n r ⟨384 + x.val, h⟩) (aR aB aM bS ⟨384 + x.val, h⟩) = wt (okM n r x.val) (aM x) := by
  have := x.isLt
  simp only [wt, okR, aR, show ¬ 384 + x.val < 384 by omega, show 384 + x.val < 400 by omega, if_true, if_false, dif_neg, dif_pos, not_false_eq_true,
    show 384 + x.val - 384 = x.val by omega, Fin.eta]
theorem wtR_S (h : 400 < 401) : wt (okR n r ⟨400, h⟩) (aR aB aM bS ⟨400, h⟩) = Real.exp bS := by
  simp [wt, okR, aR]

theorem rowDen_pos : 0 < rowDen n r aB aM bS :=
  add_pos_of_nonneg_of_pos (add_nonneg (Finset.sum_nonneg fun _ _ => wt_nonneg _ _) (Finset.sum_nonneg fun _ _ => wt_nonneg _ _)) (Real.exp_pos _)

/-- The kernel's row: 512 columns, powers of two, the weights' sum divided out at the end. -/
theorem kernel_rowVal (s v : Fin 512 → EReal) (sk : EReal)
    (hB : ∀ j : Fin 384, s ⟨j.val, by omega⟩ = if okB n r j.val then ((aB j / Real.log 2 : ℝ) : EReal) else ⊥)
    (hG : ∀ y : Fin 112, s ⟨384 + y.val, by omega⟩ = ⊥)
    (hM : ∀ x : Fin 16, s ⟨496 + x.val, by omega⟩ = if okM n r x.val then ((aM x / Real.log 2 : ℝ) : EReal) else ⊥)
    (hsk : sk = ((bS / Real.log 2 : ℝ) : EReal))
    (vB' : ∀ j : Fin 384, v ⟨j.val, by omega⟩ = vB j) (vM' : ∀ x : Fin 16, v ⟨496 + x.val, by omega⟩ = vM x) :
    Ideal.div (∑ c, Ideal.exp2 (s c - max (Finset.fold max ⊥ s Finset.univ) sk) * v c)
        ((∑ c, Ideal.exp2 (s c - max (Finset.fold max ⊥ s Finset.univ) sk))
          + Ideal.exp2 (sk - max (Finset.fold max ⊥ s Finset.univ) sk))
      = rowVal n r aB aM bS vB vM := by
  have hs : ∀ c, s c = if okC n r c then ((aC aB aM c / Real.log 2 : ℝ) : EReal) else ⊥ := by
    refine forall512 _ (fun j => ?_) (fun y => ?_) (fun x => ?_)
    · rw [hB]; simp only [okC, aC, j.isLt, if_true, dif_pos, Fin.eta]
    · have := y.isLt
      rw [hG]; simp only [okC, show ¬ 384 + y.val < 384 by omega, show 384 + y.val < 496 by omega, if_true, if_false]
    · have := x.isLt
      rw [hM]; simp only [okC, aC, show ¬ 496 + x.val < 384 by omega, show ¬ 496 + x.val < 496 by omega, if_false, dif_neg, not_false_eq_true,
        show 496 + x.val - 496 = x.val by omega, Fin.eta]
  rw [kernel_row (okC n r) (aC aB aM) bS v s sk hs hsk, sum512]
  have hd : den (okC n r) (aC aB aM) bS = rowDen n r aB aM bS := by
    unfold den rowDen
    rw [sum512]
    simp only [wtC_B, wtC_G, wtC_M, Finset.sum_const_zero, zero_add]
  rw [hd]
  simp only [wtC_B, wtC_G, wtC_M, vB', vM', EReal.coe_zero, zero_mul, Finset.sum_const_zero, zero_add]
  rfl

/-- The reference's row: 401 columns, exponentials, each weight normalised before it meets its value. -/
theorem ref_rowVal (t : Fin 401 → EReal) (vb : Fin 384 → EReal)
    (hB : ∀ j : Fin 384, t ⟨j.val, by omega⟩ = if okB n r j.val then (aB j : EReal) else ⊥)
    (hM : ∀ x : Fin 16, t ⟨384 + x.val, by omega⟩ = if okM n r x.val then (aM x : EReal) else ⊥)
    (hS : t ⟨400, by omega⟩ = (bS : EReal)) (hv : ∀ j : Fin 384, okB n r j.val → vb j = vB j)
    (p : Fin 401 → EReal)
    (hp : ∀ c, p c = Ideal.div (Ideal.exp (t c - max ⊥ (Finset.fold max ⊥ t Finset.univ))) (∑ c, Ideal.exp (t c - max ⊥ (Finset.fold max ⊥ t Finset.univ)))) :
    (∑ j : Fin 384, vb j * p ⟨j.val, by omega⟩) + (∑ x : Fin 16, p ⟨384 + x.val, by omega⟩ * vM x) = rowVal n r aB aM bS vB vM := by
  have ht : ∀ c, t c = if okR n r c then (aR aB aM bS c : EReal) else ⊥ := by
    refine forall401 _ (fun j => ?_) (fun x => ?_) ?_
    · rw [hB]; simp only [okR, aR, j.isLt, if_true, dif_pos, Fin.eta]
    · have := x.isLt
      rw [hM]; simp only [okR, aR, show ¬ 384 + x.val < 384 by omega, show 384 + x.val < 400 by omega, if_true, if_false, dif_neg, dif_pos, not_false_eq_true,
        show 384 + x.val - 384 = x.val by omega, Fin.eta]
    · rw [hS]; simp [okR, aR]
  have hd : (∑ c, wt (okR n r c) (aR aB aM bS c)) = rowDen n r aB aM bS := by
    unfold rowDen
    rw [sum401]
    simp only [wtR_B, wtR_M, wtR_S]
  have hq : ∀ c, p c = ((wt (okR n r c) (aR aB aM bS c) * (1 / rowDen n r aB aM bS) : ℝ) : EReal) := fun c => by
    rw [hp c, ref_weight (okR n r) (aR aB aM bS) t ht ⟨⟨400, by omega⟩, by simp [okR]⟩ c, hd]
  have hk : 0 ≤ 1 / rowDen n r aB aM bS := (one_div_pos.2 (rowDen_pos n r aB aM bS)).le
  simp only [hq, wtR_B, wtR_M]
  unfold rowVal
  rw [mul_comm _ ((1 / rowDen n r aB aM bS : ℝ) : EReal),
    EReal.left_distrib_of_nonneg_of_ne_top (EReal.coe_nonneg.2 hk) (EReal.coe_ne_top _), mul_sum_coe _ _ hk, mul_sum_coe _ _ hk]
  refine congrArg₂ (· + ·) (Finset.sum_congr rfl fun j _ => ?_) (Finset.sum_congr rfl fun x _ => ?_)
  · by_cases ho : okB n r j.val
    · rw [hv j ho, mul_comm (vB j), mul_comm (wt _ _), EReal.coe_mul, mul_assoc]
    · rw [show wt (okB n r j.val) (aB j) = 0 from if_neg ho]; simp
  · rw [mul_comm (wt _ _), EReal.coe_mul, mul_assoc]

end

end Cert.AttnRow

end
-- ==== Proof.AttnRef.lean ====
module

public import proofs.«01_k».proof.Proof.Gen.ReferenceIdeal.Run
public import proofs.«01_k».proof.Proof.SoftMath
public import Idealize.ShloMosaic.Lib.Pointwise

/-! # The attention's reference, stage by stage, read at an index -/

@[expose] public section

set_option maxRecDepth 16384

noncomputable section

namespace Cert.ReferenceIdeal.AttnRef

open Cert.ReferenceIdeal Cert.ReferenceIdeal.Gen
open Idealize.ShloMosaic Idealize.ShloMosaic.TcCoe Idealize.SL.Sem

/-- Each block's rows between those of the block before and the block after. -/
def band (x : FVec Ideal S4x2x4224x128 .f32) : FVec Ideal S4x2x33x384x128 .f32 :=
  concatenate S4x2x33x384x128 3
    [⟨S4x2x33x128x128, concatenate S4x2x33x128x128 2
        [⟨S4x2x1x128x128, broadcastInDim S4x2x1x128x128 ![] bcast_S_S4x2x1x128x128 (constant S_ .f32 0x00000000#32)⟩,
         ⟨S4x2x32x128x128, extractStridedSlice S4x2x32x128x128 ![0, 0, 0, 0, 0] (shapeCast _ x shapeCasts_S4x2x4224x128_S4x2x33x128x128) slices_S4x2x33x128x128_S4x2x32x128x128_0_0_0_0_0⟩]
        concatenates_S4x2x1x128x128_S4x2x32x128x128_S4x2x33x128x128_d2⟩,
     ⟨S4x2x33x128x128, shapeCast _ x shapeCasts_S4x2x4224x128_S4x2x33x128x128⟩,
     ⟨S4x2x33x128x128, concatenate S4x2x33x128x128 2
        [⟨S4x2x32x128x128, extractStridedSlice S4x2x32x128x128 ![0, 0, 1, 0, 0] (shapeCast _ x shapeCasts_S4x2x4224x128_S4x2x33x128x128) slices_S4x2x33x128x128_S4x2x32x128x128_0_0_1_0_0⟩,
         ⟨S4x2x1x128x128, broadcastInDim S4x2x1x128x128 ![] bcast_S_S4x2x1x128x128 (constant S_ .f32 0x00000000#32)⟩]
        concatenates_S4x2x32x128x128_S4x2x1x128x128_S4x2x33x128x128_d2⟩]
    concatenates_S4x2x33x128x128_S4x2x33x128x128_S4x2x33x128x128_S4x2x33x384x128_d3

/-- The sixteen rows every query sees. -/
def meta16 (x : FVec Ideal S4x2x4224x128 .f32) : FVec Ideal S4x2x16x128 .f32 :=
  extractStridedSlice S4x2x16x128 ![0, 0, 112, 0] x slices_S4x2x4224x128_S4x2x16x128_0_0_112_0

/-- The queries' positions. -/
def posQ : IVec S33x128 32 :=
  addi (broadcastInDim S33x128 ![0, 1] bcast_S33x1_S33x128_0_1 (muli (broadcastInDim S33x1 ![0] bcast_S33_S33x1_0 (iotaInDim S33 32 0)) (broadcastInDim S33x1 ![] bcast_S_S33x1 (constantI S_ 32 128#32))))
    (broadcastInDim S33x128 ![0, 1] bcast_S1x128_S33x128_0_1 (broadcastInDim S1x128 ![1] bcast_S128_S1x128_1 (iotaInDim S128 32 0)))

/-- The band's positions. -/
def posK : IVec S33x384 32 :=
  addi (broadcastInDim S33x384 ![0, 1] bcast_S33x1_S33x384_0_1 (muli (subi (broadcastInDim S33x1 ![0] bcast_S33_S33x1_0 (iotaInDim S33 32 0)) (broadcastInDim S33x1 ![] bcast_S_S33x1 (constantI S_ 32 1#32))) (broadcastInDim S33x1 ![] bcast_S_S33x1 (constantI S_ 32 128#32))))
    (broadcastInDim S33x384 ![0, 1] bcast_S1x384_S33x384_0_1 (broadcastInDim S1x384 ![1] bcast_S384_S1x384_1 (iotaInDim S384 32 0)))

/-- Which band columns a query sees. -/
def bandOk : IVec S33x128x384 1 :=
  andi (andi (cmpi .sle (absi (subi
          (broadcastInDim S33x128x384 ![0, 1, 2] bcast_S33x128x1_S33x128x384_0_1_2 (broadcastInDim S33x128x1 ![0, 1] bcast_S33x128_S33x128x1_0_1 posQ))
          (broadcastInDim S33x128x384 ![0, 1, 2] bcast_S33x1x384_S33x128x384_0_1_2 (broadcastInDim S33x1x384 ![0, 2] bcast_S33x384_S33x1x384_0_2 posK))))
        (broadcastInDim S33x128x384 ![] bcast_S_S33x128x384 (constantI S_ 32 128#32)))
      (broadcastInDim S33x128x384 ![0, 1, 2] bcast_S33x1x384_S33x128x384_0_1_2 (cmpi .sge (broadcastInDim S33x1x384 ![0, 2] bcast_S33x384_S33x1x384_0_2 posK) (broadcastInDim S33x1x384 ![] bcast_S_S33x1x384 (constantI S_ 32 112#32)))))
    (broadcastInDim S33x128x384 ![0, 1, 2] bcast_S33x1x384_S33x128x384_0_1_2 (cmpi .slt (broadcastInDim S33x1x384 ![0, 2] bcast_S33x384_S33x1x384_0_2 posK) (broadcastInDim S33x1x384 ![] bcast_S_S33x1x384 (constantI S_ 32 4224#32))))

/-- Which of the sixteen rows a query sees apart from its band. -/
def metaOk : IVec S33x128x16 1 :=
  cmpi .sgt (absi (subi
      (broadcastInDim S33x128x16 ![0, 1, 2] bcast_S33x128x1_S33x128x16_0_1_2 (broadcastInDim S33x128x1 ![0, 1] bcast_S33x128_S33x128x1_0_1 posQ))
      (broadcastInDim S33x128x16 ![0, 1, 2] bcast_S1x1x16_S33x128x16_0_1_2 (broadcastInDim S1x1x16 ![2] bcast_S16_S1x1x16_2 (addi (broadcastInDim S16 ![] bcast_S_S16 (constantI S_ 32 112#32)) (iotaInDim S16 32 0))))))
    (broadcastInDim S33x128x16 ![] bcast_S_S33x128x16 (constantI S_ 32 128#32))

/-- One over the root of the head's width. -/
def scl : FVec Ideal S_ .f32 := Host.divf (constant S_ .f32 0x3F800000#32) (Host.sqrt (constant S_ .f32 0x43000000#32))

/-- The queries by block. -/
def qBlk (q : FVec Ideal S4x8x4224x128 .f32) : FVec Ideal S4x2x4x33x128x128 .f32 :=
  shapeCast _ q shapeCasts_S4x8x4224x128_S4x2x4x33x128x128

/-- The scores against the band. -/
def sBand (q : FVec Ideal S4x8x4224x128 .f32) (k : FVec Ideal S4x2x4224x128 .f32) : FVec Ideal S4x2x4x33x128x384 .f32 :=
  mulf (transpose S4x2x4x33x128x384 [0, 1, 4, 2, 5, 3] (Host.dotGeneral dot_S4x2x33x384x128_S4x2x4x33x128x128_S4x2x33x384x4x128_4_5_3_24_012_013 none (band k) (qBlk q)) transposes_S4x2x33x384x4x128_S4x2x4x33x128x384_0_1_4_2_5_3)
    (broadcastInDim S4x2x4x33x128x384 ![] bcast_S_S4x2x4x33x128x384 scl)

/-- The scores against the sixteen rows. -/
def sMeta (q : FVec Ideal S4x8x4224x128 .f32) (k : FVec Ideal S4x2x4224x128 .f32) : FVec Ideal S4x2x4x33x128x16 .f32 :=
  mulf (Host.dotGeneral dot_S4x2x4x33x128x128_S4x2x16x128_S4x2x4x33x128x16_5_3_234_2_01_01 none (qBlk q) (meta16 k))
    (broadcastInDim S4x2x4x33x128x16 ![] bcast_S_S4x2x4x33x128x16 scl)

/-- The sinks, one a row. -/
def sSink (w : FVec Ideal S8 .f32) : FVec Ideal S4x2x4x33x128x1 .f32 :=
  broadcastInDim S4x2x4x33x128x1 ![0, 1, 2, 3, 4, 5] bcast_S1x2x4x1x1x1_S4x2x4x33x128x1_0_1_2_3_4_5 (broadcastInDim S1x2x4x1x1x1 ![1, 2] bcast_S2x4_S1x2x4x1x1x1_1_2 (shapeCast _ w shapeCasts_S8_S2x4))

/-- Every score of a row, the masked ones at minus infinity. -/
def sAll (q : FVec Ideal S4x8x4224x128 .f32) (k : FVec Ideal S4x2x4224x128 .f32) (w : FVec Ideal S8 .f32) : FVec Ideal S4x2x4x33x128x401 .f32 :=
  concatenate S4x2x4x33x128x401 5
    [⟨S4x2x4x33x128x384, select (broadcastInDim S4x2x4x33x128x384 ![3, 4, 5] bcast_S33x128x384_S4x2x4x33x128x384_3_4_5 bandOk) (sBand q k)
        (broadcastInDim S4x2x4x33x128x384 ![] bcast_S_S4x2x4x33x128x384 (constant S_ .f32 0xFF800000#32))⟩,
     ⟨S4x2x4x33x128x16, select (broadcastInDim S4x2x4x33x128x16 ![3, 4, 5] bcast_S33x128x16_S4x2x4x33x128x16_3_4_5 metaOk) (sMeta q k)
        (broadcastInDim S4x2x4x33x128x16 ![] bcast_S_S4x2x4x33x128x16 (constant S_ .f32 0xFF800000#32))⟩,
     ⟨S4x2x4x33x128x1, sSink w⟩]
    concatenates_S4x2x4x33x128x384_S4x2x4x33x128x16_S4x2x4x33x128x1_S4x2x4x33x128x401_d5

/-- The rows' greatest scores. -/
def rowMax (s : FVec Ideal S4x2x4x33x128x401 .f32) : FVec Ideal S4x2x4x33x128 .f32 :=
  Host.reduce FloatOps.maximumf s (constant S_ .f32 0xFF800000#32) reducesTo_S4x2x4x33x128x401_S4x2x4x33x128_d5 h_S_

/-- The rows' sums. -/
def rowSum (s : FVec Ideal S4x2x4x33x128x401 .f32) : FVec Ideal S4x2x4x33x128 .f32 :=
  Host.reduceAdd s (constant S_ .f32 0x00000000#32) reducesTo_S4x2x4x33x128x401_S4x2x4x33x128_d5 h_S_

/-- The exponentials, the row's maximum taken off. -/
def expo (s : FVec Ideal S4x2x4x33x128x401 .f32) : FVec Ideal S4x2x4x33x128x401 .f32 :=
  Host.exp (subf s (broadcastInDim S4x2x4x33x128x401 ![0, 1, 2, 3, 4, 5] bcast_S4x2x4x33x128x1_S4x2x4x33x128x401_0_1_2_3_4_5
    (broadcastInDim S4x2x4x33x128x1 ![0, 1, 2, 3, 4] bcast_S4x2x4x33x128_S4x2x4x33x128x1_0_1_2_3_4
      (maximumf (broadcastInDim S4x2x4x33x128 ![] bcast_S_S4x2x4x33x128 (constant S_ .f32 0xFF800000#32))
        (rowMax s)))))

/-- The normalised weights. -/
def probs (s : FVec Ideal S4x2x4x33x128x401 .f32) : FVec Ideal S4x2x4x33x128x401 .f32 :=
  Host.divf (expo s) (broadcastInDim S4x2x4x33x128x401 ![0, 1, 2, 3, 4, 5] bcast_S4x2x4x33x128x1_S4x2x4x33x128x401_0_1_2_3_4_5
    (broadcastInDim S4x2x4x33x128x1 ![0, 1, 2, 3, 4] bcast_S4x2x4x33x128_S4x2x4x33x128x1_0_1_2_3_4
      (rowSum (expo s))))

/-- The weighted values. -/
def mix (p : FVec Ideal S4x2x4x33x128x401 .f32) (v : FVec Ideal S4x2x4224x128 .f32) : FVec Ideal S4x2x4x33x128x128 .f32 :=
  addf (transpose S4x2x4x33x128x128 [0, 1, 4, 2, 5, 3] (Host.dotGeneral dot_S4x2x33x384x128_S4x2x4x33x128x384_S4x2x33x128x4x128_3_5_4_24_012_013 none (band v)
        (extractStridedSlice S4x2x4x33x128x384 ![0, 0, 0, 0, 0, 0] p slices_S4x2x4x33x128x401_S4x2x4x33x128x384_0_0_0_0_0_0)) transposes_S4x2x33x128x4x128_S4x2x4x33x128x128_0_1_4_2_5_3)
    (Host.dotGeneral dot_S4x2x4x33x128x16_S4x2x16x128_S4x2x4x33x128x128_5_2_234_3_01_01 none
      (extractStridedSlice S4x2x4x33x128x16 ![0, 0, 0, 0, 0, 384] p slices_S4x2x4x33x128x401_S4x2x4x33x128x16_0_0_0_0_0_384) (meta16 v))

/-- The result, its rows laid out head by head. -/
def lay (o : FVec Ideal S4x2x4x33x128x128 .f32) : FVec Ideal S8x16896x128 .bf16 :=
  truncf .bf16 (shapeCast _ (transpose S8x4x4224x128 [1, 0, 2, 3] (shapeCast _ o shapeCasts_S4x2x4x33x128x128_S4x8x4224x128) transposes_S4x8x4224x128_S8x4x4224x128_1_0_2_3) shapeCasts_S8x4x4224x128_S8x16896x128) bitsLt_bf16_f32

/-- The reference's result. -/
def out (q : FVec Ideal S4x8x4224x128 .f32) (k v : FVec Ideal S4x2x4224x128 .f32) (w : FVec Ideal S8 .f32) : FVec Ideal S8x16896x128 .bf16 :=
  lay (mix (probs (sAll q k w)) v)

/-- It is what the reference's run leaves. -/
theorem res_eq (m : (ℓ : Loc nD τ sig) → Buf (Elt Ideal) ℓ) (c : Dev nD) :
    Value.res_main_v103 (F := Ideal) m c = out (m ((c.tc : Thread nD τ).loc main_arg0)) (m ((c.tc : Thread nD τ).loc main_arg1))
      (m ((c.tc : Thread nD τ).loc main_arg2)) (m ((c.tc : Thread nD τ).loc main_arg3)) := by
  rfl

end Cert.ReferenceIdeal.AttnRef

end
-- ==== Proof.AttnRefRead.lean ====
module

public import proofs.«01_k».proof.Proof.AttnRef
public import proofs.«01_k».proof.Proof.Words
public import proofs.«01_k».proof.Proof.AttnRow
public import Idealize.ShloMosaic.Lib.IdealHost

/-! # The attention's reference, read at an index -/

@[expose] public section

set_option maxRecDepth 16384

noncomputable section

namespace Cert.ReferenceIdeal.AttnRef

open Cert.ReferenceIdeal Cert.ReferenceIdeal.Gen
open Idealize.ShloMosaic Idealize.ShloMosaic.TcCoe Idealize.SL.Sem
open Cert.SoftMath Cert.Words
open Cert.AttnRow (okB okM)

/-- The row of the band's column `j`, the first and the last block standing in for the blocks there are not. -/
def krow (n : Fin 33) (j : Fin 384) : Fin 4224 :=
  ⟨if j.val < 128 then 128 * (n.val - 1) + j.val else if j.val < 256 then 128 * n.val + (j.val - 128)
    else 128 * min (n.val + 1) 32 + (j.val - 256), by
    have := n.isLt; have := j.isLt; split_ifs <;> omega⟩

theorem band_at (x : FVec Ideal S4x2x4224x128 .f32) (b : Fin 4) (h : Fin 2) (n : Fin 33) (r : Fin 128) (j : Fin 384) (d : Fin 128)
    (ok : okB n.val r.val j.val) : band x (ix5 b h n j d) = x (ix4 b h (krow n j) d) := by
  have := n.isLt; have := j.isLt; have := r.isLt
  obtain ⟨o1, o2, o3, o4⟩ := ok
  pointwise [band]
  split_ifs <;> first
  | (exfalso; omega)
  | exact absurd rfl ‹_›
  | (refine congrArg x (congrArg (fun t => ix4 b h t d) (Fin.ext ?_))
     simp only [krow]; split_ifs <;> omega)

theorem qBlk_at (q : FVec Ideal S4x8x4224x128 .f32) (b : Fin 4) (h : Fin 2) (g : Fin 4) (n : Fin 33) (r d : Fin 128) :
    qBlk q (ix6 b h g n r d) = q (ix4 b ⟨4 * h.val + g.val, by omega⟩ ⟨128 * n.val + r.val, by omega⟩ d) := by
  pointwise [qBlk]
  congr 2 <;> (apply Fin.ext; simp only []; omega)

theorem scl_val : Ideal.div 1 (Ideal.sqrt (Ideal.ofBits FTy.f32 1124073472#32)) = (((Real.sqrt 128)⁻¹ : ℝ) : EReal) := by
  rw [show Ideal.ofBits FTy.f32 1124073472#32 = ((128 : ℝ) : EReal) from width, Ideal.sqrt_coe,
    if_neg (by norm_num), Ideal.div_coe (by positivity), one_mul, one_div]

theorem sBand_at (q : FVec Ideal S4x8x4224x128 .f32) (k : FVec Ideal S4x2x4224x128 .f32) (b : Fin 4) (h : Fin 2) (g : Fin 4) (n : Fin 33) (r : Fin 128) (j : Fin 384) :
    sBand q k (ix6 b h g n r j) = (∑ x, band k (ix5 b h n j x) * qBlk q (ix6 b h g n r x)) * (((Real.sqrt 128)⁻¹ : ℝ) : EReal) := by
  pointwise [sBand, scl]
  rw [scl_val]

theorem sMeta_at (q : FVec Ideal S4x8x4224x128 .f32) (k : FVec Ideal S4x2x4224x128 .f32) (b : Fin 4) (h : Fin 2) (g : Fin 4) (n : Fin 33) (r : Fin 128) (j : Fin 16) :
    sMeta q k (ix6 b h g n r j) = (∑ x, qBlk q (ix6 b h g n r x) * k (ix4 b h ⟨112 + j.val, by omega⟩ x)) * (((Real.sqrt 128)⁻¹ : ℝ) : EReal) := by
  pointwise [sMeta, scl, meta16]
  rw [scl_val]

theorem bandOk_at (n : Fin 33) (r : Fin 128) (j : Fin 384) :
    bandOk (ix3 n r j) = bit (okB n.val r.val j.val) := by
  have := n.isLt; have := j.isLt; have := r.isLt
  pointwise [bandOk, posQ, posK]
  rw [show (128#32) = W 128 from rfl, show (1#32) = W 1 from rfl, show (112#32) = W 112 from rfl, show (4224#32) = W 4224 from rfl]
  simp only [ofNat_eq, addi_W, subi_W, muli_W]
  rw [sle_abs _ _ (by omega) (by omega), sge_W _ _ (by omega) (by omega), slt_W _ _ (by omega) (by omega), andi_bit, andi_bit]
  refine bit_congr _ _ ?_
  omega

theorem metaOk_at (n : Fin 33) (r : Fin 128) (j : Fin 16) :
    metaOk (ix3 n r j) = bit (okM n.val r.val j.val) := by
  have := n.isLt; have := j.isLt; have := r.isLt
  pointwise [metaOk, posQ]
  rw [show (128#32) = W 128 from rfl, show (112#32) = W 112 from rfl]
  simp only [ofNat_eq, addi_W, subi_W, muli_W]
  rw [sgt_abs _ _ (by omega) (by omega)]
  refine bit_congr _ _ ?_
  omega

theorem sAll_at (q : FVec Ideal S4x8x4224x128 .f32) (k : FVec Ideal S4x2x4224x128 .f32) (w : FVec Ideal S8 .f32) (b : Fin 4) (h : Fin 2) (g : Fin 4) (n : Fin 33) (r : Fin 128) (j : Fin 401) :
    sAll q k w (ix6 b h g n r j) = if h1 : j.val < 384 then
      (if okB n.val r.val j.val then sBand q k (ix6 b h g n r ⟨j.val, h1⟩) else ⊥)
      else if h2 : j.val - 384 < 16 then
        (if okM n.val r.val (j.val - 384) then sMeta q k (ix6 b h g n r ⟨j.val - 384, h2⟩) else ⊥)
      else w (ix1 ⟨4 * h.val + g.val, by omega⟩) := by
  pointwise [sAll, sSink]
  simp only [bandOk_at, metaOk_at, select_bit, show Ideal.ofBits FTy.f32 4286578688#32 = ⊥ from ninf]
  have e : ∀ h', (⟨h.val * 4 + g.val, h'⟩ : Fin 8) = ⟨4 * h.val + g.val, by omega⟩ := fun h' => Fin.ext (by show h.val * 4 + g.val = 4 * h.val + g.val; omega)
  simp only [e]

theorem rowMax_at (s : FVec Ideal S4x2x4x33x128x401 .f32) (b : Fin 4) (h : Fin 2) (g : Fin 4) (n : Fin 33) (r : Fin 128) :
    rowMax s (ix5 b h g n r)
      = Finset.fold max ⊥ (fun j : Fin 401 => s (ix6 b h g n r j)) Finset.univ := by
  unfold rowMax
  rw [Host.reduce_eq_fold_single (s := S4x2x4x33x128x401) (a := 5) _ _ _ _ (by decide)]
  rw [show constant (F := Ideal) S_ .f32 0xFF800000#32 (Shape.Idx.first h_S_) = ⊥ from ninf]
  refine congrArg (fun f => Finset.fold max ⊥ f (Finset.univ : Finset (Fin 401))) ?_
  funext j
  exact congrArg s (funext fun a => by fin_cases a <;> rfl)

theorem rowSum_at (s : FVec Ideal S4x2x4x33x128x401 .f32) (b : Fin 4) (h : Fin 2) (g : Fin 4) (n : Fin 33) (r : Fin 128) :
    rowSum s (ix5 b h g n r)
      = ∑ j : Fin 401, s (ix6 b h g n r j) := by
  unfold rowSum
  rw [ValueIdx.hostReduceAdd_apply, Ideal.hostReduceAdd_single (s := S4x2x4x33x128x401) (a := 5) _ (by decide)]
  rw [show constant (F := Ideal) S_ .f32 0x00000000#32 (Shape.Idx.first h_S_) = 0 from Ideal.ofBits_zero_f32, zero_add]
  refine Finset.sum_congr rfl fun j _ => ?_
  exact congrArg s (funext fun a => by fin_cases a <;> rfl)

theorem expo_aux (s : FVec Ideal S4x2x4x33x128x401 .f32) (y : FVec Ideal S4x2x4x33x128 .f32) (b : Fin 4) (h : Fin 2) (g : Fin 4) (n : Fin 33) (r : Fin 128) (j : Fin 401) :
    Host.exp (subf s (broadcastInDim S4x2x4x33x128x401 ![0, 1, 2, 3, 4, 5] bcast_S4x2x4x33x128x1_S4x2x4x33x128x401_0_1_2_3_4_5
    (broadcastInDim S4x2x4x33x128x1 ![0, 1, 2, 3, 4] bcast_S4x2x4x33x128_S4x2x4x33x128x1_0_1_2_3_4
      (maximumf (broadcastInDim S4x2x4x33x128 ![] bcast_S_S4x2x4x33x128 (constant S_ .f32 0xFF800000#32)) y)))) (ix6 b h g n r j)
      = Ideal.exp (s (ix6 b h g n r j) - max (Ideal.ofBits .f32 0xFF800000#32) (y (ix5 b h g n r))) := by
  pointwise

theorem expo_at (s : FVec Ideal S4x2x4x33x128x401 .f32) (b : Fin 4) (h : Fin 2) (g : Fin 4) (n : Fin 33) (r : Fin 128) (j : Fin 401) :
    expo s (ix6 b h g n r j) = Ideal.exp (s (ix6 b h g n r j) - max ⊥ (Finset.fold max ⊥ (fun j : Fin 401 => s (ix6 b h g n r j)) Finset.univ)) :=
  (expo_aux s (rowMax s) b h g n r j).trans (by rw [rowMax_at s b h g n r, ninf])

theorem probs_aux (s : FVec Ideal S4x2x4x33x128x401 .f32) (y : FVec Ideal S4x2x4x33x128 .f32) (b : Fin 4) (h : Fin 2) (g : Fin 4) (n : Fin 33) (r : Fin 128) (j : Fin 401) :
    Host.divf s (broadcastInDim S4x2x4x33x128x401 ![0, 1, 2, 3, 4, 5] bcast_S4x2x4x33x128x1_S4x2x4x33x128x401_0_1_2_3_4_5
      (broadcastInDim S4x2x4x33x128x1 ![0, 1, 2, 3, 4] bcast_S4x2x4x33x128_S4x2x4x33x128x1_0_1_2_3_4 y)) (ix6 b h g n r j)
      = Ideal.div (s (ix6 b h g n r j)) (y (ix5 b h g n r)) := by
  pointwise

theorem probs_at (s : FVec Ideal S4x2x4x33x128x401 .f32) (b : Fin 4) (h : Fin 2) (g : Fin 4) (n : Fin 33) (r : Fin 128) (j : Fin 401) :
    probs s (ix6 b h g n r j) = Ideal.div (expo s (ix6 b h g n r j)) (∑ j : Fin 401, expo s (ix6 b h g n r j)) :=
  (probs_aux (expo s) (rowSum (expo s)) b h g n r j).trans (by rw [rowSum_at (expo s) b h g n r])

theorem mix_at (p : FVec Ideal S4x2x4x33x128x401 .f32) (v : FVec Ideal S4x2x4224x128 .f32) (b : Fin 4) (h : Fin 2) (g : Fin 4) (n : Fin 33) (r d : Fin 128) :
    mix p v (ix6 b h g n r d) = (∑ x : Fin 384, band v (ix5 b h n x d) * p (ix6 b h g n r ⟨x.val, by omega⟩)) +
      ∑ x : Fin 16, p (ix6 b h g n r ⟨384 + x.val, by omega⟩) * v (ix4 b h ⟨112 + x.val, by omega⟩ d) := by
  pointwise [mix, meta16]

theorem lay_at (o : FVec Ideal S4x2x4x33x128x128 .f32) (h : Fin 8) (t : Fin 16896) (d : Fin 128) :
    lay o (ix3 h t d) = o (ix6 ⟨t.val / 4224, by omega⟩ ⟨h.val / 4, by omega⟩ ⟨h.val % 4, by omega⟩ ⟨t.val % 4224 / 128, by omega⟩ ⟨t.val % 128, by omega⟩ d) := by
  pointwise [lay]
  refine congrArg o (congrArg (fun x => ix6 _ _ _ _ x d) (Fin.ext ?_))
  simp only []; omega

end Cert.ReferenceIdeal.AttnRef

end
-- ==== Proof.AttnBlock.lean ====
module

public import proofs.«01_k».proof.Proof.AttnSink
public import proofs.«01_k».proof.Proof.AttnRow
public import proofs.«01_k».proof.Proof.AttnRefRead

/-! # What a block of the attention computes, row by row

Each of the 33 blocks takes the products of its queries with four blocks of keys and masks them. Whichever
way the mask is added, a row's scores are its products where it sees the column and minus infinity elsewhere;
so its result is the row's value. -/

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.Words
open Cert.AttnRow (okB okM rowVal)
open Cert.ReferenceIdeal.AttnRef (krow)

/-- The key row a column of a block stands for. -/
def kcol (n : Fin 33) (c : Fin 512) : Fin 4224 :=
  ⟨if c.val < 128 then 128 * (n.val - 1) + c.val else if c.val < 256 then 128 * n.val + (c.val - 128)
    else if c.val < 384 then 128 * min (n.val + 1) 32 + (c.val - 256) else c.val - 384, by
    have := n.isLt; have := c.isLt; split_ifs <;> omega⟩

section

variable (arg3 : Memref sig .tc .vmem S4x4224x128 .bf16) (harg3 : arg3.IsWhole)
  (arg4 : Memref sig .tc .vmem S1x4224x128 .bf16) (harg4 : arg4.IsWhole)
  (arg5 : Memref sig .tc .vmem S1x4224x128 .bf16) (harg5 : arg5.IsWhole)
  (x1 : Vec Ideal S4x4224x128 .bf16) (x2 x3 : Vec Ideal S1x4224x128 .bf16)

/-- A loaded query row. -/
theorem ldQ_at (g : Fin 4) (n : Fin 33) (z : Fin 1) (r d : Fin 128) :
    ldQ arg3 harg3 x1 g n (ix3 z r d) = x1 (ix3 g ⟨128 * n.val + r.val, by omega⟩ d) := by
  have := z.isLt
  unfold ldQ
  refine (harg3.readAt_unread x1 _ _).trans (congrArg x1 ?_)
  funext a
  fin_cases a
  · refine Fin.ext ?_; show g.val + 1 * z.val = g.val; omega
  · refine Fin.ext ?_; show 128 * n.val + 1 * r.val = 128 * n.val + r.val; omega
  · refine Fin.ext ?_; show 0 + 1 * d.val = d.val; omega

/-- A loaded key row. -/
theorem ldK_at (n : Fin 33) (z : Fin 1) (r d : Fin 128) :
    ldK arg4 harg4 x2 n (ix3 z r d) = x2 (ix3 0 ⟨128 * n.val + r.val, by omega⟩ d) := by
  have := z.isLt
  unfold ldK
  refine (harg4.readAt_unread x2 _ _).trans (congrArg x2 ?_)
  funext a
  fin_cases a
  · refine Fin.ext ?_; show 0 + 1 * z.val = 0; omega
  · refine Fin.ext ?_; show 128 * n.val + 1 * r.val = 128 * n.val + r.val; omega
  · refine Fin.ext ?_; show 0 + 1 * d.val = d.val; omega

/-- A slab of four key blocks, at a column. -/
theorem catK_at (n : Fin 33) (c : Fin 512) (d : Fin 128) :
    cat4 (ldK arg4 harg4 x2 (prevB n)) (ldK arg4 harg4 x2 n) (ldK arg4 harg4 x2 (nextB n)) (ldK arg4 harg4 x2 0) (ix2 c d)
      = x2 (ix3 0 (kcol n c) d) := by
  have := c.isLt; have := n.isLt
  refine (cat4_at _ _ _ _ c d).trans ?_
  have key : ∀ (m : Fin 33) (hm : 128 * m.val + c.val % 128 = (kcol n c).val),
      ldK arg4 harg4 x2 m (ix3 0 ⟨c.val % 128, by omega⟩ d) = x2 (ix3 0 (kcol n c) d) := fun m hm =>
    (ldK_at arg4 harg4 x2 m 0 ⟨c.val % 128, by omega⟩ d).trans (congrArg (fun t => x2 (ix3 0 t d)) (Fin.ext hm))
  have hc : c.val / 128 = 0 ∨ c.val / 128 = 1 ∨ c.val / 128 = 2 ∨ c.val / 128 = 3 := by omega
  rcases hc with h | h | h | h
  · rw [show (⟨c.val / 128, by omega⟩ : Fin 4) = 0 from Fin.ext h]
    exact key (prevB n) (by simp only [kcol, prevB]; split_ifs <;> omega)
  · rw [show (⟨c.val / 128, by omega⟩ : Fin 4) = 1 from Fin.ext h]
    exact key n (by simp only [kcol]; split_ifs <;> omega)
  · rw [show (⟨c.val / 128, by omega⟩ : Fin 4) = 2 from Fin.ext h]
    exact key (nextB n) (by simp only [kcol, nextB]; split_ifs <;> omega)
  · rw [show (⟨c.val / 128, by omega⟩ : Fin 4) = 3 from Fin.ext h]
    exact key 0 (by simp only [kcol]; split_ifs <;> first | omega | (show 128 * 0 + _ = _; omega))

/-- Four heads' query rows, at a row. -/
theorem catQ_at (n : Fin 33) (g : Fin 4) (r d : Fin 128) :
    cat4 (ldQ arg3 harg3 x1 0 n) (ldQ arg3 harg3 x1 1 n) (ldQ arg3 harg3 x1 2 n) (ldQ arg3 harg3 x1 3 n)
        (ix2 ⟨128 * g.val + r.val, by omega⟩ d)
      = x1 (ix3 g ⟨128 * n.val + r.val, by omega⟩ d) := by
  have := r.isLt; have := g.isLt
  refine (cat4_at _ _ _ _ _ d).trans ?_
  rw [show (⟨(128 * g.val + r.val) / 128, by omega⟩ : Fin 4) = g from Fin.ext (by show (128 * g.val + r.val) / 128 = g.val; omega),
    show (⟨(128 * g.val + r.val) % 128, by omega⟩ : Fin 128) = r from Fin.ext (by show (128 * g.val + r.val) % 128 = r.val; omega)]
  refine Eq.trans ?_ (ldQ_at arg3 harg3 x1 g n 0 r d)
  fin_cases g <;> rfl

/-- A block's products, at a row and column. -/
theorem blkProds_at (n : Fin 33) (g : Fin 4) (r : Fin 128) (c : Fin 512) :
    blkProds arg3 harg3 arg4 harg4 x1 x2 n (ix2 ⟨128 * g.val + r.val, by omega⟩ c)
      = ∑ d : Fin 128, x1 (ix3 g ⟨128 * n.val + r.val, by omega⟩ d) * x2 (ix3 0 (kcol n c) d) := by
  refine (prods_at _ _ _ c).trans (Finset.sum_congr rfl fun d _ => ?_)
  exact congrArg₂ (fun a b : EReal => a * b) (catQ_at arg3 harg3 x1 n g r d) (catK_at arg4 harg4 x2 n c d)

/-- A block's scores: the products where the row sees the column, minus infinity elsewhere. -/
def Masked (s : FVec Ideal S512x512 .f32) (p : FVec Ideal S512x512 .f32) (n : Fin 33) : Prop :=
  ∀ (g : Fin 4) (r : Fin 128) (c : Fin 512), s (ix2 ⟨128 * g.val + r.val, by omega⟩ c)
    = if okC n.val r.val c.val then p (ix2 ⟨128 * g.val + r.val, by omega⟩ c) else (⊥ : EReal)

/-- The mask, at one of the four heads' rows. -/
theorem bias4_mask (a b : BitVec 32) (n : ℕ) (hn : n < 33) (ha : a = W (128 * n)) (hb : b = W (128 * n - 128))
    (g : Fin 4) (r : Fin 128) (c : Fin 512) :
    bias4 (maskBias (F := Ideal) a b) (ix2 ⟨128 * g.val + r.val, by omega⟩ c) = if okC n r.val c.val then 0 else (⊥ : EReal) := by
  refine (bias4_at _ _ c).trans ?_
  rw [show (⟨(128 * g.val + r.val) % 128, by omega⟩ : Fin 128) = r from Fin.ext (by show (128 * g.val + r.val) % 128 = r.val; omega)]
  exact mask_at a b n hn ha hb r c

/-- Adding a mask keeps a score or makes it minus infinity. -/
theorem add_mask (s : EReal) (P : Prop) [Decidable P] : s + (if P then 0 else (⊥ : EReal)) = if P then s else ⊥ := by
  split_ifs
  · exact add_zero s
  · exact EReal.add_bot s

/-- An edge block's scores are masked. -/
theorem edge_masked (p : FVec Ideal S512x512 .f32) (a b : BitVec 32) (n : Fin 33) (ha : a = W (128 * n.val)) (hb : b = W (128 * n.val - 128)) :
    Masked (edgeScores p (maskBias a b)) p n := fun g r c => by
  show p (ix2 _ c) + bias4 (maskBias (F := Ideal) a b) (ix2 _ c) = _
  rw [bias4_mask a b n.val n.isLt ha hb g r c]
  exact add_mask _ _

/-- An interior block's scores are masked: what its rows see does not depend on which interior block it is. -/
theorem inner_masked (p : FVec Ideal S512x512 .f32) (n : Fin 33) (h2 : 2 ≤ n.val) (h31 : n.val ≤ 31) :
    Masked (innerScores p B0) p n := fun g r c => by
  have := r.isLt; have := c.isLt
  rw [B0_eq]
  refine (inner_at _ _ _ c).trans ?_
  rw [bias4_mask 256#32 128#32 2 (by omega) rfl rfl g r c]
  by_cases h : 128 ≤ c.val ∧ c.val < 256
  · rw [if_pos h, if_pos (Or.inl ⟨by omega, by omega, by omega, by omega, by omega⟩)]
  · rw [if_neg h, add_mask]
    refine if_congr ?_ rfl rfl
    constructor
    · rintro (h | h)
      · exact Or.inl ⟨by omega, by omega, by omega, by omega, by omega⟩
      · exact Or.inr ⟨by omega, by omega, by omega⟩
    · rintro (h | h)
      · exact Or.inl ⟨by omega, by omega, by omega, by omega, by omega⟩
      · exact Or.inr ⟨by omega, by omega, by omega⟩

/-- A row's band scores, over the reals. -/
def scB (Q : Fin 4224 → Fin 128 → ℝ) (K : Fin 4224 → Fin 128 → ℝ) (n : Fin 33) (r : Fin 128) (j : Fin 384) : ℝ :=
  (∑ d : Fin 128, K (krow n j) d * Q ⟨128 * n.val + r.val, by omega⟩ d) * (Real.sqrt 128)⁻¹
/-- A row's scores against the sixteen rows, over the reals. -/
def scM (Q : Fin 4224 → Fin 128 → ℝ) (K : Fin 4224 → Fin 128 → ℝ) (n : Fin 33) (r : Fin 128) (x : Fin 16) : ℝ :=
  (∑ d : Fin 128, Q ⟨128 * n.val + r.val, by omega⟩ d * K ⟨112 + x.val, by omega⟩ d) * (Real.sqrt 128)⁻¹

/-- A block's row is the row's value, at each head. -/
theorem attend_row (Q : Fin 4 → Fin 4224 → Fin 128 → ℝ) (K : Fin 4224 → Fin 128 → ℝ) (S : Fin 4 → ℝ)
    (hQ : ∀ g t d, x1 (ix3 g t d) = ((Q g t d * ((Real.sqrt 128)⁻¹ * (Real.log 2)⁻¹) : ℝ) : EReal))
    (hK : ∀ t d, x2 (ix3 0 t d) = ((K t d : ℝ) : EReal))
    (sk : FVec Ideal S512x1 .f32) (hsk : ∀ (g : Fin 4) (r : Fin 128), sk (ix2 ⟨128 * g.val + r.val, by omega⟩ 0) = ((S g / Real.log 2 : ℝ) : EReal))
    (s : FVec Ideal S512x512 .f32) (n : Fin 33) (hs : Masked s (blkProds arg3 harg3 arg4 harg4 x1 x2 n) n)
    (g : Fin 4) (r e : Fin 128) :
    attend sk s (blkVals arg5 harg5 x3 n) (ix2 ⟨128 * g.val + r.val, by omega⟩ e)
      = rowVal n.val r.val (scB (Q g) K n r) (scM (Q g) K n r) (S g) (fun j => x3 (ix3 0 (krow n j) e))
          (fun x => x3 (ix3 0 ⟨112 + x.val, by omega⟩ e)) := by
  have hlog : Real.log 2 ≠ 0 := ne_of_gt (Real.log_pos (by norm_num))
  have hp : ∀ c : Fin 512, blkProds arg3 harg3 arg4 harg4 x1 x2 n (ix2 ⟨128 * g.val + r.val, by omega⟩ c)
      = (((∑ d : Fin 128, Q g ⟨128 * n.val + r.val, by omega⟩ d * K (kcol n c) d) * (Real.sqrt 128)⁻¹ / Real.log 2 : ℝ) : EReal) := fun c => by
    rw [blkProds_at]
    have e1 : ∀ d : Fin 128, x1 (ix3 g ⟨128 * n.val + r.val, by omega⟩ d) * x2 (ix3 0 (kcol n c) d)
        = ((Q g ⟨128 * n.val + r.val, by omega⟩ d * K (kcol n c) d * (Real.sqrt 128)⁻¹ * (Real.log 2)⁻¹ : ℝ) : EReal) := fun d => by
      rw [hQ, hK, ← EReal.coe_mul]; congr 1; ring
    rw [Finset.sum_congr rfl fun d _ => e1 d, ← Cert.SoftMath.coe_sum]
    congr 1
    rw [Finset.sum_mul, div_eq_mul_inv, Finset.sum_mul]
  refine (attend_at sk s _ _ e).trans ?_
  have hv : ∀ c : Fin 512, cat4 (ldK arg5 harg5 x3 (prevB n)) (ldK arg5 harg5 x3 n) (ldK arg5 harg5 x3 (nextB n)) (ldK arg5 harg5 x3 0) (ix2 c e)
      = x3 (ix3 0 (kcol n c) e) := fun c => catK_at arg5 harg5 x3 n c e
  refine Cert.AttnRow.kernel_rowVal n.val r.val _ _ _ _ _ (fun c => s (ix2 ⟨128 * g.val + r.val, by omega⟩ c)) _ _ ?_ ?_ ?_ (hsk g r) ?_ ?_
  · intro j
    have := j.isLt; have := r.isLt
    refine (hs g r _).trans ?_
    rw [hp]
    refine if_congr ⟨?_, ?_⟩ ?_ rfl
    · rintro (h | h)
      · exact ⟨h.2.1, h.2.2.1, h.2.2.2.1, h.2.2.2.2⟩
      · exact absurd h.1 (by dsimp only; omega)
    · exact fun h => Or.inl ⟨j.isLt, h.1, h.2.1, h.2.2.1, h.2.2.2⟩
    · congr 2
      unfold scB
      congr 1
      refine Finset.sum_congr rfl fun d _ => ?_
      rw [mul_comm]
      congr 2
      refine Fin.ext ?_
      simp only [kcol, krow, j.isLt, if_true]
  · intro y
    have := y.isLt
    refine (hs g r _).trans (if_neg ?_)
    rintro (h | h)
    · exact absurd h.1 (by dsimp only; omega)
    · exact absurd h.1 (by dsimp only; omega)
  · intro x
    have := x.isLt
    refine (hs g r _).trans ?_
    rw [hp]
    refine if_congr ⟨?_, ?_⟩ ?_ rfl
    · rintro (h | h)
      · exact absurd h.1 (by dsimp only; omega)
      · have h3 : 496 + x.val + 128 < 128 * n.val + r.val + 384 := h.2.2
        show 240 + x.val < 128 * n.val + r.val; omega
    · intro h
      have h3 : 240 + x.val < 128 * n.val + r.val := h
      exact Or.inr ⟨by dsimp only; omega, by dsimp only; omega, by dsimp only; omega⟩
    · congr 2
      unfold scM
      congr 1
      refine Finset.sum_congr rfl fun d _ => ?_
      congr 2
      refine Fin.ext ?_
      simp only [kcol]
      split_ifs <;> omega
  · intro j
    have := j.isLt
    refine (hv _).trans (congrArg (fun t => x3 (ix3 0 t e)) (Fin.ext ?_))
    simp only [kcol, krow, j.isLt, if_true]
  · intro x
    have := x.isLt
    refine (hv _).trans (congrArg (fun t => x3 (ix3 0 t e)) (Fin.ext ?_))
    simp only [kcol]
    split_ifs <;> omega

end

end Cert.KernelIdeal.Attn

end
-- ==== Proof.AttnPoint.lean ====
module

public import proofs.«01_k».proof.Proof.AttnBlock

/-! # What a grid point leaves in its output block

Every store of the point is its rows' values at the place it is stored, and the stores cover the block. -/

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.Words
open Cert.AttnRow (okB okM rowVal)
open Cert.ReferenceIdeal.AttnRef (krow)

/-- A grid point's output block: row `t` of head `g` is the row's value. -/
def blockVal (Q : Fin 4 → Fin 4224 → Fin 128 → ℝ) (K : Fin 4224 → Fin 128 → ℝ) (S : Fin 4 → ℝ) (x3 : Vec Ideal S1x4224x128 .bf16)
    (g : Fin 4) (t : Fin 4224) (e : Fin 128) : EReal :=
  rowVal (t.val / 128) (t.val % 128) (scB (Q g) K ⟨t.val / 128, by omega⟩ ⟨t.val % 128, by omega⟩)
    (scM (Q g) K ⟨t.val / 128, by omega⟩ ⟨t.val % 128, by omega⟩) (S g)
    (fun j => x3 (ix3 0 (krow ⟨t.val / 128, by omega⟩ j) e)) (fun x => x3 (ix3 0 ⟨112 + x.val, by omega⟩ e))

/-- The same at a block number and a row of the block. -/
theorem blockVal_at (Q : Fin 4 → Fin 4224 → Fin 128 → ℝ) (K : Fin 4224 → Fin 128 → ℝ) (S : Fin 4 → ℝ) (x3 : Vec Ideal S1x4224x128 .bf16)
    (g : Fin 4) (n : Fin 33) (r e : Fin 128) :
    blockVal Q K S x3 g ⟨128 * n.val + r.val, by omega⟩ e
      = rowVal n.val r.val (scB (Q g) K n r) (scM (Q g) K n r) (S g) (fun j => x3 (ix3 0 (krow n j) e))
          (fun x => x3 (ix3 0 ⟨112 + x.val, by omega⟩ e)) := by
  have h1 : (128 * n.val + r.val) / 128 = n.val := by omega
  have h2 : (128 * n.val + r.val) % 128 = r.val := by omega
  have e1 : (⟨(128 * n.val + r.val) / 128, by omega⟩ : Fin 33) = n := Fin.ext h1
  have e2 : (⟨(128 * n.val + r.val) % 128, by omega⟩ : Fin 128) = r := Fin.ext h2
  unfold blockVal
  dsimp only
  rw [e1, e2, h1, h2]

/-- The block as an array. -/
def blockArr (Q : Fin 4 → Fin 4224 → Fin 128 → ℝ) (K : Fin 4224 → Fin 128 → ℝ) (S : Fin 4 → ℝ) (x3 : Vec Ideal S1x4224x128 .bf16) :
    Vec Ideal S4x4224x128 .bf16 := fun y => blockVal Q K S x3 (y 0) (y 1) (y 2)

section

variable (arg3 : Memref sig .tc .vmem S4x4224x128 .bf16) (harg3 : arg3.IsWhole)
  (arg4 : Memref sig .tc .vmem S1x4224x128 .bf16) (harg4 : arg4.IsWhole)
  (arg5 : Memref sig .tc .vmem S1x4224x128 .bf16) (harg5 : arg5.IsWhole)
  (x1 : Vec Ideal S4x4224x128 .bf16) (x2 x3 : Vec Ideal S1x4224x128 .bf16)
  (Q : Fin 4 → Fin 4224 → Fin 128 → ℝ) (K : Fin 4224 → Fin 128 → ℝ) (S : Fin 4 → ℝ)
  (hQ : ∀ g t d, x1 (ix3 g t d) = ((Q g t d * ((Real.sqrt 128)⁻¹ * (Real.log 2)⁻¹) : ℝ) : EReal))
  (hK : ∀ t d, x2 (ix3 0 t d) = ((K t d : ℝ) : EReal))
  (sk : FVec Ideal S512x1 .f32) (hsk : ∀ (g : Fin 4) (r : Fin 128), sk (ix2 ⟨128 * g.val + r.val, by omega⟩ 0) = ((S g / Real.log 2 : ℝ) : EReal))

/-- A store holds the block's values at the place it is stored. -/
def Agrees (G : Vec Ideal S4x4224x128 .bf16) (p : View.Piece (Elt Ideal) S4x4224x128 .bf16) : Prop :=
  ∀ x : p.1.shape.Idx, p.2 x = G (p.1.emb x)

include hQ hK hsk in
/-- A block's store for a head, whichever way its scores were masked. -/
theorem piece_agrees (s : FVec Ideal S512x512 .f32) (n : Fin 33) (hs : Masked s (blkProds arg3 harg3 arg4 harg4 x1 x2 n) n) (g : Fin 4) :
    Agrees (blockArr Q K S x3)
      ⟨Rect.unit (s := S4x4224x128) ![g.val, 128 * n.val, 0] S1x128x128.size (inb_q g n),
        headOut (attend sk s (blkVals arg5 harg5 x3 n)) g⟩ := by
  intro x
  change S1x128x128.Idx at x
  show headOut (attend sk s (blkVals arg5 harg5 x3 n)) g x = _
  obtain ⟨z, r, e, rfl⟩ : ∃ (z : Fin 1) (r e : Fin 128), x = ix3 z r e := ⟨x 0, x 1, x 2, by
    funext a; fin_cases a <;> rfl⟩
  have := z.isLt
  refine (headOut_at _ g z r e).trans ?_
  refine (attend_row arg3 harg3 arg4 harg4 arg5 harg5 x1 x2 x3 Q K S hQ hK sk hsk s n hs g r e).trans ?_
  refine (blockVal_at Q K S x3 g n r e).symm.trans ?_
  have a0 : (Rect.unit (s := S4x4224x128) ![g.val, 128 * n.val, 0] S1x128x128.size (inb_q g n)).emb (ix3 z r e) 0 = g := by
    refine Fin.ext ?_; show g.val + 1 * z.val = g.val; omega
  have a1 : (Rect.unit (s := S4x4224x128) ![g.val, 128 * n.val, 0] S1x128x128.size (inb_q g n)).emb (ix3 z r e) 1
      = (⟨128 * n.val + r.val, by omega⟩ : Fin 4224) := by
    refine Fin.ext ?_; show 128 * n.val + 1 * r.val = 128 * n.val + r.val; omega
  have a2 : (Rect.unit (s := S4x4224x128) ![g.val, 128 * n.val, 0] S1x128x128.size (inb_q g n)).emb (ix3 z r e) 2 = e := by
    refine Fin.ext ?_; show 0 + 1 * e.val = e.val; omega
  unfold blockArr
  dsimp only
  rw [a0, a1, a2]

/-- Four stores and the ones before them. -/
theorem four_agrees {G : Vec Ideal S4x4224x128 .bf16} {p : Fin 4 → View.Piece (Elt Ideal) S4x4224x128 .bf16}
    {L : List (View.Piece (Elt Ideal) S4x4224x128 .bf16)} (hp : ∀ g, Agrees G (p g)) (hL : ∀ q ∈ L, Agrees G q) :
    ∀ q ∈ four p L, Agrees G q := by
  intro q hq
  unfold four at hq
  simp only [List.mem_cons] at hq
  rcases hq with h | h | h | h | h
  · exact h ▸ hp 3
  · exact h ▸ hp 2
  · exact h ▸ hp 1
  · exact h ▸ hp 0
  · exact hL q h

include hQ hK hsk in
/-- The interior blocks' stores, by induction on how many there are. -/
theorem inner_agrees (L : List (View.Piece (Elt Ideal) S4x4224x128 .bf16)) (hL : ∀ q ∈ L, Agrees (blockArr Q K S x3) q) :
    ∀ (k : ℕ) (hk : k ≤ 30), ∀ q ∈ innerPieces arg3 harg3 arg4 harg4 arg5 harg5 x1 x2 x3 sk B0 L k hk, Agrees (blockArr Q K S x3) q
  | 0, _ => hL
  | k + 1, h => four_agrees
      (fun g => piece_agrees arg3 harg3 arg4 harg4 arg5 harg5 x1 x2 x3 Q K S hQ hK sk hsk _ ⟨k + 2, by omega⟩
        (inner_masked _ ⟨k + 2, by omega⟩ (by dsimp only; omega) (by dsimp only; omega)) g)
      (inner_agrees L hL k (by omega))

include hQ hK hsk in
/-- Every store of the point. -/
theorem all_agree : ∀ q ∈ allPieces arg3 harg3 arg4 harg4 arg5 harg5 x1 x2 x3 sk B0, Agrees (blockArr Q K S x3) q :=
  four_agrees
    (fun g => piece_agrees arg3 harg3 arg4 harg4 arg5 harg5 x1 x2 x3 Q K S hQ hK sk hsk _ 32 (edge_masked _ _ _ 32 rfl rfl) g)
    (inner_agrees arg3 harg3 arg4 harg4 arg5 harg5 x1 x2 x3 Q K S hQ hK sk hsk _
      (four_agrees
        (fun g => piece_agrees arg3 harg3 arg4 harg4 arg5 harg5 x1 x2 x3 Q K S hQ hK sk hsk _ 1 (edge_masked _ _ _ 1 rfl rfl) g)
        (four_agrees
          (fun g => piece_agrees arg3 harg3 arg4 harg4 arg5 harg5 x1 x2 x3 Q K S hQ hK sk hsk _ 0 (edge_masked _ _ _ 0 rfl rfl) g)
          (fun q hq => absurd hq (List.not_mem_nil)))) 30 (le_refl _))

end

/-- What the scratch holds when the interior blocks read it. -/
theorem scratch_eq (c : Dev nD) (arg7 : Memref sig .tc .vmem S128x512 .f32) :
    kernelRun0_A.sl.v296 (F := Ideal) c arg7 = (B0 : FVec Ideal S128x512 .f32) := by
  have hz : (![0, 0] : Fin 2 → Nat) = fun _ => 0 := by funext a; fin_cases a <;> rfl
  exact View.readCov_unit_zero (S := S128x512) (Val := Elt Ideal) arg7.view hz _ (B0 (F := Ideal))

/-- What the body leaves in its output block is the rows' values. -/
theorem out_eq (c : Dev nD) (i : grid0.Coords) (arg2 : Memref sig .tc .smem S8 .f32) (harg2 : arg2.IsWhole) (arg3 : Memref sig .tc .vmem S4x4224x128 .bf16) (harg3 : arg3.IsWhole) (arg4 : Memref sig .tc .vmem S1x4224x128 .bf16) (harg4 : arg4.IsWhole) (arg5 : Memref sig .tc .vmem S1x4224x128 .bf16) (harg5 : arg5.IsWhole) (arg6 : Memref sig .tc .vmem S4x4224x128 .bf16) (harg6 : arg6.IsWhole) (arg7 : Memref sig .tc .vmem S128x512 .f32) (harg7 : arg7.IsWhole)
    (x0 : Vec Ideal S8 .f32) (x1 : Vec Ideal S4x4224x128 .bf16) (x2 : Vec Ideal S1x4224x128 .bf16) (x3 : Vec Ideal S1x4224x128 .bf16)
    (Q : Fin 4 → Fin 4224 → Fin 128 → ℝ) (K : Fin 4224 → Fin 128 → ℝ) (S : Fin 4 → ℝ)
    (hi : (i 1).val < 2)
    (hS : ∀ g : Fin 4, x0 (ix1 ⟨4 * (i 1).val + g.val, by omega⟩) = ((S g : ℝ) : EReal))
    (hQ : ∀ g t d, x1 (ix3 g t d) = ((Q g t d * ((Real.sqrt 128)⁻¹ * (Real.log 2)⁻¹) : ℝ) : EReal))
    (hK : ∀ t d, x2 (ix3 0 t d) = ((K t d : ℝ) : EReal)) :
    out0_A_4 c i arg2 harg2 arg3 harg3 arg4 harg4 arg5 harg5 arg6 harg6 arg7 harg7 x0 x1 x2 x3 = blockArr Q K S x3 := by
  have hsk : ∀ (g : Fin 4) (r : Fin 128), kernelRun0_A.sl.r_6 c i arg2 harg2 x0 (ix2 ⟨128 * g.val + r.val, by omega⟩ 0) = ((S g / Real.log 2 : ℝ) : EReal) := fun g r => by
    rw [sink_eq]
    refine (sinkCol_at _ _).trans ?_
    rw [show (⟨(128 * g.val + r.val) / 128, by omega⟩ : Fin 4) = g from Fin.ext (by show (128 * g.val + r.val) / 128 = g.val; omega)]
    rw [ldS_eq i arg2 harg2 x0 g (by omega), hS, ← EReal.coe_mul, div_eq_mul_inv]
  unfold out0_A_4
  rw [View.read_writes_junk_eq_canon]
  funext y
  refine View.canon_apply_of_pieces _ _ ?_ y (cover0_A_4 c i arg2 harg2 arg3 harg3 arg4 harg4 arg5 harg5 arg6 harg6 arg7 harg7 x0 x1 x2 x3 y)
  rw [pieces_eq, scratch_eq]
  exact all_agree arg3 harg3 arg4 harg4 arg5 harg5 x1 x2 x3 Q K S hQ hK _ hsk

end Cert.KernelIdeal.Attn

end
-- ==== Proof.AttnRefRow.lean ====
module

public import proofs.«01_k».proof.Proof.AttnPoint

/-! # The attention's reference, row by row -/

@[expose] public section

set_option maxRecDepth 16384

noncomputable section

namespace Cert.ReferenceIdeal.AttnRef

open Cert.ReferenceIdeal Cert.ReferenceIdeal.Gen
open Idealize.ShloMosaic Idealize.ShloMosaic.TcCoe Idealize.SL.Sem
open Cert.SoftMath Cert.Words
open Cert.AttnRow (okB okM rowVal ref_rowVal)
open Cert.KernelIdeal.Attn (scB scM)

section

variable (q : FVec Ideal S4x8x4224x128 .f32) (k v : FVec Ideal S4x2x4224x128 .f32) (w : FVec Ideal S8 .f32)
  (qr : S4x8x4224x128.Idx → ℝ) (kr : S4x2x4224x128.Idx → ℝ) (wr : S8.Idx → ℝ)
  (hq : ∀ i, q i = ((qr i : ℝ) : EReal)) (hk : ∀ i, k i = ((kr i : ℝ) : EReal)) (hw : ∀ i, w i = ((wr i : ℝ) : EReal))

/-- One head's queries of one sequence. -/
abbrev qOf (qr : S4x8x4224x128.Idx → ℝ) (b : Fin 4) (h : Fin 2) (g : Fin 4) : Fin 4224 → Fin 128 → ℝ :=
  fun t d => qr (ix4 b ⟨4 * h.val + g.val, by omega⟩ t d)
/-- One head's keys of one sequence. -/
abbrev kOf (kr : S4x2x4224x128.Idx → ℝ) (b : Fin 4) (h : Fin 2) : Fin 4224 → Fin 128 → ℝ :=
  fun t d => kr (ix4 b h t d)

include hq hk hw in
/-- A row of the reference is the row's value. -/
theorem mix_row (b : Fin 4) (h : Fin 2) (g : Fin 4) (n : Fin 33) (r d : Fin 128) :
    mix (probs (sAll q k w)) v (ix6 b h g n r d)
      = rowVal n.val r.val (scB (qOf qr b h g) (kOf kr b h) n r) (scM (qOf qr b h g) (kOf kr b h) n r)
          (wr (ix1 ⟨4 * h.val + g.val, by omega⟩)) (fun j => v (ix4 b h (krow n j) d)) (fun x => v (ix4 b h ⟨112 + x.val, by omega⟩ d)) := by
  refine (mix_at _ v b h g n r d).trans ?_
  refine ref_rowVal n.val r.val _ _ _ _ _ (fun j => sAll q k w (ix6 b h g n r j)) (fun j => band v (ix5 b h n j d)) ?_ ?_ ?_ ?_
    (fun j => probs (sAll q k w) (ix6 b h g n r j)) ?_
  · intro j
    refine (sAll_at q k w b h g n r _).trans ?_
    rw [dif_pos (show (⟨j.val, by omega⟩ : Fin 401).val < 384 from j.isLt)]
    by_cases ok : okB n.val r.val j.val
    · rw [if_pos ok, if_pos ok]
      refine (sBand_at q k b h g n r _).trans ?_
      have e1 : ∀ x : Fin 128, (band k (ix5 b h n (⟨j.val, j.isLt⟩ : Fin 384) x) : EReal) * qBlk q (ix6 b h g n r x)
          = ((kOf kr b h (krow n j) x * qOf qr b h g ⟨128 * n.val + r.val, by omega⟩ x : ℝ) : EReal) := fun x => by
        rw [band_at k b h n r j x ok, qBlk_at, hk, hq, ← EReal.coe_mul]
      rw [Finset.sum_congr rfl fun x _ => e1 x, ← coe_sum, ← EReal.coe_mul]
      rfl
    · rw [if_neg ok, if_neg ok]
  · intro x
    have := x.isLt
    refine (sAll_at q k w b h g n r _).trans ?_
    rw [dif_neg (show ¬ (384 + x.val < 384) by omega), dif_pos (show 384 + x.val - 384 < 16 by omega)]
    have e0 : 384 + x.val - 384 = x.val := by omega
    by_cases ok : okM n.val r.val x.val
    · rw [if_pos (show okM n.val r.val (384 + x.val - 384) by rw [e0]; exact ok), if_pos ok]
      rw [show (⟨384 + x.val - 384, by omega⟩ : Fin 16) = x from Fin.ext e0]
      refine (sMeta_at q k b h g n r _).trans ?_
      have e1 : ∀ y : Fin 128, (qBlk q (ix6 b h g n r y) : EReal) * k (ix4 b h ⟨112 + x.val, by omega⟩ y)
          = ((qOf qr b h g ⟨128 * n.val + r.val, by omega⟩ y * kOf kr b h ⟨112 + x.val, by omega⟩ y : ℝ) : EReal) := fun y => by
        rw [qBlk_at, hk, hq, ← EReal.coe_mul]
      rw [Finset.sum_congr rfl fun y _ => e1 y, ← coe_sum, ← EReal.coe_mul]
      rfl
    · rw [if_neg (show ¬ okM n.val r.val (384 + x.val - 384) by rw [e0]; exact ok), if_neg ok]
  · refine (sAll_at q k w b h g n r _).trans ?_
    rw [dif_neg (show ¬ (400 < 384) by omega), dif_neg (show ¬ (400 - 384 < 16) by omega)]
    exact hw _
  · intro j ok
    exact band_at v b h n r j d ok
  · intro c
    refine (probs_at _ b h g n r c).trans ?_
    rw [expo_at]
    refine congrArg (Ideal.div _) (Finset.sum_congr rfl fun j _ => ?_)
    exact expo_at _ b h g n r j

include hq hk hw in
/-- A row of the reference's result. -/
theorem out_row (b : Fin 4) (h : Fin 2) (g : Fin 4) (t : Fin 4224) (d : Fin 128) :
    out q k v w (ix3 ⟨4 * h.val + g.val, by omega⟩ ⟨4224 * b.val + t.val, by omega⟩ d)
      = rowVal (t.val / 128) (t.val % 128) (scB (qOf qr b h g) (kOf kr b h) ⟨t.val / 128, by omega⟩ ⟨t.val % 128, by omega⟩)
          (scM (qOf qr b h g) (kOf kr b h) ⟨t.val / 128, by omega⟩ ⟨t.val % 128, by omega⟩)
          (wr (ix1 ⟨4 * h.val + g.val, by omega⟩)) (fun j => v (ix4 b h (krow ⟨t.val / 128, by omega⟩ j) d))
          (fun x => v (ix4 b h ⟨112 + x.val, by omega⟩ d)) := by
  have := t.isLt; have := g.isLt; have := h.isLt; have := b.isLt
  refine (lay_at _ _ _ d).trans ?_
  rw [show (⟨(4224 * b.val + t.val) / 4224, by omega⟩ : Fin 4) = b from Fin.ext (by show (4224 * b.val + t.val) / 4224 = b.val; omega),
    show (⟨(4 * h.val + g.val) / 4, by omega⟩ : Fin 2) = h from Fin.ext (by show (4 * h.val + g.val) / 4 = h.val; omega),
    show (⟨(4 * h.val + g.val) % 4, by omega⟩ : Fin 4) = g from Fin.ext (by show (4 * h.val + g.val) % 4 = g.val; omega),
    show (⟨(4224 * b.val + t.val) % 4224 / 128, by omega⟩ : Fin 33) = ⟨t.val / 128, by omega⟩ from Fin.ext (by show (4224 * b.val + t.val) % 4224 / 128 = t.val / 128; omega),
    show (⟨(4224 * b.val + t.val) % 128, by omega⟩ : Fin 128) = ⟨t.val % 128, by omega⟩ from Fin.ext (by show (4224 * b.val + t.val) % 128 = t.val % 128; omega)]
  exact mix_row q k v w qr kr wr hq hk hw b h g _ _ d

end

end Cert.ReferenceIdeal.AttnRef

end
-- ==== Proof.AttnEntry.lean ====
module

public import proofs.«01_k».proof.Proof.AttnRead
public import Idealize.ShloMosaic.Lib.StableHlo.ReadAt

/-! # The array the attention's grid reads

The host scales the queries and lays queries, keys and values in one array, the heads first. -/

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.Words

variable (m : (ℓ : Loc nD τ sig) → Buf (Elt Ideal) ℓ)

/-- The factor that the queries are scaled by. -/
theorem scale_val : Ideal.div 1 (Ideal.sqrt (Ideal.ofBits FTy.f32 1124073472#32) * Ideal.log (Ideal.ofBits FTy.f32 1073741824#32))
    = (((Real.sqrt 128)⁻¹ * (Real.log 2)⁻¹ : ℝ) : EReal) := by
  have hlog : 0 < Real.log 2 := Real.log_pos (by norm_num)
  rw [show Ideal.ofBits FTy.f32 1124073472#32 = ((128 : ℝ) : EReal) from width, show Ideal.ofBits FTy.f32 1073741824#32 = ((2 : ℝ) : EReal) from two,
    Ideal.sqrt_coe, if_neg (by norm_num), Ideal.log_coe]
  rw [if_neg (by norm_num)]
  rw [← EReal.coe_mul, Ideal.div_coe (by positivity), one_mul, one_div, mul_inv]

/-- The queries. -/
abbrev argQ (c : Dev nD) : S4x8x4224x128.Idx → EReal := m ((c : Thread nD τ).loc main_arg0)

/-- A scaled query. -/
theorem entry_q (c : Dev nD) (h : Fin 12) (hh : h.val < 8) (t : Fin 16896) (d : Fin 128) :
    V m c main_v13 (ix3 h t d)
      = argQ m c (ix4 ⟨t.val / 4224, by omega⟩ ⟨h.val, hh⟩ ⟨t.val % 4224, by omega⟩ d)
        * (((Real.sqrt 128)⁻¹ * (Real.log 2)⁻¹ : ℝ) : EReal) := by
  have := h.isLt; have := t.isLt
  unfold Gen.V
  after_reads_at
  rw [dif_pos hh]
  after_reads_at
  rw [scale_val]

/-- A key. -/
theorem entry_k (c : Dev nD) (h : Fin 12) (hh : 8 ≤ h.val) (hh' : h.val < 10) (t : Fin 16896) (d : Fin 128) :
    V m c main_v13 (ix3 h t d)
      = m ((c : Thread nD τ).loc main_arg1) (ix4 ⟨t.val / 4224, by omega⟩ ⟨h.val - 8, by omega⟩ ⟨t.val % 4224, by omega⟩ d) := by
  have := h.isLt; have := t.isLt
  unfold Gen.V
  after_reads_at
  rw [dif_neg (by omega), dif_pos (by omega)]
  after_reads_at

/-- A value. -/
theorem entry_v (c : Dev nD) (h : Fin 12) (hh : 10 ≤ h.val) (t : Fin 16896) (d : Fin 128) :
    V m c main_v13 (ix3 h t d)
      = m ((c : Thread nD τ).loc main_arg2) (ix4 ⟨t.val / 4224, by omega⟩ ⟨h.val - 10, by omega⟩ ⟨t.val % 4224, by omega⟩ d) := by
  have := h.isLt; have := t.isLt
  unfold Gen.V
  after_reads_at
  rw [dif_neg (by omega), dif_neg (by omega)]
  after_reads_at
  rw [show (⟨h.val - 8 - 2, by omega⟩ : Fin 2) = ⟨h.val - 10, by omega⟩ from Fin.ext (by show h.val - 8 - 2 = h.val - 10; omega)]

end Cert.KernelIdeal.Attn

end
-- ==== Proof.AttnFinal.lean ====
module

public import proofs.«01_k».proof.Proof.AttnRefRow
public import proofs.«01_k».proof.Proof.AttnEntry
public import proofs.«01_k».proof.Proof.Gen.Pre_scores_finite
public import Idealize.ShloMosaic.Lib.Pipeline.ValueKit

/-! # The attention's result array

Grid point (sequence, key head) writes the rows of its four heads; the eight points' blocks tile the array,
and each holds what the reference has there. -/

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.Words
open Idealize.ShloMosaic.Pipeline (Dat)
open Cert.ReferenceIdeal.AttnRef (krow qOf kOf out_row)

/-- A comparison that holds everywhere says that the values are real. -/
theorem real_of_lt {s : Shape} (x : FVec Ideal s .f32) (z : FVec Ideal s .f32) (hz : ∀ i, z i = (⊤ : EReal))
    (h : cmpf .olt (Host.absf x) z = fun _ => 1#1) : ∃ f : s.Idx → ℝ, ∀ i, x i = ((f i : ℝ) : EReal) := by
  have key : ∀ i, max (x i : EReal) (-(x i : EReal)) < ⊤ := fun i => by
    have h0 : BitVec.ofBool (decide (max (x i : EReal) (-(x i : EReal)) < z i)) = 1#1 := congrFun h i
    rw [hz] at h0
    by_contra hc
    rw [decide_eq_false hc] at h0
    exact absurd h0 (by decide)
  refine ⟨fun i => EReal.toReal (x i), fun i => (EReal.coe_toReal ?_ ?_).symm⟩
  · intro ht
    have h1 := key i
    rw [ht] at h1
    simp at h1
  · intro ht
    have h1 := key i
    rw [ht] at h1
    simp at h1

/-- Plus infinity's word. -/
theorem pinf : Ideal.ofBits .f32 0x7F800000#32 = ⊤ := by simp [Ideal.ofBits, Ideal.ieee]

/-- The precondition: queries, keys and sinks are real. -/
theorem finite_args (q : FVec Ideal S4x8x4224x128 .f32) (k v : FVec Ideal S4x2x4224x128 .f32) (w : FVec Ideal S8 .f32)
    (h1 : (Cert.Pre_scores_finite.fn (F := Ideal) q k v w).1 = fun _ => 1#1)
    (h2 : (Cert.Pre_scores_finite.fn (F := Ideal) q k v w).2.1 = fun _ => 1#1)
    (h3 : (Cert.Pre_scores_finite.fn (F := Ideal) q k v w).2.2 = fun _ => 1#1) :
    (∃ f : S4x8x4224x128.Idx → ℝ, ∀ i, q i = ((f i : ℝ) : EReal)) ∧ (∃ f : S4x2x4224x128.Idx → ℝ, ∀ i, k i = ((f i : ℝ) : EReal))
      ∧ ∃ f : S8.Idx → ℝ, ∀ i, w i = ((f i : ℝ) : EReal) :=
  ⟨real_of_lt q _ (fun _ => pinf) h1, real_of_lt k _ (fun _ => pinf) h2, real_of_lt w _ (fun _ => pinf) h3⟩

variable (m : (ℓ : Loc nD τ sig) → Buf (Elt Ideal) ℓ)

/-- The windows' blocks, at every point. -/
theorem idx : ∀ t : Fin cfg0.N, win0_1.index t = ![(grid0.coords t 1).val, (grid0.coords t 0).val, 0]
    ∧ win0_2.index t = ![8 + (grid0.coords t 1).val, (grid0.coords t 0).val, 0]
    ∧ win0_3.index t = ![10 + (grid0.coords t 1).val, (grid0.coords t 0).val, 0]
    ∧ win0_4.index t = ![(grid0.coords t 1).val, (grid0.coords t 0).val, 0]
    ∧ win0_0.index t = ![0] :=
  (by decide +kernel : ∀ t : Fin grid0.N, _)

/-- The point's sequence. -/
abbrev bOf (t : Fin cfg0.N) : Fin 4 := ⟨(grid0.coords t 0).val, (grid0.coords t 0).isLt⟩
/-- The point's key head. -/
abbrev hOf (t : Fin cfg0.N) : Fin 2 := ⟨(grid0.coords t 1).val, (grid0.coords t 1).isLt⟩

/-- The point's block of queries. -/
theorem blk_q (c : Dev nD) (t : Fin cfg0.N) (g : Fin 4) (r : Fin 4224) (d : Fin 128) :
    iblk m c 1 t (ix3 g r d) = V m c main_v13 (ix3 ⟨4 * (hOf t).val + g.val, by omega⟩ ⟨4224 * (bOf t).val + r.val, by omega⟩ d) := by
  have hb := (bOf t).isLt; have hh := (hOf t).isLt; have := g.isLt; have := r.isLt
  blk_ext [iblk, (idx t).1]

/-- The point's block of keys. -/
theorem blk_k (c : Dev nD) (t : Fin cfg0.N) (r : Fin 4224) (d : Fin 128) :
    iblk m c 2 t (ix3 0 r d) = V m c main_v13 (ix3 ⟨8 + (hOf t).val, by omega⟩ ⟨4224 * (bOf t).val + r.val, by omega⟩ d) := by
  have hb := (bOf t).isLt; have hh := (hOf t).isLt; have := r.isLt
  blk_ext [iblk, (idx t).2.1]

/-- The point's block of values. -/
theorem blk_v (c : Dev nD) (t : Fin cfg0.N) (r : Fin 4224) (d : Fin 128) :
    iblk m c 3 t (ix3 0 r d) = V m c main_v13 (ix3 ⟨10 + (hOf t).val, by omega⟩ ⟨4224 * (bOf t).val + r.val, by omega⟩ d) := by
  have hb := (bOf t).isLt; have hh := (hOf t).isLt; have := r.isLt
  blk_ext [iblk, (idx t).2.2.1]

/-- The sinks. -/
theorem blk_s (c : Dev nD) (t : Fin cfg0.N) (r : Fin 8) :
    iblk m c 0 t (ix1 r) = m ((c : Thread nD τ).loc main_arg3) (ix1 r) := by
  have := r.isLt
  blk_ext [iblk, V, (idx t).2.2.2.2]

/-- The kernel's result array is the reference's. -/
theorem final (c : Dev nD) (qr : S4x8x4224x128.Idx → ℝ) (kr : S4x2x4224x128.Idx → ℝ) (wr : S8.Idx → ℝ)
    (hq : ∀ i, m ((c : Thread nD τ).loc main_arg0) i = ((qr i : ℝ) : EReal))
    (hk : ∀ i, m ((c : Thread nD τ).loc main_arg1) i = ((kr i : ℝ) : EReal))
    (hw : ∀ i, m ((c : Thread nD τ).loc main_arg3) i = ((wr i : ℝ) : EReal)) :
    (dats m 0 c).arrAt 4 (cfgs 0).N
      = Cert.ReferenceIdeal.AttnRef.out (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  have hb := (bOf t).isLt
  have hh := (hOf t).isLt
  change S4x4224x128.Idx at y
  refine (congrFun (out_eq c (grid0.coords t) _ _ _ _ _ _ _ _ _ _ _ _ _ _ _ _
    (fun g => qOf qr (bOf t) (hOf t) g) (kOf kr (bOf t) (hOf t)) (fun g => wr (ix1 ⟨4 * (hOf t).val + g.val, by omega⟩)) hh ?_ ?_ ?_) y).trans ?_
  · intro g
    exact (blk_s m c t _).trans (hw _)
  · intro g r d
    have := g.isLt; have := r.isLt
    refine (blk_q m c t g r d).trans ?_
    refine (entry_q m c _ (by show 4 * (hOf t).val + g.val < 8; omega) _ d).trans ?_
    rw [show argQ m c = fun i => ((qr i : ℝ) : EReal) from funext hq, ← EReal.coe_mul]
    dsimp only
    rw [show (⟨(4224 * (bOf t).val + r.val) / 4224, by omega⟩ : Fin 4) = bOf t from Fin.ext (by show (4224 * (bOf t).val + r.val) / 4224 = (bOf t).val; omega),
      show (⟨(4224 * (bOf t).val + r.val) % 4224, by omega⟩ : Fin 4224) = r from Fin.ext (by show (4224 * (bOf t).val + r.val) % 4224 = r.val; omega)]
  · intro r d
    have := r.isLt
    refine (blk_k m c t r d).trans ?_
    refine (entry_k m c _ (by show 8 ≤ 8 + (hOf t).val; omega) (by show 8 + (hOf t).val < 10; omega) _ d).trans ?_
    refine (hk _).trans ?_
    dsimp only
    rw [show (⟨(4224 * (bOf t).val + r.val) / 4224, by omega⟩ : Fin 4) = bOf t from Fin.ext (by show (4224 * (bOf t).val + r.val) / 4224 = (bOf t).val; omega),
      show (⟨(4224 * (bOf t).val + r.val) % 4224, by omega⟩ : Fin 4224) = r from Fin.ext (by show (4224 * (bOf t).val + r.val) % 4224 = r.val; omega),
      show (⟨8 + (hOf t).val - 8, by omega⟩ : Fin 2) = hOf t from Fin.ext (by show 8 + (hOf t).val - 8 = (hOf t).val; omega)]
  · obtain ⟨g, r, d, rfl⟩ : ∃ (g : Fin 4) (r : Fin 4224) (d : Fin 128), y = ix3 g r d := ⟨y 0, y 1, y 2, by
      funext a; fin_cases a <;> rfl⟩
    have := g.isLt; have := r.isLt
    have hv : ∀ (r : Fin 4224), iblk m c 3 t (ix3 0 r d) = m ((c : Thread nD τ).loc main_arg2) (ix4 (bOf t) (hOf t) r d) := fun r => by
      have := r.isLt
      refine (blk_v m c t r d).trans ?_
      refine (entry_v m c _ (by show 10 ≤ 10 + (hOf t).val; omega) _ d).trans ?_
      dsimp only
      rw [show (⟨(4224 * (bOf t).val + r.val) / 4224, by omega⟩ : Fin 4) = bOf t from Fin.ext (by show (4224 * (bOf t).val + r.val) / 4224 = (bOf t).val; omega),
        show (⟨(4224 * (bOf t).val + r.val) % 4224, by omega⟩ : Fin 4224) = r from Fin.ext (by show (4224 * (bOf t).val + r.val) % 4224 = r.val; omega),
        show (⟨10 + (hOf t).val - 10, by omega⟩ : Fin 2) = hOf t from Fin.ext (by show 10 + (hOf t).val - 10 = (hOf t).val; omega)]
    have he : (win0_4.blk t).view.emb (ix3 g r d) = (ix3 ⟨4 * (hOf t).val + g.val, by omega⟩ ⟨4224 * (bOf t).val + r.val, by omega⟩ d : S8x16896x128.Idx) := by
      blk_ext [(idx t).2.2.2.1]
    refine Eq.trans ?_ (congrArg (Cert.ReferenceIdeal.AttnRef.out _ _ _ _) he).symm
    refine Eq.trans ?_ (out_row _ _ _ _ qr kr wr hq hk hw (bOf t) (hOf t) g r d).symm
    show blockVal _ _ _ _ g r d = _
    unfold blockVal
    simp only [hv]

end Cert.KernelIdeal.Attn

end
-- ==== Proof.FfnTable.lean ====
/- The feed-forward call with its prefetched table: what it finds when it begins, the blocks of its windows, and at
   which points its branches are taken and its outputs stored. -/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel2Ideal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at a point, on the buffers it is called with. -/
abbrev bodyAt0 (a : (pcfg0 (F := F)).Adm) (t : Fin (cfg0 a).N) : Prog (TpuEff nD τ sig (Elt F) Λ₀ .tc) PUnit :=
  cc0_ffn (grid0.coords t) (Memref.whole main_v16) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10))

/-- What core `c` holds when the call begins: after the host operations. -/
abbrev V (c : Dev nD) (b : Ref sig .tc) : Buf (Elt F) ((c : Thread nD τ).loc b) := StableHlo.after hostOps0 (fun b => m (c, b)) b

/-- The host operations take no new buffers. -/
theorem hostOps0_fresh : (hostOps0 : List (HloOp τ sig (Elt F))).Forall fun op => op.fresh = ∅ := by
  simp only [List.Forall]; repeat' constructor

set_option maxHeartbeats 800000 in
/-- The program is its host operations and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations leave argument 0 as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave argument 1 as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave argument 2 as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave argument 3 as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave argument 4 as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave argument 5 as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave argument 6 as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave argument 7 as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The prefetched table as the host leaves it. -/
def tbl : pre0.Contents (Elt F) := fun j => V m (0 : Dev nD) (pre0.ref j)
/-- Every device holds that table. -/
theorem V_pre (c : Dev nD) (j : Fin 1) : V m c (pre0.ref j) = tbl m j := by
  obtain rfl : c = 0 := Subsingleton.elim _ _; rfl
/-- The table puts every block inside its array. -/
abbrev Ok : Prop := ok0 (F := F) (tbl m)
/-- The table with that fact. -/
abbrev adm (hO : Ok m) : (pcfg0 (F := F)).Adm := ⟨tbl m, hO⟩
/-- The call with its table filled in. -/
abbrev cfgM (hO : Ok m) : Pipeline.Cfg sig Λ₀ := cfg0 (adm m hO)

/-- The table as the body is handed it. -/
abbrev tbM0_0 : Memref sig .tc .smem S1 .i32 := Memref.whole main_v16
/-- It is a whole buffer. -/
abbrev htbM0_0 : tbM0_0.IsWhole := Memref.isWhole_whole _

/-- The block of window `w` at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0 holds its block at every point, for any data that leave it there. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 holds its block at every point, for any data that leave it there. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 holds its block at every point, for any data that leave it there. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 holds its block at every point, for any data that leave it there. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 holds its block at every point, for any data that leave it there. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 holds its block at every point, for any data that leave it there. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 holds its block at every point, for any data that leave it there. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7 holds its block at every point, for any data that leave it there. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- From a run of the call: the arguments end as they began. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).1 7).trans (((dats 0 c).arrAt_in 7 rfl _).trans ((hA c 7).trans (V_main_arg7 m c)))⟩) h

/-- The condition of branch 0. -/
abbrev cond0_0 (i : grid0.Coords) : Prop := k0_cond1 i = 1#1
/-- Where branch 0 is taken. -/
theorem hcond0_0 : ∀ t : Fin grid0.N, cond0_0 (grid0.coords t) ↔ t.val % 11 = 0 :=
  (fun t => by
    have ht : t.val < 242 := Nat.lt_of_lt_of_eq t.isLt N_0
    have e0 : (grid0.coords t 0).val = t.val / 11 % 22 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 11 = 0)

/-- The condition of branch 1. -/
abbrev cond0_1 (i : grid0.Coords) : Prop := k0_cond2 i = 1#1
/-- Where branch 1 is taken. -/
theorem hcond0_1 : ∀ t : Fin grid0.N, cond0_1 (grid0.coords t) ↔ (1 ≤ t.val % 11 ∧ t.val % 11 ≤ 9) :=
  (by decide +kernel : ∀ t : Fin grid0.N, cond0_1 (grid0.coords t) ↔ (1 ≤ t.val % 11 ∧ t.val % 11 ≤ 9))

/-- The condition of branch 2. -/
abbrev cond0_2 (i : grid0.Coords) : Prop := k0_cond3 i = 1#1
/-- Where branch 2 is taken. -/
theorem hcond0_2 : ∀ t : Fin grid0.N, cond0_2 (grid0.coords t) ↔ t.val % 11 = 10 :=
  (fun t => by
    have ht : t.val < 242 := Nat.lt_of_lt_of_eq t.isLt N_0
    have e0 : (grid0.coords t 0).val = t.val / 11 % 22 := Pipeline.Grid.coords_val t 0 (by decide) rfl
    have e1 : (grid0.coords t 1).val = t.val / 1 % 11 := Pipeline.Grid.coords_val t 1 (by decide) rfl
    simp only [cond0_2, k0_cond3, e0, e1]
    word_cmp
   : ∀ t : Fin grid0.N, cond0_2 (grid0.coords t) ↔ t.val % 11 = 10)

/-- Window 0 is never idle. -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle. -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle. -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle. -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle. -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle. -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle. -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle. -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is stored at the first inner step. -/
theorem liveAt0_8_A (hO : Ok m) : ∀ t : Fin (cfgM m hO).N, cond0_0 (grid0.coords t) → ¬cond0_1 (grid0.coords t) → ¬cond0_2 (grid0.coords t) → (cfgM m hO).idle 8 (grid0.coords t) = false :=
  (by decide +kernel : ∀ t : Fin grid0.N, cond0_0 (grid0.coords t) → ¬cond0_1 (grid0.coords t) → ¬cond0_2 (grid0.coords t) → idle0 8 (grid0.coords t) = false)
/-- Window 8 is stored at a middle inner step. -/
theorem liveAt0_8_B (hO : Ok m) : ∀ t : Fin (cfgM m hO).N, ¬cond0_0 (grid0.coords t) → cond0_1 (grid0.coords t) → ¬cond0_2 (grid0.coords t) → (cfgM m hO).idle 8 (grid0.coords t) = false :=
  (by decide +kernel : ∀ t : Fin grid0.N, ¬cond0_0 (grid0.coords t) → cond0_1 (grid0.coords t) → ¬cond0_2 (grid0.coords t) → idle0 8 (grid0.coords t) = false)
/-- Window 8 is stored at the last inner step. -/
theorem liveAt0_8_C (hO : Ok m) : ∀ t : Fin (cfgM m hO).N, ¬cond0_0 (grid0.coords t) → ¬cond0_1 (grid0.coords t) → cond0_2 (grid0.coords t) → (cfgM m hO).idle 8 (grid0.coords t) = false :=
  (by decide +kernel : ∀ t : Fin grid0.N, ¬cond0_0 (grid0.coords t) → ¬cond0_1 (grid0.coords t) → cond0_2 (grid0.coords t) → idle0 8 (grid0.coords t) = false)
/-- Window 9 is not stored at the first inner step. -/
theorem idleAt0_9_A (hO : Ok m) : ∀ t : Fin (cfgM m hO).N, cond0_0 (grid0.coords t) → ¬cond0_1 (grid0.coords t) → ¬cond0_2 (grid0.coords t) → (cfgM m hO).idle 9 (grid0.coords t) = true :=
  (by decide +kernel : ∀ t : Fin grid0.N, cond0_0 (grid0.coords t) → ¬cond0_1 (grid0.coords t) → ¬cond0_2 (grid0.coords t) → idle0 9 (grid0.coords t) = true)
/-- Window 9 is not written back at the first inner step. -/
theorem noFlush0_9_A (hO : Ok m) : ∀ t : Fin (cfgM m hO).N, cond0_0 (grid0.coords t) → ¬cond0_1 (grid0.coords t) → ¬cond0_2 (grid0.coords t) → ((cfgM m hO).win 9).flush t = false :=
  (by decide +kernel : ∀ t : Fin grid0.N, cond0_0 (grid0.coords t) → ¬cond0_1 (grid0.coords t) → ¬cond0_2 (grid0.coords t) → Pipeline.Window.flushOf grid0 true cc0_transform_9 t = false)
/-- Window 9 is not stored at a middle inner step. -/
theorem idleAt0_9_B (hO : Ok m) : ∀ t : Fin (cfgM m hO).N, ¬cond0_0 (grid0.coords t) → cond0_1 (grid0.coords t) → ¬cond0_2 (grid0.coords t) → (cfgM m hO).idle 9 (grid0.coords t) = true :=
  (by decide +kernel : ∀ t : Fin grid0.N, ¬cond0_0 (grid0.coords t) → cond0_1 (grid0.coords t) → ¬cond0_2 (grid0.coords t) → idle0 9 (grid0.coords t) = true)
/-- Window 9 is not written back at a middle inner step. -/
theorem noFlush0_9_B (hO : Ok m) : ∀ t : Fin (cfgM m hO).N, ¬cond0_0 (grid0.coords t) → cond0_1 (grid0.coords t) → ¬cond0_2 (grid0.coords t) → ((cfgM m hO).win 9).flush t = false :=
  (by decide +kernel : ∀ t : Fin grid0.N, ¬cond0_0 (grid0.coords t) → cond0_1 (grid0.coords t) → ¬cond0_2 (grid0.coords t) → Pipeline.Window.flushOf grid0 true cc0_transform_9 t = false)
/-- Window 9 is stored at the last inner step. -/
theorem liveAt0_9_C (hO : Ok m) : ∀ t : Fin (cfgM m hO).N, ¬cond0_0 (grid0.coords t) → ¬cond0_1 (grid0.coords t) → cond0_2 (grid0.coords t) → (cfgM m hO).idle 9 (grid0.coords t) = false :=
  (by decide +kernel : ∀ t : Fin grid0.N, ¬cond0_0 (grid0.coords t) → ¬cond0_1 (grid0.coords t) → cond0_2 (grid0.coords t) → idle0 9 (grid0.coords t) = false)
/-- Window 10 is stored at the first inner step. -/
theorem liveAt0_10_A (hO : Ok m) : ∀ t : Fin (cfgM m hO).N, cond0_0 (grid0.coords t) → ¬cond0_1 (grid0.coords t) → ¬cond0_2 (grid0.coords t) → (cfgM m hO).idle 10 (grid0.coords t) = false :=
  (by decide +kernel : ∀ t : Fin grid0.N, cond0_0 (grid0.coords t) → ¬cond0_1 (grid0.coords t) → ¬cond0_2 (grid0.coords t) → idle0 10 (grid0.coords t) = false)
/-- Window 10 is stored at a middle inner step. -/
theorem liveAt0_10_B (hO : Ok m) : ∀ t : Fin (cfgM m hO).N, ¬cond0_0 (grid0.coords t) → cond0_1 (grid0.coords t) → ¬cond0_2 (grid0.coords t) → (cfgM m hO).idle 10 (grid0.coords t) = false :=
  (by decide +kernel : ∀ t : Fin grid0.N, ¬cond0_0 (grid0.coords t) → cond0_1 (grid0.coords t) → ¬cond0_2 (grid0.coords t) → idle0 10 (grid0.coords t) = false)
/-- Window 10 is stored at the last inner step. -/
theorem liveAt0_10_C (hO : Ok m) : ∀ t : Fin (cfgM m hO).N, ¬cond0_0 (grid0.coords t) → ¬cond0_1 (grid0.coords t) → cond0_2 (grid0.coords t) → (cfgM m hO).idle 10 (grid0.coords t) = false :=
  (by decide +kernel : ∀ t : Fin grid0.N, ¬cond0_0 (grid0.coords t) → ¬cond0_1 (grid0.coords t) → cond0_2 (grid0.coords t) → idle0 10 (grid0.coords t) = false)

/-- A staging buffer of window 8. -/
abbrev VO0_8 : View sig .tc .vmem S768x2048 .f32 := (Memref.whole cc0_stg8_0 : Memref sig .tc .vmem S768x2048 .f32).view
/-- A staging buffer of window 9. -/
abbrev VO0_9 : View sig .tc .vmem S768x2048 .bf16 := (Memref.whole cc0_stg9_0 : Memref sig .tc .vmem S768x2048 .bf16).view
/-- A staging buffer of window 10. -/
abbrev VO0_10 : View sig .tc .vmem S1x128x512 .bf16 := (Memref.whole cc0_stg10_0 : Memref sig .tc .vmem S1x128x512 .bf16).view
/-- Window 0's staging buffer at a point. -/
abbrev ms0_0 (hO : Ok m) (t : Fin (cfgM m hO).N) : Memref sig .tc .vmem S768x2048 .bf16 := spec0_0.stage ((cfgM m hO).slots t 0)
/-- It is a whole buffer. -/
abbrev hs0_0 (hO : Ok m) (t : Fin (cfgM m hO).N) : (ms0_0 m hO t).IsWhole := hstage0_0 (((cfgM m hO).slots t 0).cast nbuf0_0)
/-- Window 1's staging buffer at a point. -/
abbrev ms0_1 (hO : Ok m) (t : Fin (cfgM m hO).N) : Memref sig .tc .vmem S1x2048x512 .bf16 := spec0_1.stage ((cfgM m hO).slots t 1)
/-- It is a whole buffer. -/
abbrev hs0_1 (hO : Ok m) (t : Fin (cfgM m hO).N) : (ms0_1 m hO t).IsWhole := hstage0_1 (((cfgM m hO).slots t 1).cast nbuf0_1)
/-- Window 2's staging buffer at a point. -/
abbrev ms0_2 (hO : Ok m) (t : Fin (cfgM m hO).N) : Memref sig .tc .vmem S1x2048x512 .bf16 := spec0_2.stage ((cfgM m hO).slots t 2)
/-- It is a whole buffer. -/
abbrev hs0_2 (hO : Ok m) (t : Fin (cfgM m hO).N) : (ms0_2 m hO t).IsWhole := hstage0_2 (((cfgM m hO).slots t 2).cast nbuf0_2)
/-- Window 3's staging buffer at a point. -/
abbrev ms0_3 (hO : Ok m) (t : Fin (cfgM m hO).N) : Memref sig .tc .vmem S512x2048 .bf16 := spec0_3.stage ((cfgM m hO).slots t 3)
/-- It is a whole buffer. -/
abbrev hs0_3 (hO : Ok m) (t : Fin (cfgM m hO).N) : (ms0_3 m hO t).IsWhole := hstage0_3 (((cfgM m hO).slots t 3).cast nbuf0_3)
/-- Window 4's staging buffer at a point. -/
abbrev ms0_4 (hO : Ok m) (t : Fin (cfgM m hO).N) : Memref sig .tc .vmem S1x2048 .f32 := spec0_4.stage ((cfgM m hO).slots t 4)
/-- It is a whole buffer. -/
abbrev hs0_4 (hO : Ok m) (t : Fin (cfgM m hO).N) : (ms0_4 m hO t).IsWhole := hstage0_4 (((cfgM m hO).slots t 4).cast nbuf0_4)
/-- Window 5's staging buffer at a point. -/
abbrev ms0_5 (hO : Ok m) (t : Fin (cfgM m hO).N) : Memref sig .tc .vmem S1x2048 .f32 := spec0_5.stage ((cfgM m hO).slots t 5)
/-- It is a whole buffer. -/
abbrev hs0_5 (hO : Ok m) (t : Fin (cfgM m hO).N) : (ms0_5 m hO t).IsWhole := hstage0_5 (((cfgM m hO).slots t 5).cast nbuf0_5)
/-- Window 6's staging buffer at a point. -/
abbrev ms0_6 (hO : Ok m) (t : Fin (cfgM m hO).N) : Memref sig .tc .vmem S768x2048 .f32 := spec0_6.stage ((cfgM m hO).slots t 6)
/-- It is a whole buffer. -/
abbrev hs0_6 (hO : Ok m) (t : Fin (cfgM m hO).N) : (ms0_6 m hO t).IsWhole := hstage0_6 (((cfgM m hO).slots t 6).cast nbuf0_6)
/-- Window 7's staging buffer at a point. -/
abbrev ms0_7 (hO : Ok m) (t : Fin (cfgM m hO).N) : Memref sig .tc .vmem S1x128x512 .f32 := spec0_7.stage ((cfgM m hO).slots t 7)
/-- It is a whole buffer. -/
abbrev hs0_7 (hO : Ok m) (t : Fin (cfgM m hO).N) : (ms0_7 m hO t).IsWhole := hstage0_7 (((cfgM m hO).slots t 7).cast nbuf0_7)
/-- Window 8's staging buffer at a point. -/
abbrev ms0_8 (hO : Ok m) (t : Fin (cfgM m hO).N) : Memref sig .tc .vmem S768x2048 .f32 := spec0_8.stage ((cfgM m hO).slots t 8)
/-- It is a whole buffer. -/
abbrev hs0_8 (hO : Ok m) (t : Fin (cfgM m hO).N) : (ms0_8 m hO t).IsWhole := hstage0_8 (((cfgM m hO).slots t 8).cast nbuf0_8)
/-- Window 9's staging buffer at a point. -/
abbrev ms0_9 (hO : Ok m) (t : Fin (cfgM m hO).N) : Memref sig .tc .vmem S768x2048 .bf16 := spec0_9.stage ((cfgM m hO).slots t 9)
/-- It is a whole buffer. -/
abbrev hs0_9 (hO : Ok m) (t : Fin (cfgM m hO).N) : (ms0_9 m hO t).IsWhole := hstage0_9 (((cfgM m hO).slots t 9).cast nbuf0_9)
/-- Window 10's staging buffer at a point. -/
abbrev ms0_10 (hO : Ok m) (t : Fin (cfgM m hO).N) : Memref sig .tc .vmem S1x128x512 .bf16 := spec0_10.stage ((cfgM m hO).slots t 10)
/-- It is a whole buffer. -/
abbrev hs0_10 (hO : Ok m) (t : Fin (cfgM m hO).N) : (ms0_10 m hO t).IsWhole := hstage0_10 (((cfgM m hO).slots t 10).cast nbuf0_10)

/-- Whether the accumulator is yet unstored after `n` points: bit `n` for position `n + 1`. -/
def freshTab0_8 : ℕ → Bool
  | 0 => true
  | n + 1 => (0x2004008010020040080100200400801002004008010020040080100200400 : ℕ).testBit n

/-- The table above follows the stores and write-backs. -/
theorem freshTab0_8_step (hO : Ok m) : ∀ t : Fin (cfgM m hO).N,
    freshTab0_8 (t.val + 1) = (((cfgM m hO).win 8).flush t || ((cfgM m hO).idle 8 ((cfgM m hO).grid.coords t) && freshTab0_8 t.val)) :=
  (by decide +kernel : ∀ t : Fin grid0.N,
    freshTab0_8 (t.val + 1) = (Pipeline.Window.flushOf grid0 true cc0_transform_8 t || (idle0 8 (grid0.coords t) && freshTab0_8 t.val)))

/-- So it says when the accumulator is unstored. -/
theorem fresh0_8_eq (hO : Ok m) (t : Fin (cfgM m hO).N) : (cfgM m hO).fresh 8 t.val = freshTab0_8 t.val :=
  Pipeline.Cfg.fresh_tab (cfgM m hO) 8 freshTab0_8 rfl (freshTab0_8_step m hO) t.val (Nat.le_of_lt t.isLt)

/-- The accumulator was stored before a middle inner step. -/
theorem notFresh0_8_B (hO : Ok m) (t : Fin (cfgM m hO).N) : ¬cond0_0 (grid0.coords t) → cond0_1 (grid0.coords t) → ¬cond0_2 (grid0.coords t) → (cfgM m hO).fresh 8 t.val = false := by
  rw [fresh0_8_eq m hO t]
  exact (by decide +kernel : ∀ t : Fin grid0.N, ¬cond0_0 (grid0.coords t) → cond0_1 (grid0.coords t) → ¬cond0_2 (grid0.coords t) → freshTab0_8 t.val = false) t

/-- The accumulator was stored before the last inner step. -/
theorem notFresh0_8_C (hO : Ok m) (t : Fin (cfgM m hO).N) : ¬cond0_0 (grid0.coords t) → ¬cond0_1 (grid0.coords t) → cond0_2 (grid0.coords t) → (cfgM m hO).fresh 8 t.val = false := by
  rw [fresh0_8_eq m hO t]
  exact (by decide +kernel : ∀ t : Fin grid0.N, ¬cond0_0 (grid0.coords t) → ¬cond0_1 (grid0.coords t) → cond0_2 (grid0.coords t) → freshTab0_8 t.val = false) t

end Cert.Kernel2Ideal.Steps

end
-- ==== Proof.FfnRunA.lean ====
/- The feed-forward body at the first inner step: it runs, and what it stores. -/
module

public import proofs.«01_k».proof.Proof.FfnTable

@[expose] public section

set_option maxRecDepth 16384

noncomputable section

namespace Cert.Kernel2Ideal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first inner step: what it stores in each output, and that it runs to the end storing that. The table is handed on unread. -/
noncomputable def kernelRun0_A (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : cond0_0 i) (hc1 : ¬cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) :
    Σ' (L8 : List (View.Piece (Elt F) S768x2048 .f32)), Σ' (L9 : List (View.Piece (Elt F) S768x2048 .bf16)), { L10 : List (View.Piece (Elt F) S1x128x512 .bf16) //
      ∀ (xi9 : Vec F S768x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xi9 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xi9 ∗ (∃ f, arg13.view.loc (c : Thread nD τ) ↦[arg13.view.set]{fullShare} arg13.view.writes (Elt F) f L10)) -∗ K ⟨⟩))
          ⊢ wp frame (wpE (defs₀ (F := F)) Variants.none c none) E (cc0_ffn i tbM0_0 htbM0_0 arg3 harg3 arg4 harg4 arg5 harg5 arg6 harg6 arg7 harg7 arg8 harg8 arg9 harg9 arg10 harg10 arg11 harg11 arg12 harg12 arg13 harg13) K } := by
  refine ⟨?_, [], ?_, fun xi9 E K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]
    · iexists _; isplitr; · ipureintro; exact harg12.read_unread _
      iexact H9
    iexists _; iexact H10

end Cert.Kernel2Ideal.Steps

end
-- ==== Proof.FfnRunB.lean ====
/- The feed-forward body at the middle inner steps: it runs, and what it stores. -/
module

public import proofs.«01_k».proof.Proof.FfnRunA

@[expose] public section

set_option maxRecDepth 16384

noncomputable section

namespace Cert.Kernel2Ideal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a middle inner step: what it stores in each output, and that it runs to the end storing that. The table is handed on unread. -/
noncomputable def kernelRun0_B (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) :
    Σ' (L8 : List (View.Piece (Elt F) S768x2048 .f32)), Σ' (L9 : List (View.Piece (Elt F) S768x2048 .bf16)), { L10 : List (View.Piece (Elt F) S1x128x512 .bf16) //
      ∀ (xi9 : Vec F S768x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo8 ∗ owns (c : Thread nD τ) arg12 fullShare xi9 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xi9 ∗ (∃ f, arg13.view.loc (c : Thread nD τ) ↦[arg13.view.set]{fullShare} arg13.view.writes (Elt F) f L10)) -∗ K ⟨⟩))
          ⊢ wp frame (wpE (defs₀ (F := F)) Variants.none c none) E (cc0_ffn i tbM0_0 htbM0_0 arg3 harg3 arg4 harg4 arg5 harg5 arg6 harg6 arg7 harg7 arg8 harg8 arg9 harg9 arg10 harg10 arg11 harg11 arg12 harg12 arg13 harg13) K } := by
  refine ⟨?_, [], ?_, fun xi9 E K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]
    · iexists _; isplitr; · ipureintro; exact harg12.read_unread _
      iexact H9
    iexists _; iexact H10

end Cert.Kernel2Ideal.Steps

end
-- ==== Proof.FfnRunC.lean ====
/- The feed-forward body at the last inner step: it runs, and what it stores. -/
module

public import proofs.«01_k».proof.Proof.FfnRunB

@[expose] public section

set_option maxRecDepth 16384

noncomputable section

namespace Cert.Kernel2Ideal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last inner step: what it stores in each output, and that it runs to the end storing that. The table is handed on unread. -/
noncomputable def kernelRun0_C (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : ¬cond0_1 i) (hc2 : cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) :
    Σ' (L8 : List (View.Piece (Elt F) S768x2048 .f32)), Σ' (L9 : List (View.Piece (Elt F) S768x2048 .bf16)), { L10 : List (View.Piece (Elt F) S1x128x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo8 ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10)) -∗ K ⟨⟩))
          ⊢ wp frame (wpE (defs₀ (F := F)) Variants.none c none) E (cc0_ffn i tbM0_0 htbM0_0 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    iexists _; iexact H10

end Cert.Kernel2Ideal.Steps

end
-- ==== Proof.FfnFrame.lean ====
/- The feed-forward call runs: what its outputs hold after every point, and that its arguments end as they began. -/
module

public import proofs.«01_k».proof.Proof.FfnRunC
public import Idealize.ShloMosaic.Lib.Claim

@[expose] public section

set_option maxRecDepth 16384

noncomputable section

namespace Cert.Kernel2Ideal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of the first inner step cover window 8. -/
theorem cover0_A_8 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : cond0_0 i) (hc1 : ¬cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (y : S768x2048.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1 S768x2048.size (by sl_kernel_rfl) y

/-- What the first inner step leaves in window 8. -/
def out0_A_8 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : cond0_0 i) (hc1 : ¬cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) : Vec F S768x2048 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1)

/-- What the first inner step leaves in window 9. -/
def out0_A_9 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : cond0_0 i) (hc1 : ¬cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) : Vec F S768x2048 .bf16 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.1)

/-- The stores of the first inner step cover window 10. -/
theorem cover0_A_10 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : cond0_0 i) (hc1 : ¬cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (y : S1x128x512.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1 S1x128x512.size (by sl_kernel_rfl) y

/-- What the first inner step leaves in window 10. -/
def out0_A_10 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : cond0_0 i) (hc1 : ¬cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) : Vec F S1x128x512 .bf16 :=
  VO0_10.read (Elt F) (VO0_10.writes (Elt F) VO0_10.junk (kernelRun0_A c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1)

/-- The stores of a middle inner step cover window 8. -/
theorem cover0_B_8 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) (y : S768x2048.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).1 S768x2048.size (by sl_kernel_rfl) y

/-- What a middle inner step leaves in window 8. -/
def out0_B_8 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) : Vec F S768x2048 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).1)

/-- What a middle inner step leaves in window 9. -/
def out0_B_9 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) : Vec F S768x2048 .bf16 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).2.1)

/-- The stores of a middle inner step cover window 10. -/
theorem cover0_B_10 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) (y : S1x128x512.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).2.2.1 S1x128x512.size (by sl_kernel_rfl) y

/-- What a middle inner step leaves in window 10. -/
def out0_B_10 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : cond0_1 i) (hc2 : ¬cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) : Vec F S1x128x512 .bf16 :=
  VO0_10.read (Elt F) (VO0_10.writes (Elt F) VO0_10.junk (kernelRun0_B c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).2.2.1)

/-- The stores of the last inner step cover window 8. -/
theorem cover0_C_8 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : ¬cond0_1 i) (hc2 : cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) (y : S768x2048.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).1 S256x2048.size (by sl_kernel_rfl) y

/-- What the last inner step leaves in window 8. -/
def out0_C_8 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : ¬cond0_1 i) (hc2 : cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) : Vec F S768x2048 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).1)

/-- The stores of the last inner step cover window 9. -/
theorem cover0_C_9 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : ¬cond0_1 i) (hc2 : cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) (y : S768x2048.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).2.1 S256x2048.size (by sl_kernel_rfl) y

/-- What the last inner step leaves in window 9. -/
def out0_C_9 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : ¬cond0_1 i) (hc2 : cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) : Vec F S768x2048 .bf16 :=
  VO0_9.read (Elt F) (VO0_9.writes (Elt F) VO0_9.junk (kernelRun0_C c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).2.1)

/-- The stores of the last inner step cover window 10. -/
theorem cover0_C_10 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : ¬cond0_1 i) (hc2 : cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) (y : S1x128x512.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).2.2.1 S1x128x512.size (by sl_kernel_rfl) y

/-- What the last inner step leaves in window 10. -/
def out0_C_10 (c : Dev nD) (i : grid0.Coords) (arg3 : Memref sig .tc .vmem S768x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1x2048 .f32) (harg8 : arg8.IsWhole) (arg9 : Memref sig .tc .vmem S768x2048 .f32) (harg9 : arg9.IsWhole) (arg10 : Memref sig .tc .vmem S1x128x512 .f32) (harg10 : arg10.IsWhole) (arg11 : Memref sig .tc .vmem S768x2048 .f32) (harg11 : arg11.IsWhole) (arg12 : Memref sig .tc .vmem S768x2048 .bf16) (harg12 : arg12.IsWhole) (arg13 : Memref sig .tc .vmem S1x128x512 .bf16) (harg13 : arg13.IsWhole) (hc0 : ¬cond0_0 i) (hc1 : ¬cond0_1 i) (hc2 : cond0_2 i)
    (x0 : Vec F S768x2048 .bf16) (x1 : Vec F S1x2048x512 .bf16) (x2 : Vec F S1x2048x512 .bf16) (x3 : Vec F S512x2048 .bf16) (x4 : Vec F S1x2048 .f32) (x5 : Vec F S1x2048 .f32) (x6 : Vec F S768x2048 .f32) (x7 : Vec F S1x128x512 .f32) (xo8 : Vec F S768x2048 .f32) : Vec F S1x128x512 .bf16 :=
  VO0_10.read (Elt F) (VO0_10.writes (Elt F) VO0_10.junk (kernelRun0_C c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xo8).2.2.1)

/-- What the outputs hold after each point. -/
def outsAt0 (hO : Ok m) (c : Dev nD) : (n : ℕ) → n < (cfgM m hO).N → Vec F S768x2048 .f32 × Vec F S768x2048 .bf16 × Vec F S1x128x512 .bf16
  | 0, hn => (out0_A_8 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩), out0_A_9 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩), out0_A_10 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩))
  | n + 1, hn =>
    if h0 : (n + 1) % 11 = 0 then
      if h1 : (1 ≤ (n + 1) % 11 ∧ (n + 1) % 11 ≤ 9) then
        False.elim (by have hN : n + 1 < 242 := lt_of_lt_of_eq hn (show (cfgM m hO).N = 242 from N_0); omega)
      else
        if h2 : (n + 1) % 11 = 10 then
          False.elim (by have hN : n + 1 < 242 := lt_of_lt_of_eq hn (show (cfgM m hO).N = 242 from N_0); omega)
        else
          (out0_A_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) ((hcond0_0 ⟨n + 1, hn⟩).mpr h0) (fun h => h1 ((hcond0_1 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩), out0_A_9 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) ((hcond0_0 ⟨n + 1, hn⟩).mpr h0) (fun h => h1 ((hcond0_1 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩), out0_A_10 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) ((hcond0_0 ⟨n + 1, hn⟩).mpr h0) (fun h => h1 ((hcond0_1 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩))
    else
      if h1 : (1 ≤ (n + 1) % 11 ∧ (n + 1) % 11 ≤ 9) then
        if h2 : (n + 1) % 11 = 10 then
          False.elim (by have hN : n + 1 < 242 := lt_of_lt_of_eq hn (show (cfgM m hO).N = 242 from N_0); omega)
        else
          (out0_B_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (fun h => h0 ((hcond0_0 ⟨n + 1, hn⟩).mp h)) ((hcond0_1 ⟨n + 1, hn⟩).mpr h1) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (outsAt0 hO c n (Nat.lt_of_succ_lt hn)).1, out0_B_9 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (fun h => h0 ((hcond0_0 ⟨n + 1, hn⟩).mp h)) ((hcond0_1 ⟨n + 1, hn⟩).mpr h1) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (outsAt0 hO c n (Nat.lt_of_succ_lt hn)).1, out0_B_10 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (fun h => h0 ((hcond0_0 ⟨n + 1, hn⟩).mp h)) ((hcond0_1 ⟨n + 1, hn⟩).mpr h1) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (outsAt0 hO c n (Nat.lt_of_succ_lt hn)).1)
      else
        if h2 : (n + 1) % 11 = 10 then
          (out0_C_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (fun h => h0 ((hcond0_0 ⟨n + 1, hn⟩).mp h)) (fun h => h1 ((hcond0_1 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (outsAt0 hO c n (Nat.lt_of_succ_lt hn)).1, out0_C_9 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (fun h => h0 ((hcond0_0 ⟨n + 1, hn⟩).mp h)) (fun h => h1 ((hcond0_1 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (outsAt0 hO c n (Nat.lt_of_succ_lt hn)).1, out0_C_10 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (fun h => h0 ((hcond0_0 ⟨n + 1, hn⟩).mp h)) (fun h => h1 ((hcond0_1 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (outsAt0 hO c n (Nat.lt_of_succ_lt hn)).1)
        else
          False.elim (by have hN : n + 1 < 242 := lt_of_lt_of_eq hn (show (cfgM m hO).N = 242 from N_0); omega)

set_option maxHeartbeats 2000000 in
/-- The outputs after the first inner step. -/
theorem outsAt0_A (hO : Ok m) (c : Dev nD) (t : Fin (cfgM m hO).N) (h0 : t.val % 11 = 0) (h1 : ¬(1 ≤ t.val % 11 ∧ t.val % 11 ≤ 9)) (h2 : ¬t.val % 11 = 10) :
    outsAt0 m hO c t.val t.isLt = (out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) ((hcond0_0 t).mpr h0) (fun h => h1 ((hcond0_1 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t), out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) ((hcond0_0 t).mpr h0) (fun h => h1 ((hcond0_1 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t), out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) ((hcond0_0 t).mpr h0) (fun h => h1 ((hcond0_1 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t)) := by
  obtain ⟨n, hn⟩ := t
  cases n with
  | zero => exact rfl
  | succ n => exact (dif_pos h0).trans ((dif_neg h1).trans ((dif_neg h2).trans rfl))

set_option maxHeartbeats 2000000 in
/-- The outputs after a middle inner step. -/
theorem outsAt0_B (hO : Ok m) (c : Dev nD) (t : Fin (cfgM m hO).N) (h0 : ¬t.val % 11 = 0) (h1 : (1 ≤ t.val % 11 ∧ t.val % 11 ≤ 9)) (h2 : ¬t.val % 11 = 10) :
    outsAt0 m hO c t.val t.isLt = (out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) ((hcond0_1 t).mpr h1) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (outsAt0 m hO c (t.val - 1) (Nat.lt_of_le_of_lt (Nat.sub_le _ _) t.isLt)).1, out0_B_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) ((hcond0_1 t).mpr h1) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (outsAt0 m hO c (t.val - 1) (Nat.lt_of_le_of_lt (Nat.sub_le _ _) t.isLt)).1, out0_B_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) ((hcond0_1 t).mpr h1) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (outsAt0 m hO c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans ((dif_neg h2).trans rfl))

set_option maxHeartbeats 2000000 in
/-- The outputs after the last inner step. -/
theorem outsAt0_C (hO : Ok m) (c : Dev nD) (t : Fin (cfgM m hO).N) (h0 : ¬t.val % 11 = 0) (h1 : ¬(1 ≤ t.val % 11 ∧ t.val % 11 ≤ 9)) (h2 : t.val % 11 = 10) :
    outsAt0 m hO c t.val t.isLt = (out0_C_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (outsAt0 m hO c (t.val - 1) (Nat.lt_of_le_of_lt (Nat.sub_le _ _) t.isLt)).1, out0_C_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (outsAt0 m hO c (t.val - 1) (Nat.lt_of_le_of_lt (Nat.sub_le _ _) t.isLt)).1, out0_C_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (outsAt0 m hO c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The data of the call: its arrays, and what the body leaves in each window. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t.val t.isLt).1
    | ⟨9, _⟩ => (outsAt0 m hO c t.val t.isLt).2.1
    | ⟨10, _⟩ => (outsAt0 m hO c t.val t.isLt).2.2
  Φ _ := iprop(Pipeline.ΦA spec0 c ∗ Pipeline.ΦT pre0 (tbl m) c)
  q _ := fullShare
  owed _ := 0

/-- The arrays are what the call finds. -/
theorem A_eq (hO : Ok m) (c : Dev nD) (w : Fin (cfgM m hO).W) : (dats m hO 0 c).A w = V m c (Pipeline.arrRef spec0 w) := by
  dsimp only [dats]

/-- What the body leaves in window 0. -/
theorem after0_0 (hO : Ok m) (c : Dev nD) (t : Fin (cfgM m hO).N) : (dats m hO 0 c).after 0 t = iblk m hO c 0 t := by dsimp only [dats]; try rfl
/-- What the body leaves in window 1. -/
theorem after0_1 (hO : Ok m) (c : Dev nD) (t : Fin (cfgM m hO).N) : (dats m hO 0 c).after 1 t = iblk m hO c 1 t := by dsimp only [dats]; try rfl
/-- What the body leaves in window 2. -/
theorem after0_2 (hO : Ok m) (c : Dev nD) (t : Fin (cfgM m hO).N) : (dats m hO 0 c).after 2 t = iblk m hO c 2 t := by dsimp only [dats]; try rfl
/-- What the body leaves in window 3. -/
theorem after0_3 (hO : Ok m) (c : Dev nD) (t : Fin (cfgM m hO).N) : (dats m hO 0 c).after 3 t = iblk m hO c 3 t := by dsimp only [dats]; try rfl
/-- What the body leaves in window 4. -/
theorem after0_4 (hO : Ok m) (c : Dev nD) (t : Fin (cfgM m hO).N) : (dats m hO 0 c).after 4 t = iblk m hO c 4 t := by dsimp only [dats]; try rfl
/-- What the body leaves in window 5. -/
theorem after0_5 (hO : Ok m) (c : Dev nD) (t : Fin (cfgM m hO).N) : (dats m hO 0 c).after 5 t = iblk m hO c 5 t := by dsimp only [dats]; try rfl
/-- What the body leaves in window 6. -/
theorem after0_6 (hO : Ok m) (c : Dev nD) (t : Fin (cfgM m hO).N) : (dats m hO 0 c).after 6 t = iblk m hO c 6 t := by dsimp only [dats]; try rfl
/-- What the body leaves in window 7. -/
theorem after0_7 (hO : Ok m) (c : Dev nD) (t : Fin (cfgM m hO).N) : (dats m hO 0 c).after 7 t = iblk m hO c 7 t := by dsimp only [dats]; try rfl
/-- What the body leaves in window 8. -/
theorem after0_8 (hO : Ok m) (c : Dev nD) (t : Fin (cfgM m hO).N) : (dats m hO 0 c).after 8 t = (outsAt0 m hO c t.val t.isLt).1 := by dsimp only [dats]; try rfl
/-- What the body leaves in window 9. -/
theorem after0_9 (hO : Ok m) (c : Dev nD) (t : Fin (cfgM m hO).N) : (dats m hO 0 c).after 9 t = (outsAt0 m hO c t.val t.isLt).2.1 := by dsimp only [dats]; try rfl
/-- What the body leaves in window 10. -/
theorem after0_10 (hO : Ok m) (c : Dev nD) (t : Fin (cfgM m hO).N) : (dats m hO 0 c).after 10 t = (outsAt0 m hO c t.val t.isLt).2.2 := by dsimp only [dats]; try rfl

/-- Window 0 holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Window 1 holds its block at every point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Window 2 holds its block at every point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Window 3 holds its block at every point. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- Window 4 holds its block at every point. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- Window 5 holds its block at every point. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
/-- Window 6 holds its block at every point. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
/-- Window 7 holds its block at every point. -/
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-- Where the accumulator is not stored it keeps its contents. -/
theorem hcarry0_8 (hO : Ok m) (c : Dev nD) : ∀ (t : Fin (cfgM m hO).N) (_ : t.val ≠ 0), (cfgM m hO).idle 8 (grid0.coords t) = true → (cfgM m hO).fresh 8 t.val = false →
    (dats m hO 0 c).after 8 t = (dats m hO 0 c).after 8 ⟨t.val - 1, by omega⟩ := by
  intro t _ hi _
  have hN : t.val < 242 := lt_of_lt_of_eq t.isLt (show (cfgM m hO).N = 242 from N_0)
  rw [after0_8, after0_8]
  by_cases h0 : t.val % 11 = 0
  · by_cases h1 : (1 ≤ t.val % 11 ∧ t.val % 11 ≤ 9)
    · exfalso; omega
    · by_cases h2 : t.val % 11 = 10
      · exfalso; omega
      · rw [liveAt0_8_A m hO t ((hcond0_0 t).mpr h0) (fun h => h1 ((hcond0_1 t).mp h)) (fun h => h2 ((hcond0_2 t).mp h))] at hi
        exact absurd hi Bool.false_ne_true
  · by_cases h1 : (1 ≤ t.val % 11 ∧ t.val % 11 ≤ 9)
    · by_cases h2 : t.val % 11 = 10
      · exfalso; omega
      · rw [liveAt0_8_B m hO t (fun h => h0 ((hcond0_0 t).mp h)) ((hcond0_1 t).mpr h1) (fun h => h2 ((hcond0_2 t).mp h))] at hi
        exact absurd hi Bool.false_ne_true
    · by_cases h2 : t.val % 11 = 10
      · rw [liveAt0_8_C m hO t (fun h => h0 ((hcond0_0 t).mp h)) (fun h => h1 ((hcond0_1 t).mp h)) ((hcond0_2 t).mpr h2)] at hi
        exact absurd hi Bool.false_ne_true
      · exfalso; omega
/-- At a middle inner step the accumulator holds what the step before left. -/
theorem before0_8_B (hO : Ok m) (c : Dev nD) (t : Fin (cfgM m hO).N) (h0 : ¬t.val % 11 = 0) (h1 : (1 ≤ t.val % 11 ∧ t.val % 11 ≤ 9)) (h2 : ¬t.val % 11 = 10) (d) :
    (dats m hO 0 c).before 8 t d = (outsAt0 m hO c (t.val - 1) (Nat.lt_of_le_of_lt (Nat.sub_le _ _) t.isLt)).1 := by
  rw [Dat.before_out_traj _ 8 rfl (fun _ _ => rfl) (hcarry0_8 m hO c) t.val t rfl d,
    if_neg (by rw [notFresh0_8_B m hO t (fun h => h0 ((hcond0_0 t).mp h)) ((hcond0_1 t).mpr h1) (fun h => h2 ((hcond0_2 t).mp h))]; exact Bool.false_ne_true)]
  dsimp only [dats]; try rfl
/-- At the last inner step the accumulator holds what the step before left. -/
theorem before0_8_C (hO : Ok m) (c : Dev nD) (t : Fin (cfgM m hO).N) (h0 : ¬t.val % 11 = 0) (h1 : ¬(1 ≤ t.val % 11 ∧ t.val % 11 ≤ 9)) (h2 : t.val % 11 = 10) (d) :
    (dats m hO 0 c).before 8 t d = (outsAt0 m hO c (t.val - 1) (Nat.lt_of_le_of_lt (Nat.sub_le _ _) t.isLt)).1 := by
  rw [Dat.before_out_traj _ 8 rfl (fun _ _ => rfl) (hcarry0_8 m hO c) t.val t rfl d,
    if_neg (by rw [notFresh0_8_C m hO t (fun h => h0 ((hcond0_0 t).mp h)) (fun h => h1 ((hcond0_1 t).mp h)) ((hcond0_2 t).mpr h2)]; exact Bool.false_ne_true)]
  dsimp only [dats]; try rfl

/-- What the body is handed at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d)))

/-- What it hands back. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t)

set_option maxHeartbeats 2400000 in
/-- The body runs at every point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl]
  have hN : t.val < 242 := lt_of_lt_of_eq t.isLt (show (cfgM m hO).N = 242 from N_0)
  by_cases h0 : t.val % 11 = 0
  · by_cases h1 : (1 ≤ t.val % 11 ∧ t.val % 11 ≤ 9)
    · exfalso; omega
    · by_cases h2 : t.val % 11 = 10
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8_A m hO t ((hcond0_0 t).mpr h0) (fun h => h1 ((hcond0_1 t).mp h)) (fun h => h2 ((hcond0_2 t).mp h))]; try rfl, after0_8]
        rw [Dat.leavesExact_idle (dats m hO 0 c) 9 t (idleAt0_9_A m hO t ((hcond0_0 t).mpr h0) (fun h => h1 ((hcond0_1 t).mp h)) (fun h => h2 ((hcond0_2 t).mp h))) (noFlush0_9_A m hO t ((hcond0_0 t).mpr h0) (fun h => h1 ((hcond0_1 t).mp h)) (fun h => h2 ((hcond0_2 t).mp h)))]
        rw [show (dats m hO 0 c).leavesExact 10 t = owns (c : Thread nD τ) (ms0_10 m hO t) fullShare ((dats m hO 0 c).after 10 t) from by
      unfold Dat.leavesExact; rw [liveAt0_10_A m hO t ((hcond0_0 t).mpr h0) (fun h => h1 ((hcond0_1 t).mp h)) (fun h => h2 ((hcond0_2 t).mp h))]; try rfl, after0_10]
        rw [outsAt0_A m hO c t h0 h1 h2]
        unfold out0_A_8 out0_A_10; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ ((hcond0_0 t).mpr h0) (fun h => h1 ((hcond0_1 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexists _; iexact H10
        iintro ⟨H0, H1, H2, H3, H4, H5, H6, H7, ⟨%e8, H8⟩, H9, ⟨%e10, H10⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _)
        isplitl [H9]; · iexists _; iexact H9
        unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _)
  · by_cases h1 : (1 ≤ t.val % 11 ∧ t.val % 11 ≤ 9)
    · by_cases h2 : t.val % 11 = 10
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8_B m hO t (fun h => h0 ((hcond0_0 t).mp h)) ((hcond0_1 t).mpr h1) (fun h => h2 ((hcond0_2 t).mp h))]; try rfl, after0_8]
        rw [Dat.leavesExact_idle (dats m hO 0 c) 9 t (idleAt0_9_B m hO t (fun h => h0 ((hcond0_0 t).mp h)) ((hcond0_1 t).mpr h1) (fun h => h2 ((hcond0_2 t).mp h))) (noFlush0_9_B m hO t (fun h => h0 ((hcond0_0 t).mp h)) ((hcond0_1 t).mpr h1) (fun h => h2 ((hcond0_2 t).mp h)))]
        rw [show (dats m hO 0 c).leavesExact 10 t = owns (c : Thread nD τ) (ms0_10 m hO t) fullShare ((dats m hO 0 c).after 10 t) from by
      unfold Dat.leavesExact; rw [liveAt0_10_B m hO t (fun h => h0 ((hcond0_0 t).mp h)) ((hcond0_1 t).mpr h1) (fun h => h2 ((hcond0_2 t).mp h))]; try rfl, after0_10]
        rw [outsAt0_B m hO c t h0 h1 h2]
        simp only [before0_8_B m hO c t h0 h1 h2]
        unfold out0_B_8 out0_B_10; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ (fun h => h0 ((hcond0_0 t).mp h)) ((hcond0_1 t).mpr h1) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iintro ⟨H0, H1, H2, H3, H4, H5, H6, H7, ⟨%e8, H8⟩, H9, ⟨%e10, H10⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _)
        isplitl [H9]; · iexists _; iexact H9
        unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _)
    · by_cases h2 : t.val % 11 = 10
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8_C m hO t (fun h => h0 ((hcond0_0 t).mp h)) (fun h => h1 ((hcond0_1 t).mp h)) ((hcond0_2 t).mpr h2)]; try rfl, after0_8]
        rw [show (dats m hO 0 c).leavesExact 9 t = owns (c : Thread nD τ) (ms0_9 m hO t) fullShare ((dats m hO 0 c).after 9 t) from by
      unfold Dat.leavesExact; rw [liveAt0_9_C m hO t (fun h => h0 ((hcond0_0 t).mp h)) (fun h => h1 ((hcond0_1 t).mp h)) ((hcond0_2 t).mpr h2)]; try rfl, after0_9]
        rw [show (dats m hO 0 c).leavesExact 10 t = owns (c : Thread nD τ) (ms0_10 m hO t) fullShare ((dats m hO 0 c).after 10 t) from by
      unfold Dat.leavesExact; rw [liveAt0_10_C m hO t (fun h => h0 ((hcond0_0 t).mp h)) (fun h => h1 ((hcond0_1 t).mp h)) ((hcond0_2 t).mpr h2)]; try rfl, after0_10]
        rw [outsAt0_C m hO c t h0 h1 h2]
        simp only [before0_8_C m hO c t h0 h1 h2]
        unfold out0_C_8 out0_C_9 out0_C_10; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        iintro ⟨H0, H1, H2, H3, H4, H5, H6, H7, ⟨%e8, H8⟩, ⟨%e9, H9⟩, ⟨%e10, H10⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _)
      · exfalso; omega

/-- The body the call runs. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body keeps the data at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl
set_option backward.isDefEq.respectTransparency.types false in
/-- The program runs, its arrays end as the data say, and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The same without the semaphores. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they began. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- The arguments end as they began and the semaphores at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.Kernel2Ideal.Steps

end
-- ==== Proof.FfnOk.lean ====
/- The prefetched table holds the next layer's number, which is 1: every block of the next layer's weights is inside
   their array. -/
module

public import proofs.«01_k».proof.Proof.FfnFrame
public import Idealize.ShloMosaic.Lib.StableHlo.ReadAt

@[expose] public section

set_option maxRecDepth 16384

noncomputable section

namespace Cert.Kernel2Ideal.Steps

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ)

/-- The table's word is the next layer's number. -/
theorem tbl_eq (i : S1.Idx) : (tbl m 0 : S1.Idx → BitVec 32) i = 1#32 := by
  show V m 0 main_v16 i = 1#32
  unfold V
  after_reads_at

/-- The block of the next weights at a point, the layer's number filled in. -/
def nextBlk (i : grid0.Coords) : Fin 3 → ℕ :=
  ![1, (Scalar.minsi (BitVec.ofNat 32 (i 0).val) 15#32).toNat, (BitVec.ofNat 32 (i 1).val).toNat]

/-- It is what the table gives. -/
theorem transform_7_eq (i : grid0.Coords) : cc0_transform_7 inb_S1_S1_0 numel1_S1 (tbl m) i = nextBlk i := by
  unfold cc0_transform_7 nextBlk
  dsimp only
  rw [show (tbl m).at 0 (Rect.unit (s := S1) ![0] S1.size inb_S1_S1_0) numel1_S1 = 1#32 from tbl_eq m _]
  rfl

/-- The table puts every block inside its array. -/
theorem ok : Ok m := by
  refine ⟨fun i => ?_, ?_⟩
  · rw [transform_7_eq m i]
    refine ⟨?_, Or.inl rfl⟩
    revert i
    decide +kernel
  · exact {
      isIn := rfl
      isOut := rfl
      rank := rfl
      size := (by decide : ∀ (a : Fin (spec0 6).shape.rank) (a' : Fin (spec0 8).shape.rank), a.val = a'.val → (spec0 6).size a = (spec0 8).size a')
      index := (by decide +kernel : ∀ (c : grid0.Coords) (a : Fin 2) (a' : Fin 2), a.val = a'.val → cc0_transform_6 c a = cc0_transform_8 c a')
      ordered := (by decide +kernel : ∀ (u u' : Fin grid0.N), u'.val < u.val → Pipeline.WinSpec.fetchAt (G := grid0) (spec0 6) cc0_transform_6 u = true →
        Pipeline.WinSpec.flushAt (G := grid0) (spec0 8) cc0_transform_8 u' = true → cc0_transform_8 (grid0.coords u') ≠ cc0_transform_8 (grid0.coords u)) }

/-- The first result's block is written back at the last tile's points. -/
theorem flush0_8 (a : (pcfg0 (F := F)).Adm) : ∀ t : Fin (cfg0 a).N, ((cfg0 a).win 8).flush t = true ↔ t.val % 11 = 10 :=
  (fun t => Pipeline.Window.flushOf_reads cc0_transform_8 reads0_8 hreads0_8 0 (by decide) (by decide) (Pipeline.Window.sep_of_coord cc0_transform_8 0 0 (fun _ => rfl) (by decide)) (P := 11) (m := 10) (by decide) rfl t : ∀ t : Fin grid0.N, Pipeline.Window.flushOf grid0 true cc0_transform_8 t = true ↔ t.val % 11 = 10)

/-- So is the second's. -/
theorem flush0_9 (a : (pcfg0 (F := F)).Adm) : ∀ t : Fin (cfg0 a).N, ((cfg0 a).win 9).flush t = true ↔ t.val % 11 = 10 :=
  (fun t => Pipeline.Window.flushOf_reads cc0_transform_9 reads0_9 hreads0_9 0 (by decide) (by decide) (Pipeline.Window.sep_of_coord cc0_transform_9 0 0 (fun _ => rfl) (by decide)) (P := 11) (m := 10) (by decide) rfl t : ∀ t : Fin grid0.N, Pipeline.Window.flushOf grid0 true cc0_transform_9 t = true ↔ t.val % 11 = 10)

/-- The third's at every point. -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 0 (fun _ => rfl) (by decide)) (P := 1) (m := 0) (by decide) rfl t).mpr (Nat.mod_one _) : ∀ t : Fin grid0.N, Pipeline.Window.flushOf grid0 true cc0_transform_10 t = true)

/-- The run with the result arrays as the data have them, the arguments as they began. -/
theorem run_blocks (ρ : Dev nD → PrngReg) : θ_run defs (onTc (τ := τ) (main (F := F))) ⟨m, fun _ => 0, ρ⟩ fun r => ∀ c : Dev nD,
      r.2.mem ((c : Thread nD τ).loc main_v17_0) = (dats m (ok m) 0 c).arrAt 8 (cfgM m (ok m)).N
      ∧ r.2.mem ((c : Thread nD τ).loc main_v17_1) = (dats m (ok m) 0 c).arrAt 9 (cfgM m (ok m)).N
      ∧ r.2.mem ((c : Thread nD τ).loc main_v17_2) = (dats m (ok m) 0 c).arrAt 10 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 8, (h c).1 9, (h c).1 10,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).1 7).trans (((dats m (ok m) 0 c).arrAt_in 7 rfl _).trans ((A_eq m (ok m) c 7).trans (V_main_arg7 m c)))⟩)
    (run_main m ρ (ok m))

end Cert.Kernel2Ideal.Steps

end
-- ==== Proof.FfnMath.lean ====
module

public import proofs.«01_k».proof.Proof.Words

/-! # A row of the feed-forward part

What the feed-forward part makes of one row: the gate, the two products, the root mean square norms; and that
the product over 5632 columns is the sum over eleven tiles of 512. -/

@[expose] public section

set_option maxRecDepth 16384

noncomputable section

namespace Cert.FfnRow

open Idealize.ShloMosaic
open Cert.Words

/-- The gate as the kernel computes it, of half its argument. -/
def gate (x : EReal) : EReal :=
  (Ideal.ofBits .f32 1056964608#32 * x) * Ideal.tanh (Ideal.ofBits .f32 1056964608#32 * x) + Ideal.ofBits .f32 1056964608#32 * x

/-- One half. -/
theorem half : Ideal.ofBits .f32 1056964608#32 = ((1 / 2 : ℝ) : EReal) := by
  simp [Ideal.ofBits, Ideal.ieee, -EReal.coe_mul]; norm_num

/-- One. -/
theorem one : Ideal.ofBits .f32 1065353216#32 = ((1 : ℝ) : EReal) := by
  simp [Ideal.ofBits, Ideal.ieee, -EReal.coe_mul]; norm_num

/-- The two forms of the gate, over the reals. -/
theorem real_gate (x : ℝ) : (1 / 2 * x) * Real.tanh (1 / 2 * x) + 1 / 2 * x = x * (1 / (1 + Real.exp (-x))) := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have ha := Real.exp_pos (1 / 2 * x)
  have hb := Real.exp_pos (-(1 / 2 * x))
  rw [Real.tanh_eq_sinh_div_cosh, Real.sinh_eq, Real.cosh_eq, h1]
  generalize Real.exp (1 / 2 * x) = a at *
  generalize Real.exp (-(1 / 2 * x)) = b at *
  have hab : a + b ≠ 0 := by positivity
  have hbb : 1 + b * b ≠ 0 := by positivity
  field_simp
  linear_combination (2 * x * b) * h2

/-- On a real argument the kernel's gate is the argument times its logistic. -/
theorem gate_real (x : ℝ) : gate (x : EReal)
    = (x : EReal) * Ideal.div (Ideal.ofBits .f32 1065353216#32) (Ideal.ofBits .f32 1065353216#32 + Ideal.exp (-(x : EReal))) := by
  have hp : (1 + Real.exp (-x)) ≠ 0 := by positivity
  unfold gate
  rw [half, one, ← EReal.coe_neg, Ideal.exp_coe, ← EReal.coe_add, Ideal.div_coe hp, ← EReal.coe_mul, ← EReal.coe_mul]
  show ((1 / 2 * x : ℝ) : EReal) * ((Real.tanh (1 / 2 * x) : ℝ) : EReal) + _ = _
  rw [← EReal.coe_mul, ← EReal.coe_add, real_gate, one_mul, EReal.coe_mul]

/-- One tile's share of an entry of the second product. -/
def tile (u : Fin 2048 → EReal) (wg wu : Fin 2048 → Fin 512 → EReal) (wd : Fin 512 → EReal) : EReal :=
  ∑ x, gate (∑ k, u k * wg k x) * (∑ k, u k * wu k x) * wd x

/-- An entry of the second product. -/
def down (u : Fin 2048 → EReal) (wg wu : Fin 2048 → Fin 5632 → EReal) (wd : Fin 5632 → EReal) : EReal :=
  ∑ l, gate (∑ k, u k * wg k l) * (∑ k, u k * wu k l) * wd l

/-- The tiles' shares add up. -/
theorem sum_tiles (u : Fin 2048 → EReal) (wg wu : Fin 2048 → Fin 5632 → EReal) (wd : Fin 5632 → EReal) :
    ∑ j : Fin 11, tile u (fun k x => wg k ⟨512 * j.val + x.val, by omega⟩) (fun k x => wu k ⟨512 * j.val + x.val, by omega⟩)
      (fun x => wd ⟨512 * j.val + x.val, by omega⟩) = down u wg wu wd := by
  unfold tile down
  rw [← Finset.sum_product', Finset.univ_product_univ]
  refine Fintype.sum_equiv (finProdFinEquiv (m := 11) (n := 512)) _ _ fun p => ?_
  have : (finProdFinEquiv p : Fin 5632) = ⟨512 * p.1.val + p.2.val, by omega⟩ := Fin.ext (by simp [finProdFinEquiv]; omega)
  rw [this]

/-- A row of zeros has no share. -/
theorem down_zero (wg wu : Fin 2048 → Fin 5632 → EReal) (wd : Fin 5632 → EReal) : down (fun _ => 0) wg wu wd = 0 := by
  have h : gate 0 = 0 := by
    unfold gate; simp
  unfold down
  simp [h]

/-- The factor of the root mean square norm. -/
def scale (y : Fin 2048 → EReal) : EReal :=
  Ideal.rsqrt (Ideal.div (∑ k, y k * y k) (Ideal.ofBits .f32 1157627904#32) + Ideal.ofBits .f32 897988541#32)

/-- The residual row: what is added is normed. -/
def post (h y g : Fin 2048 → EReal) (d : Fin 2048) : EReal := h d + y d * scale y * g d

/-- The next part's argument: the residual row, normed. -/
def norm (h g : Fin 2048 → EReal) (d : Fin 2048) : EReal := h d * scale h * g d

/-- The bit that says that a row is none of the rows in front of a sequence. -/
def mask (w : BitVec 32) : BitVec 1 :=
  IntOp.andi
    (IntOp.andi
      (IntOp.andi
        (IntOp.andi (IntOp.cmpi .sge w 0#32)
          (IntOp.xori (IntOp.andi (IntOp.cmpi .sge w 0#32) (IntOp.cmpi .slt w 112#32)) 1#1))
        (IntOp.xori (IntOp.andi (IntOp.cmpi .sge w 4224#32) (IntOp.cmpi .slt w 4336#32)) 1#1))
      (IntOp.xori (IntOp.andi (IntOp.cmpi .sge w 8448#32) (IntOp.cmpi .slt w 8560#32)) 1#1))
    (IntOp.xori (IntOp.andi (IntOp.cmpi .sge w 12672#32) (IntOp.cmpi .slt w 12784#32)) 1#1)

/-- The row's number as a word. -/
theorem row_word (i c r : ℕ) :
    IntOp.addi (Scalar.addi (Scalar.muli (BitVec.ofNat 32 i) 768#32) (BitVec.ofNat 32 c)) (BitVec.ofNat 32 r)
      = W (768 * i + c + r : ℕ) := by
  show IntOp.addi (IntOp.addi (IntOp.muli (BitVec.ofNat 32 i) (BitVec.ofNat 32 768)) (BitVec.ofNat 32 c)) (BitVec.ofNat 32 r) = _
  simp only [ofNat_eq, muli_W, addi_W]
  congr 1
  push_cast
  ring

/-- The bit, as a condition on the row's number. -/
theorem mask_W (n : ℕ) (hn : n < 16896) : mask (W n) = bit (¬ n % 4224 < 112) := by
  unfold mask
  rw [show (0#32 : BitVec 32) = W 0 from rfl, show (112#32 : BitVec 32) = W 112 from rfl, show (4224#32 : BitVec 32) = W 4224 from rfl,
    show (4336#32 : BitVec 32) = W 4336 from rfl, show (8448#32 : BitVec 32) = W 8448 from rfl, show (8560#32 : BitVec 32) = W 8560 from rfl,
    show (12672#32 : BitVec 32) = W 12672 from rfl, show (12784#32 : BitVec 32) = W 12784 from rfl]
  have hw : (-2147483648 : ℤ) ≤ n ∧ (n : ℤ) < 2147483648 := by omega
  rw [sge_W _ _ hw (by omega), slt_W _ _ hw (by omega), sge_W _ _ hw (by omega), slt_W _ _ hw (by omega), sge_W _ _ hw (by omega),
    slt_W _ _ hw (by omega), sge_W _ _ hw (by omega), slt_W _ _ hw (by omega)]
  simp only [andi_bit, not_bit]
  exact bit_congr _ _ (by omega)

end Cert.FfnRow

end
-- ==== Proof.FfnBlock.lean ====
module

public import Idealize.ShloMosaic.Lib.Pipeline.ValueKit
public import proofs.«01_k».proof.Proof.Gen.Kernel2Ideal.Skeleton
public import proofs.«01_k».proof.Proof.FfnMath

/-! # What the feed-forward call stores, entry by entry -/

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Cert.Words
open Cert.FfnRow

/-- The tile's share at a row of the block, at the blocks it reads. -/
def blkTile {n : ℕ} (u : Fin n → Fin 2048 → EReal) (wg wu : Vec Ideal S1x2048x512 .bf16) (wd : Vec Ideal S512x2048 .bf16)
    (r : Fin n) (d : Fin 2048) : EReal :=
  tile (u r) (fun k x => wg (ix3 0 k x)) (fun k x => wu (ix3 0 k x)) (fun x => wd (ix2 x d))

section

variable (u : Vec Ideal S768x2048 .bf16) (uq : Vec Ideal S256x2048 .bf16) (acc : Vec Ideal S768x2048 .f32) (accq : Vec Ideal S256x2048 .f32)
  (wg wu : Vec Ideal S1x2048x512 .bf16) (wd : Vec Ideal S512x2048 .bf16)

/-- The first tile is stored. -/
theorem pay2_at (r : Fin 768) (d : Fin 2048) :
    k0_pay2 u wg wu wd (ix2 r d) = blkTile (fun r k => u (ix2 r k)) wg wu wd r d := by
  pointwise [k0_pay2]
  rfl

/-- A tile is added. -/
theorem pay4_at (r : Fin 768) (d : Fin 2048) :
    k0_pay4 acc u wg wu wd (ix2 r d) = acc (ix2 r d) + blkTile (fun r k => u (ix2 r k)) wg wu wd r d := by
  pointwise [k0_pay4]
  rfl

/-- The last tile is added to the first 256 rows. -/
theorem pay7_at (r : Fin 256) (d : Fin 2048) :
    k0_pay7 accq uq wg wu wd (ix2 r d) = accq (ix2 r d) + blkTile (fun r k => uq (ix2 r k)) wg wu wd r d := by
  pointwise [k0_pay7]
  rfl

/-- The last tile is added to the next 256 rows. -/
theorem pay10_at (r : Fin 256) (d : Fin 2048) :
    k0_pay10 (k0_pay8 accq) (k0_pay9 uq) wg wu wd (ix2 r d) = accq (ix2 r d) + blkTile (fun r k => uq (ix2 r k)) wg wu wd r d := by
  pointwise [k0_pay10, k0_pay8, k0_pay9]
  rfl

/-- The last tile is added to the last 256 rows. -/
theorem pay18_at (r : Fin 256) (d : Fin 2048) :
    k0_pay18 accq uq wg wu wd (ix2 r d) = accq (ix2 r d) + blkTile (fun r k => uq (ix2 r k)) wg wu wd r d := by
  pointwise [k0_pay18]
  rfl

end

section

variable (y h : Vec Ideal S256x2048 .f32) (g gn : Vec Ideal S1x2048 .f32) (a : BitVec 32)

/-- The residual row at the blocks. -/
def blkPost (r : Fin 256) (d : Fin 2048) : EReal :=
  post (fun d => h (ix2 r d)) (fun d => y (ix2 r d)) (fun d => g (ix2 0 d)) d

/-- The residual rows of the first 256. -/
theorem pay15_at (r : Fin 256) (d : Fin 2048) : k0_pay15 y h g (ix2 r d) = blkPost y h g r d := by
  pointwise [k0_pay15]
  rfl

/-- The residual rows of the next 256. -/
theorem pay27_at (r : Fin 256) (d : Fin 2048) :
    k0_pay27 y (k0_pay22 h) (k0_pay23 g) (k0_pay25 y) k0_pay26 (ix2 r d) = blkPost y h g r d := by
  pointwise [k0_pay27, k0_pay22, k0_pay23, k0_pay25, k0_pay26]
  rfl

/-- The residual rows of the last 256. -/
theorem pay35_at (r : Fin 256) (d : Fin 2048) : k0_pay35 y h g (ix2 r d) = blkPost y h g r d := by
  pointwise [k0_pay35]
  rfl

/-- The next part's argument at the blocks, where the row's bit is set. -/
def blkNorm (c : BitVec 32) (r : Fin 256) (d : Fin 2048) : EReal :=
  Scalar.select (mask (IntOp.addi (Scalar.addi (Scalar.muli a 768#32) c) (BitVec.ofNat 32 r.val)))
    (norm (blkPost y h g r) (fun d => gn (ix2 0 d)) d) 0

/-- The next part's argument in the first 256 rows. -/
theorem pay17_at (r : Fin 256) (d : Fin 2048) :
    k0_pay17 (k0_pay14 gn) (k0_pay15 y h g) (k0_pay16 y (k0_pay11 a) (k0_pay12 a) (k0_pay13 a) h g) (ix2 r d)
      = blkNorm y h g gn a 0#32 r d := by
  pointwise [k0_pay17, k0_pay14, k0_pay15, k0_pay16, k0_pay11, k0_pay12, k0_pay13]
  rfl

/-- The next part's argument in the next 256 rows. -/
theorem pay28_at (r : Fin 256) (d : Fin 2048) :
    k0_pay28 y (k0_pay21 (k0_pay19 a) (k0_pay20 a) 0#32) (k0_pay22 h) (k0_pay23 g) (k0_pay24 gn) (k0_pay25 y) k0_pay26 (ix2 r d)
      = blkNorm y h g gn a 256#32 r d := by
  pointwise [k0_pay28, k0_pay27, k0_pay21, k0_pay19, k0_pay20, k0_pay22, k0_pay23, k0_pay24, k0_pay25, k0_pay26]
  rfl

/-- The next part's argument in the last 256 rows. -/
theorem pay5_at (r : Fin 256) (d : Fin 2048) :
    k0_pay5 (k0_pay33 (k0_pay29 a) (k0_pay30 a) (k0_pay31 a) (k0_pay32 a)) (k0_pay34 gn) (k0_pay35 y h g) (k0_pay36 y h g)
        (FloatOps.ofBits FTy.f32 897988541#32) (ix2 r d)
      = blkNorm y h g gn a 512#32 r d := by
  pointwise [k0_pay5, k0_pay33, k0_pay29, k0_pay30, k0_pay31, k0_pay32, k0_pay34, k0_pay35, k0_pay36]
  rfl

end

section

variable (w : Vec Ideal S1x128x512 .f32)

/-- The next weights are carried over. -/
theorem pay1_at (z : Fin 1) (r : Fin 128) (d : Fin 512) : k0_pay1 w (ix3 z r d) = w (ix3 0 r d) := by
  pointwise [k0_pay1]

/-- The next weights are carried over. -/
theorem pay3_at (z : Fin 1) (r : Fin 128) (d : Fin 512) : k0_pay3 w (ix3 z r d) = w (ix3 0 r d) := by
  pointwise [k0_pay3]

/-- The next weights are carried over. -/
theorem pay6_at (z : Fin 1) (r : Fin 128) (d : Fin 512) : k0_pay6 w (ix3 z r d) = w (ix3 0 r d) := by
  pointwise [k0_pay6]

end

end Cert.Kernel2Ideal.Ffn

end
-- ==== Proof.FfnPoint.lean ====
module

public import proofs.«01_k».proof.Proof.FfnOk
public import proofs.«01_k».proof.Proof.FfnBlock

/-! # What a grid point of the feed-forward call leaves -/

@[expose] public section

set_option maxRecDepth 16384

noncomputable section

namespace Cert.Kernel2Ideal.Ffn

open Cert.Kernel2Ideal Cert.Kernel2Ideal.Gen Cert.Kernel2Ideal.Steps
open Idealize.ShloMosaic Idealize.ShloMosaic.TcCoe Idealize.SL.Sem
open Idealize.ShloMosaic.Pipeline (Dat)
open Cert.Words
open Cert.FfnRow

/-- A row among the 256 from an offset. -/
def row (o : ℕ) (ho : o ≤ 512) (r : Fin 256) : Fin 768 := ⟨o + r.val, by omega⟩

/-- A load of 256 rows. -/
theorem ld_row {e : EltTy} (X : S768x2048.Idx → Elt Ideal e) (o : ℕ) (ho : o ≤ 512)
    (inb : ∀ a, (![o, 0] : Fin 2 → ℕ) a + (![256, 2048] : Fin 2 → ℕ) a ≤ S768x2048.size a) (r : Fin 256) (d : Fin 2048) :
    View.ld (Val := Elt Ideal) X (Rect.unit (s := S768x2048) ![o, 0] ![256, 2048] inb) (ix2 r d) = X (ix2 (row o ho r) d) := by
  refine View.ld_unit_apply_of X _ _ inb _ _ fun a => ?_
  fin_cases a
  · rfl
  · exact (Nat.zero_add _).symm

/-! ## From the blocks a point reads -/

section

variable (c : Dev nD) (co : grid0.Coords)
  (arg3 : Memref sig .tc .vmem S768x2048 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S512x2048 .bf16) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S768x2048 .f32) (harg9 : arg9.IsWhole)
  (arg10 : Memref sig .tc .vmem S1x128x512 .f32) (harg10 : arg10.IsWhole)
  (arg11 : Memref sig .tc .vmem S768x2048 .f32) (harg11 : arg11.IsWhole)
  (arg12 : Memref sig .tc .vmem S768x2048 .bf16) (harg12 : arg12.IsWhole)
  (arg13 : Memref sig .tc .vmem S1x128x512 .bf16) (harg13 : arg13.IsWhole)
  (x0 : Vec Ideal S768x2048 .bf16)  (x1 : Vec Ideal S1x2048x512 .bf16)  (x2 : Vec Ideal S1x2048x512 .bf16)  (x3 : Vec Ideal S512x2048 .bf16)
  (x4 : Vec Ideal S1x2048 .f32)  (x5 : Vec Ideal S1x2048 .f32)  (x6 : Vec Ideal S768x2048 .f32)  (x7 : Vec Ideal S1x128x512 .f32)
  (x8 : Vec Ideal S768x2048 .f32)

/-- The products so far with a tile's share added. -/
def sumRow (r : Fin 768) (d : Fin 2048) : EReal := x8 (ix2 r d) + blkTile (fun r k => x0 (ix2 r k)) x1 x2 x3 r d

/-- The finished residual. -/
def postRow (r : Fin 768) (d : Fin 2048) : EReal :=
  post (fun d => x6 (ix2 r d)) (sumRow x0 x1 x2 x3 x8 r) (fun d => x4 (ix2 0 d)) d

/-- The next part's argument, of a block of rows. -/
def normRow (i : ℕ) (r : Fin 768) (d : Fin 2048) : EReal :=
  Scalar.select (bit (¬ (768 * i + r.val) % 4224 < 112)) (norm (postRow x0 x1 x2 x3 x4 x6 x8 r) (fun d => x5 (ix2 0 d)) d) 0

section

variable (o : ℕ) (ho : o ≤ 512) (inb : ∀ a, (![o, 0] : Fin 2 → ℕ) a + (![256, 2048] : Fin 2 → ℕ) a ≤ S768x2048.size a)

/-- With the last tile's share the products of 256 rows are finished. -/
theorem last_add (r : Fin 256) (d : Fin 2048) :
    View.ld (Val := Elt Ideal) x8 (Rect.unit (s := S768x2048) ![o, 0] ![256, 2048] inb) (ix2 r d)
      + blkTile (fun r k => View.ld (Val := Elt Ideal) x0 (Rect.unit (s := S768x2048) ![o, 0] ![256, 2048] inb) (ix2 r k)) x1 x2 x3 r d
      = sumRow x0 x1 x2 x3 x8 (row o ho r) d := by
  unfold sumRow
  refine congrArg₂ (· + ·) (ld_row _ o ho inb r d) ?_
  unfold blkTile
  dsimp only
  refine congrArg (fun u => tile u _ _ _) (funext fun k => ?_)
  exact ld_row _ o ho inb r k

include ho in
/-- The residual rows of 256 rows. -/
theorem post_of (Y : Vec Ideal S256x2048 .f32) (hY : ∀ r d, Y (ix2 r d) = sumRow x0 x1 x2 x3 x8 (row o ho r) d) (r : Fin 256) (d : Fin 2048) :
    blkPost Y (View.ld (Val := Elt Ideal) x6 (Rect.unit (s := S768x2048) ![o, 0] ![256, 2048] inb)) x4 r d
      = postRow x0 x1 x2 x3 x4 x6 x8 (row o ho r) d := by
  unfold blkPost postRow
  rw [show (fun d => Y (ix2 r d)) = sumRow x0 x1 x2 x3 x8 (row o ho r) from funext fun d => hY r d]
  refine congrArg (fun h => post h _ _ d) (funext fun k => ?_)
  exact ld_row _ o ho inb r k

include ho in
/-- The next part's argument in 256 rows. -/
theorem norm_of (Y : Vec Ideal S256x2048 .f32) (hY : ∀ r d, Y (ix2 r d) = sumRow x0 x1 x2 x3 x8 (row o ho r) d) (r : Fin 256) (d : Fin 2048)
    (i : ℕ) (hi : i < 22) (a : BitVec 32) (ha : a = BitVec.ofNat 32 i) :
    blkNorm Y (View.ld (Val := Elt Ideal) x6 (Rect.unit (s := S768x2048) ![o, 0] ![256, 2048] inb)) x4 x5 a (BitVec.ofNat 32 o) r d
      = normRow x0 x1 x2 x3 x4 x5 x6 x8 i (row o ho r) d := by
  subst ha
  unfold blkNorm normRow
  rw [row_word, mask_W _ (by omega), show 768 * i + o + r.val = 768 * i + (row o ho r).val from Nat.add_assoc _ _ _]
  refine congrArg (fun h => Scalar.select _ (norm h _ d) 0) (funext fun k => ?_)
  exact post_of x0 x1 x2 x3 x4 x6 x8 o ho inb Y hY r k

end

/-- The first kind of point carries its tile of the next weights over. -/
theorem carry_A (hc0 : cond0_0 co) (hc1 : ¬cond0_1 co) (hc2 : ¬cond0_2 co) (z : Fin 1) (r : Fin 128) (d : Fin 512) :
    out0_A_10 c co arg3 harg3 arg4 harg4 arg5 harg5 arg6 harg6 arg7 harg7 arg8 harg8 arg9 harg9 arg10 harg10 arg11 harg11 arg12 harg12 arg13 harg13 hc0 hc1 hc2 x0 x1 x2 x3 x4 x5 x6 x7 (ix3 z r d) = x7 (ix3 0 r d) := by
  frame_out
  exact pay1_at _ z r d

/-- The middle kind of point carries its tile of the next weights over. -/
theorem carry_B (hc0 : ¬cond0_0 co) (hc1 : cond0_1 co) (hc2 : ¬cond0_2 co) (z : Fin 1) (r : Fin 128) (d : Fin 512) :
    out0_B_10 c co arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 (ix3 z r d) = x7 (ix3 0 r d) := by
  frame_out
  exact pay3_at _ z r d

/-- The last kind of point carries its tile of the next weights over. -/
theorem carry_C (hc0 : ¬cond0_0 co) (hc1 : ¬cond0_1 co) (hc2 : cond0_2 co) (z : Fin 1) (r : Fin 128) (d : Fin 512) :
    out0_C_10 c co arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 (ix3 z r d) = x7 (ix3 0 r d) := by
  frame_out
  exact pay6_at _ z r d

/-- The first tile's point leaves its share. -/
theorem acc_A (hc0 : cond0_0 co) (hc1 : ¬cond0_1 co) (hc2 : ¬cond0_2 co) (r : Fin 768) (d : Fin 2048) :
    out0_A_8 c co arg3 harg3 arg4 harg4 arg5 harg5 arg6 harg6 arg7 harg7 arg8 harg8 arg9 harg9 arg10 harg10 arg11 harg11 arg12 harg12 arg13 harg13 hc0 hc1 hc2 x0 x1 x2 x3 x4 x5 x6 x7 (ix2 r d) = blkTile (fun r k => x0 (ix2 r k)) x1 x2 x3 r d := by
  frame_out
  exact pay2_at _ _ _ _ r d

/-- A middle tile's point adds its share. -/
theorem acc_B (hc0 : ¬cond0_0 co) (hc1 : cond0_1 co) (hc2 : ¬cond0_2 co) (r : Fin 768) (d : Fin 2048) :
    out0_B_8 c co arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 (ix2 r d) = sumRow x0 x1 x2 x3 x8 r d := by
  frame_out
  exact pay4_at _ _ _ _ _ r d

/-- The last tile's point leaves the residual. -/
theorem res_C (hc0 : ¬cond0_0 co) (hc1 : ¬cond0_1 co) (hc2 : cond0_2 co) (r : Fin 768) (d : Fin 2048) :
    out0_C_8 c co arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 (ix2 r d) = postRow x0 x1 x2 x3 x4 x6 x8 r d := by
  frame_out
  canon_tiles x h
  · obtain ⟨r', d', rfl⟩ : ∃ (r' : Fin 256) (d' : Fin 2048), x = ix2 r' d' := ⟨x 0, x 1, by funext a; fin_cases a <;> rfl⟩
    obtain rfl : r = row 512 (by decide) r' := Fin.ext h0
    obtain rfl : d = d' := Fin.ext h1
    refine (pay35_at _ _ _ _ _).trans (post_of x0 x1 x2 x3 x4 x6 x8 512 (by omega) _ _ (fun r d => ?_) _ _)
    exact (pay18_at _ _ _ _ _ _ _).trans (last_add x0 x1 x2 x3 x8 512 (by omega) _ r d)
  · obtain ⟨r', d', rfl⟩ : ∃ (r' : Fin 256) (d' : Fin 2048), x = ix2 r' d' := ⟨x 0, x 1, by funext a; fin_cases a <;> rfl⟩
    obtain rfl : r = row 256 (by decide) r' := Fin.ext h0
    obtain rfl : d = d' := Fin.ext h1
    refine (pay27_at _ _ _ _ _).trans (post_of x0 x1 x2 x3 x4 x6 x8 256 (by omega) _ _ (fun r d => ?_) _ _)
    exact (pay10_at _ _ _ _ _ _ _).trans (last_add x0 x1 x2 x3 x8 256 (by omega) _ r d)
  · obtain ⟨r', d', rfl⟩ : ∃ (r' : Fin 256) (d' : Fin 2048), x = ix2 r' d' := ⟨x 0, x 1, by funext a; fin_cases a <;> rfl⟩
    obtain rfl : r = row 0 (by decide) r' := Fin.ext (h0.trans (Nat.zero_add _).symm)
    obtain rfl : d = d' := Fin.ext h1
    refine (pay15_at _ _ _ _ _).trans (post_of x0 x1 x2 x3 x4 x6 x8 0 (by omega) _ _ (fun r d => ?_) _ _)
    exact (pay7_at _ _ _ _ _ _ _).trans (last_add x0 x1 x2 x3 x8 0 (by omega) _ r d)

/-- It leaves the next part's argument. -/
theorem next_C (hc0 : ¬cond0_0 co) (hc1 : ¬cond0_1 co) (hc2 : cond0_2 co) (i : ℕ) (hi : i < 22) (hco : (co 0).val = i) (r : Fin 768) (d : Fin 2048) :
    out0_C_9 c co arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 (ix2 r d) = normRow x0 x1 x2 x3 x4 x5 x6 x8 i r d := by
  frame_out
  canon_tiles x h
  · obtain ⟨r', d', rfl⟩ : ∃ (r' : Fin 256) (d' : Fin 2048), x = ix2 r' d' := ⟨x 0, x 1, by funext a; fin_cases a <;> rfl⟩
    obtain rfl : r = row 512 (by decide) r' := Fin.ext h0
    obtain rfl : d = d' := Fin.ext h1
    refine (pay5_at _ _ _ _ _ _ _).trans (norm_of x0 x1 x2 x3 x4 x5 x6 x8 512 (by omega) _ _ (fun r d => ?_) _ _ _ hi _ (congrArg (BitVec.ofNat 32) hco))
    exact (pay18_at _ _ _ _ _ _ _).trans (last_add x0 x1 x2 x3 x8 512 (by omega) _ r d)
  · obtain ⟨r', d', rfl⟩ : ∃ (r' : Fin 256) (d' : Fin 2048), x = ix2 r' d' := ⟨x 0, x 1, by funext a; fin_cases a <;> rfl⟩
    obtain rfl : r = row 256 (by decide) r' := Fin.ext h0
    obtain rfl : d = d' := Fin.ext h1
    refine (pay28_at _ _ _ _ _ _ _).trans (norm_of x0 x1 x2 x3 x4 x5 x6 x8 256 (by omega) _ _ (fun r d => ?_) _ _ _ hi _ (congrArg (BitVec.ofNat 32) hco))
    exact (pay10_at _ _ _ _ _ _ _).trans (last_add x0 x1 x2 x3 x8 256 (by omega) _ r d)
  · obtain ⟨r', d', rfl⟩ : ∃ (r' : Fin 256) (d' : Fin 2048), x = ix2 r' d' := ⟨x 0, x 1, by funext a; fin_cases a <;> rfl⟩
    obtain rfl : r = row 0 (by decide) r' := Fin.ext (h0.trans (Nat.zero_add _).symm)
    obtain rfl : d = d' := Fin.ext h1
    refine (pay17_at _ _ _ _ _ _ _).trans (norm_of x0 x1 x2 x3 x4 x5 x6 x8 0 (by omega) _ _ (fun r d => ?_) _ _ _ hi _ (congrArg (BitVec.ofNat 32) hco))
    exact (pay7_at _ _ _ _ _ _ _).trans (last_add x0 x1 x2 x3 x8 0 (by omega) _ r d)

end

/-! ## At the points of the grid -/

variable (m : (ℓ : Loc nD τ sig) → Buf (Elt Ideal) ℓ) (c : Dev nD)

/-- The point of a block of rows and a tile of columns. -/
def pt (i : Fin 22) (s : ℕ) (hs : s < 11) : Fin grid0.N := ⟨11 * i.val + s, by have := i.isLt; rw [show grid0.N = 242 from N_0]; omega⟩

/-- A point's tile's share. -/
def share (t : Fin grid0.N) (r : Fin 768) (d : Fin 2048) : EReal :=
  blkTile (fun r k => iblk m (ok m) c 0 t (ix2 r k)) (iblk m (ok m) c 1 t) (iblk m (ok m) c 2 t) (iblk m (ok m) c 3 t) r d

/-- What a point leaves depends on its number alone. -/
theorem outs_congr {n n' : ℕ} (h : n = n') (hn : n < grid0.N) (hn' : n' < grid0.N) : outsAt0 m (ok m) c n hn = outsAt0 m (ok m) c n' hn' := by
  subst h; rfl

/-- Before the last tile the output block holds the shares so far. -/
theorem acc_at (i : Fin 22) (r : Fin 768) (d : Fin 2048) : ∀ (j : ℕ) (hj : j < 10),
    (outsAt0 m (ok m) c (pt i j (by omega)).val (pt i j (by omega)).isLt).1 (ix2 r d) = ∑ s : Fin (j + 1), share m c (pt i s.val (by omega)) r d
  | 0, _ => by
    rw [outsAt0_A m (ok m) c (pt i 0 (by omega)) (by show (11 * i.val + 0) % 11 = 0; omega) (by show ¬ (1 ≤ (11 * i.val + 0) % 11 ∧ _); omega)
      (by show ¬ (11 * i.val + 0) % 11 = 10; omega)]
    rw [Fin.sum_univ_one]
    dsimp only
    exact acc_A _ _ _ _ _ _ _ _ _ _ _ _ _ _ _ _ _ _ _ _ _ _ _ _ _ _ _ _ _ _ _ _ _ _ _ r d
  | j + 1, hj => by
    rw [outsAt0_B m (ok m) c (pt i (j + 1) (by omega)) (by show ¬ (11 * i.val + (j + 1)) % 11 = 0; omega)
      (by show 1 ≤ (11 * i.val + (j + 1)) % 11 ∧ (11 * i.val + (j + 1)) % 11 ≤ 9; omega)
      (by show ¬ (11 * i.val + (j + 1)) % 11 = 10; omega)]
    rw [Fin.sum_univ_castSucc]
    dsimp only
    refine (acc_B _ _ _ _ _ _ _ _ _ _ _ _ _ _ _ _ _ _ _ _ _ _ _ _ _ _ _ _ _ _ _ _ _ _ _ _ r d).trans ?_
    refine congrArg₂ (· + ·) ?_ rfl
    refine Eq.trans ?_ (acc_at i r d j (by omega))
    rw [outs_congr m c (show (pt i (j + 1) (by omega)).val - 1 = (pt i j (by omega)).val from rfl)]

/-- The finished products of a block of rows. -/
def total (i : Fin 22) (r : Fin 768) (d : Fin 2048) : EReal := ∑ s : Fin 11, share m c (pt i s.val (by omega)) r d

/-- The last tile's point among the three kinds of points. -/
theorem last_facts (i : Fin 22) : ¬ (pt i 10 (by omega)).val % 11 = 0 ∧ ¬ (1 ≤ (pt i 10 (by omega)).val % 11 ∧ (pt i 10 (by omega)).val % 11 ≤ 9)
    ∧ (pt i 10 (by omega)).val % 11 = 10 := by
  have h : (pt i 10 (by omega)).val = 11 * i.val + 10 := rfl
  rw [h]; omega

/-- The finished residual row of the block. -/
def resRow (i : Fin 22) (r : Fin 768) (d : Fin 2048) : EReal :=
  post (fun d => iblk m (ok m) c 6 (pt i 10 (by omega)) (ix2 r d)) (total m c i r) (fun d => iblk m (ok m) c 4 (pt i 10 (by omega)) (ix2 0 d)) d

/-- The next part's argument in the block. -/
def nextRow (i : Fin 22) (r : Fin 768) (d : Fin 2048) : EReal :=
  Scalar.select (bit (¬ (768 * i.val + r.val) % 4224 < 112))
    (norm (resRow m c i r) (fun d => iblk m (ok m) c 5 (pt i 10 (by omega)) (ix2 0 d)) d) 0

/-- With the last tile's share the products are finished. -/
theorem sumRow_eq (i : Fin 22) (hp : (pt i 10 (by omega)).val - 1 < grid0.N) (r : Fin 768) :
    sumRow (iblk m (ok m) c 0 (pt i 10 (by omega))) (iblk m (ok m) c 1 (pt i 10 (by omega))) (iblk m (ok m) c 2 (pt i 10 (by omega)))
      (iblk m (ok m) c 3 (pt i 10 (by omega))) (outsAt0 m (ok m) c ((pt i 10 (by omega)).val - 1) hp).1 r = total m c i r := by
  funext d
  unfold total sumRow
  rw [Fin.sum_univ_castSucc]
  refine congrArg₂ (· + ·) ?_ rfl
  rw [outs_congr m c (show (pt i 10 (by omega)).val - 1 = (pt i 9 (by omega)).val from rfl)]
  exact acc_at m c i r d 9 (by omega)

/-- What the last tile's point leaves in the residual. -/
theorem last_res (i : Fin 22) (r : Fin 768) (d : Fin 2048) :
    (outsAt0 m (ok m) c (pt i 10 (by omega)).val (pt i 10 (by omega)).isLt).1 (ix2 r d) = resRow m c i r d := by
  rw [outsAt0_C m (ok m) c (pt i 10 (by omega)) (last_facts i).1 (last_facts i).2.1 (last_facts i).2.2]
  dsimp only
  refine (res_C _ _ _ _ _ _ _ _ _ _ _ _ _ _ _ _ _ _ _ _ _ _ _ _ _ _ _ _ _ _ _ _ _ _ _ _ r d).trans ?_
  unfold postRow resRow
  rw [sumRow_eq m c i _ r]

/-- A point's block of rows. -/
theorem coord_pt : ∀ i : Fin 22, (grid0.coords (pt i 10 (by omega)) 0).val = i.val := by
  decide +kernel

/-- What the last tile's point leaves as the next part's argument. -/
theorem last_next (i : Fin 22) (r : Fin 768) (d : Fin 2048) :
    (outsAt0 m (ok m) c (pt i 10 (by omega)).val (pt i 10 (by omega)).isLt).2.1 (ix2 r d) = nextRow m c i r d := by
  rw [outsAt0_C m (ok m) c (pt i 10 (by omega)) (last_facts i).1 (last_facts i).2.1 (last_facts i).2.2]
  dsimp only
  refine (next_C _ _ _ _ _ _ _ _ _ _ _ _ _ _ _ _ _ _ _ _ _ _ _ _ _ _ _ _ _ _ _ _ _ _ _ _ i.val i.isLt (coord_pt i) r d).trans ?_
  unfold normRow nextRow
  refine congrArg (fun h => Scalar.select _ (norm h _ d) 0) (funext fun k => ?_)
  unfold postRow resRow
  rw [sumRow_eq m c i _ r]

/-- Every point carries its tile of the next weights over. -/
theorem carry_at (t : Fin grid0.N) (z : Fin 1) (r : Fin 128) (d : Fin 512) :
    (outsAt0 m (ok m) c t.val t.isLt).2.2 (ix3 z r d) = iblk m (ok m) c 7 t (ix3 0 r d) := by
  by_cases h0 : t.val % 11 = 0
  · rw [outsAt0_A m (ok m) c t h0 (by omega) (by omega)]
    dsimp only
    exact carry_A _ _ _ _ _ _ _ _ _ _ _ _ _ _ _ _ _ _ _ _ _ _ _ _ _ _ _ _ _ _ _ _ _ _ _ z r d
  · by_cases h2 : t.val % 11 = 10
    · rw [outsAt0_C m (ok m) c t h0 (by omega) h2]
      dsimp only
      exact carry_C _ _ _ _ _ _ _ _ _ _ _ _ _ _ _ _ _ _ _ _ _ _ _ _ _ _ _ _ _ _ _ _ _ _ _ _ z r d
    · rw [outsAt0_B m (ok m) c t h0 (by omega) h2]
      dsimp only
      exact carry_B _ _ _ _ _ _ _ _ _ _ _ _ _ _ _ _ _ _ _ _ _ _ _ _ _ _ _ _ _ _ _ _ _ _ _ _ z r d

end Cert.Kernel2Ideal.Ffn

end
-- ==== Proof.FfnEntry.lean ====
module

public import proofs.«01_k».proof.Proof.FfnPoint
public import Idealize.ShloMosaic.Lib.StableHlo.ReadAt

/-! # The arrays the feed-forward's grid reads

The host puts 112 rows of zeros in front of every sequence and lays the first two weights in tiles of 512 columns. -/

@[expose] public section

set_option maxRecDepth 16384

noncomputable section

namespace Cert.Kernel2Ideal.Ffn

open Cert.Kernel2Ideal Cert.Kernel2Ideal.Gen Cert.Kernel2Ideal.Steps
open Idealize.ShloMosaic Idealize.ShloMosaic.TcCoe Idealize.SL.Sem
open Idealize.ShloMosaic.Pipeline (Dat)
open Cert.Words
open Cert.FfnRow

variable (m : (ℓ : Loc nD τ sig) → Buf (Elt Ideal) ℓ) (c : Dev nD)

/-- A row of a sequence with 112 rows of zeros in front, by its number among all rows. -/
def padded (x : S4x4112x2048.Idx → EReal) (n : ℕ) (hn : n < 16896) (d : Fin 2048) : EReal :=
  if h : n % 4224 < 112 then 0 else x (ix3 ⟨n / 4224, by omega⟩ ⟨n % 4224 - 112, by omega⟩ d)

/-- The argument. -/
abbrev argU : S4x4112x2048.Idx → EReal := m ((c : Thread nD τ).loc main_arg0)
/-- The gate's weights. -/
abbrev argG : S2048x5632.Idx → EReal := m ((c : Thread nD τ).loc main_arg1)
/-- The weights beside the gate's. -/
abbrev argV : S2048x5632.Idx → EReal := m ((c : Thread nD τ).loc main_arg2)
/-- The second product's weights. -/
abbrev argD : S5632x2048.Idx → EReal := m ((c : Thread nD τ).loc main_arg3)
/-- The norm's gains. -/
abbrev argP : S2048.Idx → EReal := m ((c : Thread nD τ).loc main_arg4)
/-- The next norm's gains. -/
abbrev argN : S2048.Idx → EReal := m ((c : Thread nD τ).loc main_arg5)
/-- The residual. -/
abbrev argH : S4x4112x2048.Idx → EReal := m ((c : Thread nD τ).loc main_arg6)
/-- The next weights. -/
abbrev argW : S4x2048x5632.Idx → EReal := m ((c : Thread nD τ).loc main_arg7)

/-- A row of the argument's array. -/
theorem entry_u (n : Fin 16896) (d : Fin 2048) : V m c main_v3 (ix2 n d) = padded (argU m c) n.val n.isLt d := by
  have := n.isLt
  unfold Steps.V padded
  after_reads_at
  split_ifs <;> after_reads_at

/-- A row of the residual's array. -/
theorem entry_h (n : Fin 16896) (d : Fin 2048) : V m c main_v15 (ix2 n d) = padded (argH m c) n.val n.isLt d := by
  have := n.isLt
  unfold Steps.V padded
  after_reads_at
  split_ifs <;> after_reads_at

/-- The gate's weights, in tiles. -/
theorem entry_g (j : Fin 11) (k : Fin 2048) (x : Fin 512) :
    V m c main_v6 (ix3 j k x) = argG m c (ix2 k ⟨512 * j.val + x.val, by omega⟩) := by
  unfold Steps.V
  after_reads_at
  rw [show (⟨j.val * 512 + x.val, by omega⟩ : Fin 5632) = ⟨512 * j.val + x.val, by omega⟩ from Fin.ext (by show j.val * 512 + x.val = 512 * j.val + x.val; omega)]

/-- The weights beside the gate's, in tiles. -/
theorem entry_v (j : Fin 11) (k : Fin 2048) (x : Fin 512) :
    V m c main_v9 (ix3 j k x) = argV m c (ix2 k ⟨512 * j.val + x.val, by omega⟩) := by
  unfold Steps.V
  after_reads_at
  rw [show (⟨j.val * 512 + x.val, by omega⟩ : Fin 5632) = ⟨512 * j.val + x.val, by omega⟩ from Fin.ext (by show j.val * 512 + x.val = 512 * j.val + x.val; omega)]

/-- The second product's weights. -/
theorem entry_d (l : Fin 5632) (d : Fin 2048) : V m c main_v10 (ix2 l d) = argD m c (ix2 l d) := by
  unfold Steps.V
  after_reads_at

/-- The norm's gains. -/
theorem entry_p (d : Fin 2048) : V m c main_v11 (ix2 0 d) = argP m c (ix1 d) := by
  unfold Steps.V
  after_reads_at

/-- The next norm's gains. -/
theorem entry_n (d : Fin 2048) : V m c main_v12 (ix2 0 d) = argN m c (ix1 d) := by
  unfold Steps.V
  after_reads_at

/-- The index maps at a point, the next layer's number filled in. -/
theorem maps : ∀ t : Fin grid0.N, cc0_transform_0 (grid0.coords t) = ![t.val / 11, 0] ∧ cc0_transform_1 (grid0.coords t) = ![t.val % 11, 0, 0]
    ∧ cc0_transform_2 (grid0.coords t) = ![t.val % 11, 0, 0] ∧ cc0_transform_3 (grid0.coords t) = ![t.val % 11, 0]
    ∧ cc0_transform_4 (grid0.coords t) = ![0, 0] ∧ cc0_transform_5 (grid0.coords t) = ![0, 0]
    ∧ cc0_transform_6 (grid0.coords t) = ![t.val / 11, 0] ∧ nextBlk (grid0.coords t) = ![1, min (t.val / 11) 15, t.val % 11]
    ∧ cc0_transform_8 (grid0.coords t) = ![t.val / 11, 0] ∧ cc0_transform_9 (grid0.coords t) = ![t.val / 11, 0]
    ∧ cc0_transform_10 (grid0.coords t) = ![t.val % 11, t.val / 11, 0] := by
  decide +kernel

/-- Which block a point reads and writes. -/
theorem idx (t : Fin grid0.N) : ((cfgM m (ok m)).win 0).index t = ![t.val / 11, 0] ∧ ((cfgM m (ok m)).win 1).index t = ![t.val % 11, 0, 0]
    ∧ ((cfgM m (ok m)).win 2).index t = ![t.val % 11, 0, 0] ∧ ((cfgM m (ok m)).win 3).index t = ![t.val % 11, 0]
    ∧ ((cfgM m (ok m)).win 4).index t = ![0, 0] ∧ ((cfgM m (ok m)).win 5).index t = ![0, 0]
    ∧ ((cfgM m (ok m)).win 6).index t = ![t.val / 11, 0] ∧ ((cfgM m (ok m)).win 7).index t = ![1, min (t.val / 11) 15, t.val % 11]
    ∧ ((cfgM m (ok m)).win 8).index t = ![t.val / 11, 0] ∧ ((cfgM m (ok m)).win 9).index t = ![t.val / 11, 0]
    ∧ ((cfgM m (ok m)).win 10).index t = ![t.val % 11, t.val / 11, 0] := by
  obtain ⟨h0, h1, h2, h3, h4, h5, h6, h7, h8, h9, h10⟩ := maps t
  exact ⟨h0, h1, h2, h3, h4, h5, h6, (transform_7_eq m (grid0.coords t)).trans h7, h8, h9, h10⟩

/-- There are 242 points. -/
theorem pt_lt (t : Fin grid0.N) : t.val < 242 := lt_of_lt_of_eq t.isLt (show grid0.N = 242 from N_0)

/-- A point's block of the argument. -/
theorem blk_u (t : Fin grid0.N) (r : Fin 768) (k : Fin 2048) :
    iblk m (ok m) c 0 t (ix2 r k) = padded (argU m c) (768 * (t.val / 11) + r.val) (by have := pt_lt t; omega) k := by
  have := pt_lt t
  refine Eq.trans ?_ (entry_u m c ⟨768 * (t.val / 11) + r.val, by omega⟩ k)
  blk_ext [iblk, (idx m t).1]

/-- A point's tile of the gate's weights. -/
theorem blk_g (t : Fin grid0.N) (k : Fin 2048) (x : Fin 512) :
    iblk m (ok m) c 1 t (ix3 0 k x) = argG m c (ix2 k ⟨512 * (t.val % 11) + x.val, by omega⟩) := by
  have := pt_lt t
  refine Eq.trans ?_ (entry_g m c ⟨t.val % 11, by omega⟩ k x)
  blk_ext [iblk, (idx m t).2.1]

/-- A point's tile of the weights beside the gate's. -/
theorem blk_v (t : Fin grid0.N) (k : Fin 2048) (x : Fin 512) :
    iblk m (ok m) c 2 t (ix3 0 k x) = argV m c (ix2 k ⟨512 * (t.val % 11) + x.val, by omega⟩) := by
  have := pt_lt t
  refine Eq.trans ?_ (entry_v m c ⟨t.val % 11, by omega⟩ k x)
  blk_ext [iblk, (idx m t).2.2.1]

/-- A point's tile of the second product's weights. -/
theorem blk_d (t : Fin grid0.N) (x : Fin 512) (d : Fin 2048) :
    iblk m (ok m) c 3 t (ix2 x d) = argD m c (ix2 ⟨512 * (t.val % 11) + x.val, by omega⟩ d) := by
  have := pt_lt t
  refine Eq.trans ?_ (entry_d m c ⟨512 * (t.val % 11) + x.val, by omega⟩ d)
  blk_ext [iblk, (idx m t).2.2.2.1]

/-- The norm's gains at a point. -/
theorem blk_p (t : Fin grid0.N) (d : Fin 2048) : iblk m (ok m) c 4 t (ix2 0 d) = argP m c (ix1 d) := by
  refine Eq.trans ?_ (entry_p m c d)
  blk_ext [iblk, (idx m t).2.2.2.2.1]

/-- The next norm's gains at a point. -/
theorem blk_n (t : Fin grid0.N) (d : Fin 2048) : iblk m (ok m) c 5 t (ix2 0 d) = argN m c (ix1 d) := by
  refine Eq.trans ?_ (entry_n m c d)
  blk_ext [iblk, (idx m t).2.2.2.2.2.1]

/-- A point's block of the residual. -/
theorem blk_h (t : Fin grid0.N) (r : Fin 768) (k : Fin 2048) :
    iblk m (ok m) c 6 t (ix2 r k) = padded (argH m c) (768 * (t.val / 11) + r.val) (by have := pt_lt t; omega) k := by
  have := pt_lt t
  refine Eq.trans ?_ (entry_h m c ⟨768 * (t.val / 11) + r.val, by omega⟩ k)
  blk_ext [iblk, (idx m t).2.2.2.2.2.2.1]

/-- A point's tile of the next weights. -/
theorem blk_w (t : Fin grid0.N) (r : Fin 128) (d : Fin 512) :
    iblk m (ok m) c 7 t (ix3 0 r d) = argW m c (ix3 1 ⟨128 * min (t.val / 11) 15 + r.val, by omega⟩ ⟨512 * (t.val % 11) + d.val, by omega⟩) := by
  have := pt_lt t
  blk_ext [iblk, V, (idx m t).2.2.2.2.2.2.2.1]

end Cert.Kernel2Ideal.Ffn

end
-- ==== Proof.FfnRef.lean ====
module

public import proofs.«01_k».proof.Proof.Gen.Reference2Ideal.Run
public import proofs.«01_k».proof.Proof.FfnMath
public import Idealize.ShloMosaic.Lib.IdealHost
public import Idealize.ShloMosaic.Lib.Pipeline.ValueKit

/-! # The feed-forward reference, read at an index -/

@[expose] public section

set_option maxRecDepth 16384

noncomputable section

namespace Cert.Reference2Ideal.FfnRef

open Cert.Reference2Ideal Cert.Reference2Ideal.Gen
open Idealize.ShloMosaic Idealize.ShloMosaic.TcCoe Idealize.SL.Sem
open Cert.FfnRow

/-- The product with the gate's weights, or with those beside them. -/
def up (u : FVec Ideal S4x4112x2048 .f32) (w : FVec Ideal S2048x5632 .f32) : FVec Ideal S4x4112x5632 .f32 :=
  Host.dotGeneral dot_S4x4112x2048_S2048x5632_S4x4112x5632_2_0_01_1_n_n none u w

/-- The product with the second weights. -/
def dn (a : FVec Ideal S4x4112x5632 .f32) (w : FVec Ideal S5632x2048 .f32) : FVec Ideal S4x4112x2048 .f32 :=
  Host.dotGeneral dot_S4x4112x5632_S5632x2048_S4x4112x2048_2_0_01_1_n_n none a w

/-- The gate. -/
def silu (x : FVec Ideal S4x4112x5632 .f32) : FVec Ideal S4x4112x5632 .f32 :=
  mulf x (Host.divf (broadcastInDim S4x4112x5632 ![] bcast_S_S4x4112x5632 (constant S_ .f32 0x3F800000#32)) (addf (broadcastInDim S4x4112x5632 ![] bcast_S_S4x4112x5632 (constant S_ .f32 0x3F800000#32)) (Host.exp (Host.negf x))))

/-- The feed-forward part before its norm. -/
def ffn (u : FVec Ideal S4x4112x2048 .f32) (wg wu : FVec Ideal S2048x5632 .f32) (wd : FVec Ideal S5632x2048 .f32) : FVec Ideal S4x4112x2048 .f32 :=
  dn (mulf (silu (up u wg)) (up u wu)) wd

/-- The sums of the squares of the rows. -/
def sq (x : FVec Ideal S4x4112x2048 .f32) : FVec Ideal S4x4112 .f32 :=
  Host.reduceAdd x (constant S_ .f32 0x00000000#32) reducesTo_S4x4112x2048_S4x4112_d2 h_S_

/-- The norm's factor of a row, from the sum of its squares. -/
def fac (s : FVec Ideal S4x4112 .f32) : FVec Ideal S4x4112x1 .f32 :=
  Host.rsqrt (addf (Host.divf (broadcastInDim S4x4112x1 ![0, 1] bcast_S4x4112_S4x4112x1_0_1 s) (broadcastInDim S4x4112x1 ![] bcast_S_S4x4112x1 (constant S_ .f32 0x45000000#32))) (broadcastInDim S4x4112x1 ![] bcast_S_S4x4112x1 (constant S_ .f32 0x358637BD#32)))

/-- Rows times their factors times the gains. -/
def scaled (x : FVec Ideal S4x4112x2048 .f32) (f : FVec Ideal S4x4112x1 .f32) (g : FVec Ideal S2048 .f32) : FVec Ideal S4x4112x2048 .f32 :=
  mulf (mulf x (broadcastInDim S4x4112x2048 ![0, 1, 2] bcast_S4x4112x1_S4x4112x2048_0_1_2 f)) (broadcastInDim S4x4112x2048 ![0, 1, 2] bcast_S1x1x2048_S4x4112x2048_0_1_2 (broadcastInDim S1x1x2048 ![2] bcast_S2048_S1x1x2048_2 g))

/-- The root mean square norm. -/
def rms (x : FVec Ideal S4x4112x2048 .f32) (g : FVec Ideal S2048 .f32) : FVec Ideal S4x4112x2048 .f32 := scaled x (fac (sq (mulf x x))) g

/-- The rows of all sequences, 112 rows of zeros in front of each. -/
def padRows (x : FVec Ideal S4x4112x2048 .f32) : FVec Ideal S16896x2048 .f32 :=
  shapeCast _ (pad S4x4224x2048 ![0, 112, 0] ![0, 0, 0] ![0, 0, 0] x (sitofp .f32 (constantI S_ 32 0#32)) pads_S4x4112x2048_S4x4224x2048_000_11200_000 h_S_) shapeCasts_S4x4224x2048_S16896x2048

section

variable (u h : FVec Ideal S4x4112x2048 .f32) (wg wu : FVec Ideal S2048x5632 .f32) (wd : FVec Ideal S5632x2048 .f32) (g gn : FVec Ideal S2048 .f32)
  (w : FVec Ideal S4x2048x5632 .f32)

/-- The residual with the feed-forward part added. -/
def res : FVec Ideal S4x4112x2048 .f32 := addf h (rms (ffn u wg wu wd) g)

/-- The first result. -/
def out0 : FVec Ideal S16896x2048 .f32 := padRows (res u h wg wu wd g)

/-- The second result. -/
def out1 : FVec Ideal S16896x2048 .bf16 := truncf .bf16 (padRows (rms (res u h wg wu wd g) gn)) bitsLt_bf16_f32

/-- The next weights in tiles of 512 columns. -/
def tiles : FVec Ideal S11x2048x512 .f32 :=
  transpose S11x2048x512 [1, 0, 2] (shapeCast _ (shapeCast _ (extractStridedSlice S1x2048x5632 ![1, 0, 0] w slices_S4x2048x5632_S1x2048x5632_1_0_0) shapeCasts_S1x2048x5632_S2048x5632) shapeCasts_S2048x5632_S2048x11x512) transposes_S2048x11x512_S11x2048x512_1_0_2

/-- The last 128 rows of the tiles. -/
def tail : FVec Ideal S11x128x512 .f32 := extractStridedSlice S11x128x512 ![0, 1920, 0] (tiles w) slices_S11x2048x512_S11x128x512_0_1920_0

/-- The third result: the tiles, their last 128 rows repeated. -/
def out2 : FVec Ideal S11x2816x512 .bf16 :=
  truncf .bf16 (concatenate S11x2816x512 1 [⟨S11x2048x512, tiles w⟩, ⟨S11x128x512, tail w⟩, ⟨S11x128x512, tail w⟩, ⟨S11x128x512, tail w⟩, ⟨S11x128x512, tail w⟩, ⟨S11x128x512, tail w⟩, ⟨S11x128x512, tail w⟩] concatenates_S11x2048x512_S11x128x512_S11x128x512_S11x128x512_S11x128x512_S11x128x512_S11x128x512_S11x2816x512_d1) bitsLt_bf16_f32

end

section

variable (x : FVec Ideal S4x4112x2048 .f32)

theorem up_at (w : FVec Ideal S2048x5632 .f32) (b : Fin 4) (n : Fin 4112) (l : Fin 5632) :
    up x w (ix3 b n l) = ∑ k, x (ix3 b n k) * w (ix2 k l) := by
  pointwise [up]

theorem dn_at (a : FVec Ideal S4x4112x5632 .f32) (w : FVec Ideal S5632x2048 .f32) (b : Fin 4) (n : Fin 4112) (d : Fin 2048) :
    dn a w (ix3 b n d) = ∑ l, a (ix3 b n l) * w (ix2 l d) := by
  pointwise [dn]

theorem silu_at (a : FVec Ideal S4x4112x5632 .f32) (b : Fin 4) (n : Fin 4112) (l : Fin 5632) :
    silu a (ix3 b n l) = a (ix3 b n l) * Ideal.div (Ideal.ofBits .f32 1065353216#32) (Ideal.ofBits .f32 1065353216#32 + Ideal.exp (-(a (ix3 b n l) : EReal))) := by
  pointwise [silu]

theorem mul_at (a a' : FVec Ideal S4x4112x5632 .f32) (b : Fin 4) (n : Fin 4112) (l : Fin 5632) :
    mulf a a' (ix3 b n l) = (a (ix3 b n l) * a' (ix3 b n l) : EReal) := by
  pointwise []

theorem sq_at (b : Fin 4) (n : Fin 4112) : sq x (ix2 b n) = ∑ k, x (ix3 b n k) := by
  pointwise [sq]

theorem fac_at (s : FVec Ideal S4x4112 .f32) (b : Fin 4) (n : Fin 4112) :
    fac s (ix3 b n 0) = Ideal.rsqrt (Ideal.div (s (ix2 b n)) (Ideal.ofBits .f32 1157627904#32) + Ideal.ofBits .f32 897988541#32) := by
  pointwise [fac]

theorem scaled_at (f : FVec Ideal S4x4112x1 .f32) (g : FVec Ideal S2048 .f32) (b : Fin 4) (n : Fin 4112) (d : Fin 2048) :
    scaled x f g (ix3 b n d) = x (ix3 b n d) * f (ix3 b n 0) * g (ix1 d) := by
  pointwise [scaled]

theorem padRows_at (n : Fin 16896) (d : Fin 2048) :
    padRows x (ix2 n d) = if h : n.val % 4224 < 112 then (0 : EReal) else x (ix3 ⟨n.val / 4224, by omega⟩ ⟨n.val % 4224 - 112, by omega⟩ d) := by
  have := n.isLt
  pointwise [padRows]
  by_cases h : n.val % 4224 < 112
  · rw [dif_neg (by omega), dif_pos h]
    show (((0#32 : BitVec 32).toInt : ℝ) : EReal) = 0
    simp
  · rw [dif_pos (by omega), dif_neg h]

theorem tiles_at (w : FVec Ideal S4x2048x5632 .f32) (j : Fin 11) (k : Fin 2048) (x : Fin 512) :
    tiles w (ix3 j k x) = w (ix3 1 k ⟨512 * j.val + x.val, by omega⟩) := by
  pointwise [tiles]
  rw [show (⟨j.val * 512 + x.val, by omega⟩ : Fin 5632) = ⟨512 * j.val + x.val, by omega⟩ from Fin.ext (by show j.val * 512 + x.val = 512 * j.val + x.val; omega)]

theorem out2_at (w : FVec Ideal S4x2048x5632 .f32) (j : Fin 11) (k : Fin 2816) (x : Fin 512) :
    out2 w (ix3 j k x) = w (ix3 1 ⟨if k.val < 2048 then k.val else 1920 + k.val % 128, by split_ifs <;> omega⟩ ⟨512 * j.val + x.val, by omega⟩) := by
  have := k.isLt
  pointwise [out2, tail]
  simp only [tiles_at]
  split_ifs <;> first
  | omega
  | rfl
  | exact congrArg w (congrArg (fun t => ix3 1 t _) (Fin.ext (by dsimp only; omega)))

end

section

variable (u h : FVec Ideal S4x4112x2048 .f32) (wg wu : FVec Ideal S2048x5632 .f32) (wd : FVec Ideal S5632x2048 .f32) (g gn : FVec Ideal S2048 .f32)

/-- Where the gate's argument is real, the feed-forward part is the rows' product. -/
theorem ffn_at (hr : ∀ (b : Fin 4) (n : Fin 4112) (l : Fin 5632), ∃ a : ℝ, (∑ k, u (ix3 b n k) * wg (ix2 k l) : EReal) = (a : EReal))
    (b : Fin 4) (n : Fin 4112) (d : Fin 2048) :
    ffn u wg wu wd (ix3 b n d)
      = down (fun k => u (ix3 b n k)) (fun k l => wg (ix2 k l)) (fun k l => wu (ix2 k l)) (fun l => wd (ix2 l d)) := by
  unfold ffn down
  rw [dn_at]
  refine Finset.sum_congr rfl fun l _ => ?_
  rw [mul_at, silu_at, up_at, up_at]
  obtain ⟨a, ha⟩ := hr b n l
  rw [ha, gate_real]

/-- The root mean square norm of a row. -/
theorem rms_at (x : FVec Ideal S4x4112x2048 .f32) (b : Fin 4) (n : Fin 4112) (d : Fin 2048) :
    rms x g (ix3 b n d) = FfnRow.norm (fun k => x (ix3 b n k)) (fun k => g (ix1 k)) d := by
  unfold rms FfnRow.norm scale
  rw [scaled_at, fac_at, sq_at]
  rfl

/-- The residual row. -/
theorem res_at (hr : ∀ (b : Fin 4) (n : Fin 4112) (l : Fin 5632), ∃ a : ℝ, (∑ k, u (ix3 b n k) * wg (ix2 k l) : EReal) = (a : EReal))
    (b : Fin 4) (n : Fin 4112) (d : Fin 2048) :
    res u h wg wu wd g (ix3 b n d)
      = FfnRow.post (fun k => h (ix3 b n k))
          (fun d => down (fun k => u (ix3 b n k)) (fun k l => wg (ix2 k l)) (fun k l => wu (ix2 k l)) (fun l => wd (ix2 l d)))
          (fun k => g (ix1 k)) d := by
  show (h (ix3 b n d) + rms (ffn u wg wu wd) g (ix3 b n d) : EReal) = _
  rw [rms_at]
  unfold FfnRow.post FfnRow.norm
  simp only [ffn_at u wg wu wd hr]

end

variable (m : (ℓ : Loc nD τ sig) → Buf (Elt Ideal) ℓ) (c : Dev nD)

/-- What the run of the reference leaves in its second result. -/
theorem res1_eq : Value.res_out1 m c = out1 (m ((c.tc : Thread nD τ).loc main_arg0)) (m ((c.tc : Thread nD τ).loc main_arg6))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) := by
  unfold Value.res_out1 Value.res_main_v42
  rfl

end Cert.Reference2Ideal.FfnRef

end
-- ==== Proof.FfnFinal.lean ====
module

public import proofs.«01_k».proof.Proof.FfnEntry
public import proofs.«01_k».proof.Proof.FfnRef
public import proofs.«01_k».proof.Proof.AttnFinal
public import proofs.«01_k».proof.Proof.Gen.Pre_gate_finite

/-! # The feed-forward's result arrays

A block of 768 rows is written when its last tile is added; every point writes its tile of the next weights.
The blocks tile the arrays, and each holds what the reference has there. -/

@[expose] public section

set_option maxRecDepth 16384

noncomputable section

namespace Cert.Kernel2Ideal.Ffn

open Cert.Kernel2Ideal Cert.Kernel2Ideal.Gen Cert.Kernel2Ideal.Steps
open Idealize.ShloMosaic Idealize.ShloMosaic.TcCoe Idealize.SL.Sem
open Idealize.ShloMosaic.Pipeline (Dat)
open Cert.Words
open Cert.FfnRow (tile down scale gate sum_tiles down_zero)
open Cert.Reference2Ideal.FfnRef (out0 out1 out2 padRows padRows_at res res_at rms rms_at out2_at)

/-- The precondition: the argument and the gate's weights are real. -/
theorem finite_args (u h : FVec Ideal S4x4112x2048 .f32) (wg wu : FVec Ideal S2048x5632 .f32) (wd : FVec Ideal S5632x2048 .f32)
    (g gn : FVec Ideal S2048 .f32) (w : FVec Ideal S4x2048x5632 .f32)
    (h1 : (Cert.Pre_gate_finite.fn (F := Ideal) u wg wu wd g gn h w).1 = fun _ => 1#1)
    (h2 : (Cert.Pre_gate_finite.fn (F := Ideal) u wg wu wd g gn h w).2 = fun _ => 1#1) :
    (∃ f : S4x4112x2048.Idx → ℝ, ∀ i, u i = ((f i : ℝ) : EReal)) ∧ ∃ f : S2048x5632.Idx → ℝ, ∀ i, wg i = ((f i : ℝ) : EReal) :=
  ⟨Cert.KernelIdeal.Attn.real_of_lt u _ (fun _ => Cert.KernelIdeal.Attn.pinf) h1,
    Cert.KernelIdeal.Attn.real_of_lt wg _ (fun _ => Cert.KernelIdeal.Attn.pinf) h2⟩

/-- The gate's argument is real then. -/
theorem gate_arg (u : FVec Ideal S4x4112x2048 .f32) (wg : FVec Ideal S2048x5632 .f32) (fu : S4x4112x2048.Idx → ℝ) (fw : S2048x5632.Idx → ℝ)
    (hu : ∀ i, u i = ((fu i : ℝ) : EReal)) (hw : ∀ i, wg i = ((fw i : ℝ) : EReal)) (b : Fin 4) (n : Fin 4112) (l : Fin 5632) :
    ∃ a : ℝ, (∑ k, u (ix3 b n k) * wg (ix2 k l) : EReal) = (a : EReal) := by
  refine ⟨∑ k, fu (ix3 b n k) * fw (ix2 k l), ?_⟩
  rw [show (((∑ k, fu (ix3 b n k) * fw (ix2 k l) : ℝ)) : EReal) = ∑ k, ((fu (ix3 b n k) * fw (ix2 k l) : ℝ) : EReal) from
    map_sum (⟨⟨Real.toEReal, EReal.coe_zero⟩, EReal.coe_add⟩ : ℝ →+ EReal) _ _]
  exact Finset.sum_congr rfl fun k _ => by rw [hu, hw, EReal.coe_mul]

variable (m : (ℓ : Loc nD τ sig) → Buf (Elt Ideal) ℓ) (c : Dev nD)

/-- The products of a row. -/
def prods (n : ℕ) (hn : n < 16896) (d : Fin 2048) : EReal :=
  down (padded (argU m c) n hn) (fun k l => argG m c (ix2 k l)) (fun k l => argV m c (ix2 k l)) (fun l => argD m c (ix2 l d))

/-- The eleven shares are the row's products. -/
theorem total_eq (i : Fin 22) (r : Fin 768) (d : Fin 2048) :
    total m c i r d = prods m c (768 * i.val + r.val) (by omega) d := by
  have hi := i.isLt
  unfold total prods
  rw [← sum_tiles]
  refine Finset.sum_congr rfl fun s _ => ?_
  have hs := s.isLt
  have h1 : (pt i s.val (by omega)).val / 11 = i.val := by show (11 * i.val + s.val) / 11 = i.val; omega
  have h2 : (pt i s.val (by omega)).val % 11 = s.val := by show (11 * i.val + s.val) % 11 = s.val; omega
  unfold share blkTile
  simp only [blk_u, blk_g, blk_v, blk_d, h1, h2]

/-- A row of a block of the residual. -/
theorem resRow_eq (hr : ∀ (b : Fin 4) (n : Fin 4112) (l : Fin 5632), ∃ a : ℝ, (∑ k, argU m c (ix3 b n k) * argG m c (ix2 k l) : EReal) = (a : EReal))
    (i : Fin 22) (r : Fin 768) (d : Fin 2048) :
    resRow m c i r d = padded (res (argU m c) (argH m c) (argG m c) (argV m c) (argD m c) (argP m c)) (768 * i.val + r.val) (by omega) d := by
  have hi := i.isLt
  have h1 : (pt i 10 (by omega)).val / 11 = i.val := by show (11 * i.val + 10) / 11 = i.val; omega
  have ht : total m c i r = prods m c (768 * i.val + r.val) (by omega) := funext fun d => total_eq m c i r d
  unfold resRow
  simp only [blk_h, blk_p, h1, ht]
  by_cases h : (768 * i.val + r.val) % 4224 < 112
  · have hp : ∀ x : S4x4112x2048.Idx → EReal, padded x (768 * i.val + r.val) (by omega) = fun _ => 0 := fun x => by
      funext k; exact dif_pos h
    have hq : prods m c (768 * i.val + r.val) (by omega) = fun _ => 0 := by
      funext k; unfold prods; rw [hp]; exact down_zero _ _ _
    unfold FfnRow.post
    simp only [hp, hq, zero_mul, add_zero]
  · unfold prods padded
    simp only [dif_neg h]
    exact (res_at _ _ _ _ _ _ hr _ _ d).symm

/-- A row of a block of the next part's argument. -/
theorem nextRow_eq (hr : ∀ (b : Fin 4) (n : Fin 4112) (l : Fin 5632), ∃ a : ℝ, (∑ k, argU m c (ix3 b n k) * argG m c (ix2 k l) : EReal) = (a : EReal))
    (i : Fin 22) (r : Fin 768) (d : Fin 2048) :
    nextRow m c i r d
      = padded (rms (res (argU m c) (argH m c) (argG m c) (argV m c) (argD m c) (argP m c)) (argN m c)) (768 * i.val + r.val) (by omega) d := by
  have hi := i.isLt
  have hs : resRow m c i r = padded (res (argU m c) (argH m c) (argG m c) (argV m c) (argD m c) (argP m c)) (768 * i.val + r.val) (by omega) :=
    funext fun d => resRow_eq m c hr i r d
  unfold nextRow
  rw [select_bit, hs]
  simp only [blk_n]
  by_cases h : (768 * i.val + r.val) % 4224 < 112
  · rw [if_neg (not_not.mpr h)]
    unfold padded
    rw [dif_pos h]
  · rw [if_pos h]
    unfold padded
    simp only [dif_neg h]
    exact (rms_at _ _ _ _ d).symm

/-- A block is written at its last tile's point. -/
theorem eq_pt (t : Fin grid0.N) (ht : t.val % 11 = 10) : ∃ i : Fin 22, t = pt i 10 (by decide) :=
  ⟨⟨t.val / 11, by have := pt_lt t; omega⟩, Fin.ext (by show t.val = 11 * (t.val / 11) + 10; omega)⟩

/-- The blocks written cover the first result array. -/
theorem covers8 : ((cfgM m (ok m)).win 8).Covers := by
  refine ⟨(by decide : ∀ a : Fin 2, 0 < spec0_8.size a), fun β => ?_⟩
  change (a : Fin 2) → Fin ((spec0_8.shape.size a + spec0_8.size a - 1) / spec0_8.size a) at β
  refine ⟨pt (β 0) 10 (by decide), (flush0_8 (adm m (ok m)) _).mpr (last_facts (β 0)).2.2, fun a => ⟨?_, Or.inl rfl⟩⟩
  have h := congrFun (idx m (pt (β 0) 10 (by decide))).2.2.2.2.2.2.2.2.1 a
  refine h.trans ?_
  change Fin 2 at a
  have h1 : (β 0).val < 22 := (β 0).isLt
  have h2 : (β 1).val < 1 := (β 1).isLt
  fin_cases a
  · show (11 * (β 0).val + 10) / 11 = (β 0).val
    omega
  · show 0 = (β 1).val
    omega

/-- The blocks written cover the second result array. -/
theorem covers9 : ((cfgM m (ok m)).win 9).Covers := by
  refine ⟨(by decide : ∀ a : Fin 2, 0 < spec0_9.size a), fun β => ?_⟩
  change (a : Fin 2) → Fin ((spec0_9.shape.size a + spec0_9.size a - 1) / spec0_9.size a) at β
  refine ⟨pt (β 0) 10 (by decide), (flush0_9 (adm m (ok m)) _).mpr (last_facts (β 0)).2.2, fun a => ⟨?_, Or.inl rfl⟩⟩
  have h := congrFun (idx m (pt (β 0) 10 (by decide))).2.2.2.2.2.2.2.2.2.1 a
  refine h.trans ?_
  change Fin 2 at a
  have h1 : (β 0).val < 22 := (β 0).isLt
  have h2 : (β 1).val < 1 := (β 1).isLt
  fin_cases a
  · show (11 * (β 0).val + 10) / 11 = (β 0).val
    omega
  · show 0 = (β 1).val
    omega

/-- The blocks written cover the third result array. -/
theorem covers10 : ((cfgM m (ok m)).win 10).Covers := by
  refine ⟨(by decide : ∀ a : Fin 3, 0 < spec0_10.size a), fun β => ?_⟩
  change (a : Fin 3) → Fin ((spec0_10.shape.size a + spec0_10.size a - 1) / spec0_10.size a) at β
  refine ⟨pt (β 1) (β 0).val (β 0).isLt, flush0_10 (adm m (ok m)) _, fun a => ⟨?_, Or.inl rfl⟩⟩
  have h := congrFun (idx m (pt (β 1) (β 0).val (β 0).isLt)).2.2.2.2.2.2.2.2.2.2 a
  refine h.trans ?_
  change Fin 3 at a
  have h0 : (β 0).val < 11 := (β 0).isLt
  have h1 : (β 1).val < 22 := (β 1).isLt
  have h2 : (β 2).val < 1 := (β 2).isLt
  fin_cases a
  · show (11 * (β 1).val + (β 0).val) % 11 = (β 0).val
    omega
  · show (11 * (β 1).val + (β 0).val) / 11 = (β 1).val
    omega
  · show 0 = (β 2).val
    omega

/-- The first result array is the reference's. -/
theorem final0 (hr : ∀ (b : Fin 4) (n : Fin 4112) (l : Fin 5632), ∃ a : ℝ, (∑ k, argU m c (ix3 b n k) * argG m c (ix2 k l) : EReal) = (a : EReal)) :
    (dats m (ok m) 0 c).arrAt 8 (cfgM m (ok m)).N = out0 (argU m c) (argH m c) (argG m c) (argV m c) (argD m c) (argP m c) := by
  refine (dats m (ok m) 0 c).arrAt_eq_of_covers 8 _ (covers8 m) fun t hf y => ?_
  obtain ⟨i, ht⟩ := eq_pt t ((flush0_8 (adm m (ok m)) t).mp hf)
  have hi := i.isLt
  have hd : t.val / 11 = i.val := by rw [ht]; show (11 * i.val + 10) / 11 = i.val; omega
  blk_simp
  rw [after0_8]
  change S768x2048.Idx at y
  obtain ⟨r, d, rfl⟩ : ∃ (r : Fin 768) (d : Fin 2048), y = ix2 r d := ⟨y 0, y 1, by funext a; fin_cases a <;> rfl⟩
  have he : (((cfgM m (ok m)).win 8).blk t).view.emb (ix2 r d) = (ix2 ⟨768 * i.val + r.val, by omega⟩ d : S16896x2048.Idx) := by
    blk_ext [(idx m t).2.2.2.2.2.2.2.2.1, hd]
  refine Eq.trans ?_ (congrArg (out0 _ _ _ _ _ _) he).symm
  subst ht
  refine (last_res m c i r d).trans ((resRow_eq m c hr i r d).trans ?_)
  exact (padRows_at (res (argU m c) (argH m c) (argG m c) (argV m c) (argD m c) (argP m c)) ⟨768 * i.val + r.val, by omega⟩ d).symm

/-- The second result array is the reference's. -/
theorem final1 (hr : ∀ (b : Fin 4) (n : Fin 4112) (l : Fin 5632), ∃ a : ℝ, (∑ k, argU m c (ix3 b n k) * argG m c (ix2 k l) : EReal) = (a : EReal)) :
    (dats m (ok m) 0 c).arrAt 9 (cfgM m (ok m)).N = out1 (argU m c) (argH m c) (argG m c) (argV m c) (argD m c) (argP m c) (argN m c) := by
  refine (dats m (ok m) 0 c).arrAt_eq_of_covers 9 _ (covers9 m) fun t hf y => ?_
  obtain ⟨i, ht⟩ := eq_pt t ((flush0_9 (adm m (ok m)) t).mp hf)
  have hi := i.isLt
  have hd : t.val / 11 = i.val := by rw [ht]; show (11 * i.val + 10) / 11 = i.val; omega
  blk_simp
  rw [after0_9]
  change S768x2048.Idx at y
  obtain ⟨r, d, rfl⟩ : ∃ (r : Fin 768) (d : Fin 2048), y = ix2 r d := ⟨y 0, y 1, by funext a; fin_cases a <;> rfl⟩
  have he : (((cfgM m (ok m)).win 9).blk t).view.emb (ix2 r d) = (ix2 ⟨768 * i.val + r.val, by omega⟩ d : S16896x2048.Idx) := by
    blk_ext [(idx m t).2.2.2.2.2.2.2.2.2.1, hd]
  refine Eq.trans ?_ (congrArg (out1 _ _ _ _ _ _ _) he).symm
  subst ht
  refine (last_next m c i r d).trans ((nextRow_eq m c hr i r d).trans ?_)
  exact (padRows_at (rms (res (argU m c) (argH m c) (argG m c) (argV m c) (argD m c) (argP m c)) (argN m c)) ⟨768 * i.val + r.val, by omega⟩ d).symm

/-- The third result array is the reference's. -/
theorem final2 : (dats m (ok m) 0 c).arrAt 10 (cfgM m (ok m)).N = out2 (argW m c) := by
  refine (dats m (ok m) 0 c).arrAt_eq_of_covers 10 _ (covers10 m) fun t hf y => ?_
  have hl := pt_lt t
  blk_simp
  rw [after0_10]
  change S1x128x512.Idx at y
  obtain ⟨z, r, d, rfl⟩ : ∃ (z : Fin 1) (r : Fin 128) (d : Fin 512), y = ix3 z r d := ⟨y 0, y 1, y 2, by funext a; fin_cases a <;> rfl⟩
  have he : (((cfgM m (ok m)).win 10).blk t).view.emb (ix3 z r d) = (ix3 ⟨t.val % 11, by omega⟩ ⟨128 * (t.val / 11) + r.val, by omega⟩ d : S11x2816x512.Idx) := by
    blk_ext [(idx m t).2.2.2.2.2.2.2.2.2.2]
  refine Eq.trans ?_ (congrArg (out2 _) he).symm
  refine (carry_at m c t z r d).trans ((blk_w m c t r d).trans ?_)
  refine Eq.trans ?_ (out2_at _ _ _ d).symm
  refine congrArg (argW m c) (congrArg (fun k => ix3 1 k _) (Fin.ext ?_))
  dsimp only
  split_ifs <;> omega

end Cert.Kernel2Ideal.Ffn

end
-- ==== Proof.FfnBits.lean ====
/- The feed-forward kernel over words. Its text is the ideal kernel's, so the run is the same one, over words instead
   of extended reals. -/
module

public import proofs.«01_k».proof.Defs
public import proofs.«01_k».proof.Proof.Gen.Kernel2
public import proofs.«01_k».proof.Proof.FfnOk

@[expose] public section

set_option maxRecDepth 100000

noncomputable section

namespace Cert.Kernel2.Steps

open Idealize.ShloMosaic Idealize.SL.Sem

set_option maxHeartbeats 2000000 in
/-- The two body tables are one. -/
theorem defs₀_eq : Cert.Kernel2.defs₀ (F := Bits) = Cert.Kernel2Ideal.defs₀ (F := Bits) := by
  funext k l a
  cases k
  · change Fin 1 at l
    fin_cases l
    obtain ⟨t, s⟩ := a
    rfl
  · rfl
  · rfl

set_option maxHeartbeats 4000000 in
/-- And so are the programs' tables. -/
theorem defs_eq : Cert.Kernel2.defs (F := Bits) = Cert.Kernel2Ideal.defs (F := Bits) := by
  unfold Cert.Kernel2.defs Cert.Kernel2Ideal.defs
  exact congrArg (Pipeline.defs Cert.Kernel2Ideal.pcfgs) defs₀_eq

set_option maxHeartbeats 4000000 in
/-- The kernel runs, and leaves its arguments and semaphores as they were. -/
theorem frame : Cert.quiescent_Kernel2 := fun m ρ _ => by
  have h := Cert.Kernel2Ideal.Steps.frame (F := Bits) m ρ (Cert.Kernel2Ideal.Steps.ok m)
  rw [← defs_eq] at h
  exact h

end Cert.Kernel2.Steps

end
-- ==== Proof.OutBlock.lean ====
module

public import Idealize.ShloMosaic.Lib.Pipeline.ValueKit
public import proofs.«01_k».proof.Proof.Gen.Kernel3Ideal.Value
public import proofs.«01_k».proof.Proof.FfnMath

/-! # What the output projection stores, entry by entry

A grid point takes 768 rows in four pieces of 192. A row of a piece is laid together from sixteen slabs of 128
columns, multiplied by the weights, normed, added to the residual, and normed again. -/

@[expose] public section

set_option maxRecDepth 16384

noncomputable section

namespace Cert.Kernel3Ideal.Out

open Cert.Kernel3Ideal Cert.Kernel3Ideal.Gen
open Idealize.ShloMosaic Idealize.ShloMosaic.TcCoe Idealize.SL.Sem
open Cert.FfnRow

/-- Sixteen slabs side by side. -/
def lay (l : Fin 16 → Vec Ideal S1x192x128 .bf16) : FVec Ideal S192x2048 .bf16 :=
  concatenate S192x2048 1 [⟨S192x128, shapeCast S192x128 (l 0) shapeCasts_S1x192x128_S192x128⟩, ⟨S192x128, shapeCast S192x128 (l 1) shapeCasts_S1x192x128_S192x128⟩, ⟨S192x128, shapeCast S192x128 (l 2) shapeCasts_S1x192x128_S192x128⟩, ⟨S192x128, shapeCast S192x128 (l 3) shapeCasts_S1x192x128_S192x128⟩, ⟨S192x128, shapeCast S192x128 (l 4) shapeCasts_S1x192x128_S192x128⟩, ⟨S192x128, shapeCast S192x128 (l 5) shapeCasts_S1x192x128_S192x128⟩, ⟨S192x128, shapeCast S192x128 (l 6) shapeCasts_S1x192x128_S192x128⟩, ⟨S192x128, shapeCast S192x128 (l 7) shapeCasts_S1x192x128_S192x128⟩, ⟨S192x128, shapeCast S192x128 (l 8) shapeCasts_S1x192x128_S192x128⟩, ⟨S192x128, shapeCast S192x128 (l 9) shapeCasts_S1x192x128_S192x128⟩, ⟨S192x128, shapeCast S192x128 (l 10) shapeCasts_S1x192x128_S192x128⟩, ⟨S192x128, shapeCast S192x128 (l 11) shapeCasts_S1x192x128_S192x128⟩, ⟨S192x128, shapeCast S192x128 (l 12) shapeCasts_S1x192x128_S192x128⟩, ⟨S192x128, shapeCast S192x128 (l 13) shapeCasts_S1x192x128_S192x128⟩, ⟨S192x128, shapeCast S192x128 (l 14) shapeCasts_S1x192x128_S192x128⟩, ⟨S192x128, shapeCast S192x128 (l 15) shapeCasts_S1x192x128_S192x128⟩]
    concatenates_S192x128_S192x128_S192x128_S192x128_S192x128_S192x128_S192x128_S192x128_S192x128_S192x128_S192x128_S192x128_S192x128_S192x128_S192x128_S192x128_S192x2048_d1

/-- The slabs' product with the weights. -/
def proj (l : Fin 16 → Vec Ideal S1x192x128 .bf16) (w : Vec Ideal S2048x2048 .bf16) : FVec Ideal S192x2048 .f32 :=
  matmul dot_S192x2048_S2048x2048_S192x2048_1_0_0_1_n_n none (lay l)
    (shapeCast S2048x2048 w shapeCasts_S2048x2048_S2048x2048 : FVec Ideal S2048x2048 .bf16)
    (constant S192x2048 .f32 0x00000000#32)

/-- A slab without its unit axis. -/
def flat (x : Vec Ideal S1x192x128 .bf16) : FVec Ideal S192x128 .bf16 := shapeCast S192x128 x shapeCasts_S1x192x128_S192x128

theorem flat_at (x : Vec Ideal S1x192x128 .bf16) (r : Fin 192) (e : Fin 128) : flat x (ix2 r e) = x (ix3 0 r e) := by
  pointwise [flat]

/-- A row of the slabs. -/
theorem lay_at (l : Fin 16 → Vec Ideal S1x192x128 .bf16) (r : Fin 192) (k : Fin 2048) :
    lay l (ix2 r k) = l ⟨k.val / 128, by omega⟩ (ix3 0 r ⟨k.val % 128, by omega⟩) := by
  refine Eq.trans ?_ (flat_at (l ⟨k.val / 128, by omega⟩) r ⟨k.val % 128, by omega⟩)
  refine concatenate_ofFn_apply (t := S192x2048) (s₁ := S192x128) 1 (fun n : Fin 16 => flat (l n))
    concatenates_S192x128_S192x128_S192x128_S192x128_S192x128_S192x128_S192x128_S192x128_S192x128_S192x128_S192x128_S192x128_S192x128_S192x128_S192x128_S192x128_S192x2048_d1
    rfl 128 rfl (ix2 r k) ⟨k.val / 128, by omega⟩ rfl (ix2 r ⟨k.val % 128, by omega⟩) rfl fun b hb => ?_
  change Fin 2 at b
  fin_cases b
  · rfl
  · exact absurd rfl hb

/-- An entry of the product. -/
theorem proj_at (l : Fin 16 → Vec Ideal S1x192x128 .bf16) (w : Vec Ideal S2048x2048 .bf16) (r : Fin 192) (d : Fin 2048) :
    proj l w (ix2 r d) = ∑ k : Fin 2048, (l ⟨k.val / 128, by omega⟩ (ix3 0 r ⟨k.val % 128, by omega⟩) * w (ix2 k d) : EReal) := by
  refine Eq.trans (b := ∑ k : Fin 2048, (lay l (ix2 r k) * w (ix2 k d) : EReal)) ?_ (Finset.sum_congr rfl fun k _ => by rw [lay_at])
  pointwise [proj]

section

variable (y h : FVec Ideal S192x2048 .f32) (g gn : Vec Ideal S1x2048 .f32)

/-- A residual row of a piece. -/
def pcPost (r : Fin 192) (d : Fin 2048) : EReal := post (fun d => h (ix2 r d)) (fun d => y (ix2 r d)) (fun d => g (ix2 0 d)) d

/-- The same, normed. -/
def pcNorm (r : Fin 192) (d : Fin 2048) : EReal := FfnRow.norm (pcPost y h g r) (fun d => gn (ix2 0 d)) d

/-- The residual rows of the first piece. -/
theorem pay22_at (r : Fin 192) (d : Fin 2048) : k0_pay22 y (k0_pay21 h) g (ix2 r d) = pcPost y h g r d := by
  pointwise [k0_pay22, k0_pay21]
  rfl

/-- The residual rows of the second piece. -/
theorem pay39_at (r : Fin 192) (d : Fin 2048) : k0_pay39 y h g (ix2 r d) = pcPost y h g r d := by
  pointwise [k0_pay39]
  rfl

/-- The residual rows of the third piece. -/
theorem pay55_at (r : Fin 192) (d : Fin 2048) : k0_pay55 (k0_pay52 h) (k0_pay54 y g) (ix2 r d) = pcPost y h g r d := by
  pointwise [k0_pay55, k0_pay52, k0_pay54]
  rfl

/-- The residual rows of the fourth piece. -/
theorem pay58_at (r : Fin 192) (d : Fin 2048) : k0_pay58 y h g (ix2 r d) = pcPost y h g r d := by
  pointwise [k0_pay58]
  rfl

/-- The normed rows of the first piece. -/
theorem pay23_at (r : Fin 192) (d : Fin 2048) : k0_pay23 y (k0_pay21 h) g gn (ix2 r d) = pcNorm y h g gn r d := by
  pointwise [k0_pay23, k0_pay22, k0_pay21]
  rfl

/-- The normed rows of the second piece. -/
theorem pay40_at (r : Fin 192) (d : Fin 2048) : k0_pay40 y h g gn (ix2 r d) = pcNorm y h g gn r d := by
  pointwise [k0_pay40, k0_pay39]
  rfl

/-- The normed rows of the third piece. -/
theorem pay56_at (r : Fin 192) (d : Fin 2048) : k0_pay56 (k0_pay52 h) (k0_pay53 gn) (k0_pay54 y g) (ix2 r d) = pcNorm y h g gn r d := by
  pointwise [k0_pay56, k0_pay55, k0_pay52, k0_pay53, k0_pay54]
  rfl

/-- The normed rows of the fourth piece. -/
theorem pay1_at (r : Fin 192) (d : Fin 2048) : k0_pay1 (k0_pay57 gn) (k0_pay58 y h g) (k0_pay59 y h g) (ix2 r d) = pcNorm y h g gn r d := by
  pointwise [k0_pay1, k0_pay57, k0_pay58, k0_pay59]
  rfl

end

section

variable (x0 x1 : Vec Ideal S8x768x128 .bf16) (x2 : Vec Ideal S2048x2048 .bf16) (x3 x4 : Vec Ideal S1x2048 .f32) (x5 : Vec Ideal S768x2048 .f32)

/-- A row of the block, its sixteen slabs side by side. -/
def mix (r : Fin 768) (k : Fin 2048) : EReal :=
  if h : k.val < 1024 then x0 (ix3 ⟨k.val / 128, by omega⟩ r ⟨k.val % 128, by omega⟩)
  else x1 (ix3 ⟨k.val / 128 - 8, by omega⟩ r ⟨k.val % 128, by omega⟩)

/-- A row's product with the weights. -/
def prodRow (r : Fin 768) (d : Fin 2048) : EReal := ∑ k : Fin 2048, mix x0 x1 r k * x2 (ix2 k d)

/-- A row of the residual's block. -/
def resRow (r : Fin 768) (d : Fin 2048) : EReal := post (fun d => x5 (ix2 r d)) (prodRow x0 x1 x2 r) (fun d => x3 (ix2 0 d)) d

/-- A row of the normed residual's block. -/
def nextRow (r : Fin 768) (d : Fin 2048) : EReal := FfnRow.norm (resRow x0 x1 x2 x3 x5 r) (fun d => x4 (ix2 0 d)) d

/-- A row of a piece that begins at row `o`. -/
def row (o : ℕ) (ho : o + 192 ≤ 768) (r : Fin 192) : Fin 768 := ⟨o + r.val, by omega⟩

/-- A slab's rows of a piece. -/
theorem slab_at (x : Vec Ideal S8x768x128 .bf16) (c o : ℕ) (hc : c < 8) (ho : o + 192 ≤ 768)
    (inb : ∀ a, (![c, o, 0] : Fin 3 → ℕ) a + S1x192x128.size a ≤ S8x768x128.size a) (r : Fin 192) (e : Fin 128) :
    View.ld x (Rect.unit (s := S8x768x128) ![c, o, 0] S1x192x128.size inb) (ix3 0 r e) = x (ix3 ⟨c, hc⟩ (row o ho r) e) := by
  refine congrArg x ?_
  funext a
  fin_cases a
  · refine Fin.ext ?_; show c + 1 * 0 = c; omega
  · refine Fin.ext ?_; show o + 1 * r.val = o + r.val; omega
  · refine Fin.ext ?_; show 0 + 1 * e.val = e.val; omega

/-- The residual's rows of a piece. -/
theorem rows_at (o : ℕ) (ho : o + 192 ≤ 768) (inb : ∀ a, (![o, 0] : Fin 2 → ℕ) a + S192x2048.size a ≤ S768x2048.size a)
    (r : Fin 192) (d : Fin 2048) :
    View.ld x5 (Rect.unit (s := S768x2048) ![o, 0] S192x2048.size inb) (ix2 r d) = x5 (ix2 (row o ho r) d) := by
  refine congrArg x5 ?_
  funext a
  fin_cases a
  · refine Fin.ext ?_; show o + 1 * r.val = o + r.val; omega
  · refine Fin.ext ?_; show 0 + 1 * d.val = d.val; omega

/-- A row of gains is read whole. -/
theorem gains_at (x : Vec Ideal S1x2048 .f32) (d : Fin 2048) : View.ld x r0_18 (ix2 0 d) = x (ix2 0 d) := by
  refine congrArg x ?_
  funext a
  fin_cases a
  · exact Fin.ext rfl
  · refine Fin.ext ?_; show 0 + 1 * d.val = d.val; omega

/-- The weights are read whole. -/
theorem weights_at (k d : Fin 2048) : View.ld x2 r0_8 (ix2 k d) = x2 (ix2 k d) := by
  refine congrArg x2 ?_
  funext a
  fin_cases a
  · refine Fin.ext ?_; show 0 + 1 * k.val = k.val; omega
  · refine Fin.ext ?_; show 0 + 1 * d.val = d.val; omega

/-- Where the slabs hold a piece's rows, the product is the rows'. -/
theorem proj_row (l : Fin 16 → Vec Ideal S1x192x128 .bf16) (o : ℕ) (ho : o + 192 ≤ 768)
    (hl : ∀ (c : Fin 8) (r : Fin 192) (e : Fin 128), l ⟨c.val, by omega⟩ (ix3 0 r e) = x0 (ix3 c (row o ho r) e))
    (hl' : ∀ (c : Fin 8) (r : Fin 192) (e : Fin 128), l ⟨8 + c.val, by omega⟩ (ix3 0 r e) = x1 (ix3 c (row o ho r) e))
    (r : Fin 192) (d : Fin 2048) :
    proj l (View.ld x2 r0_8) (ix2 r d) = prodRow x0 x1 x2 (row o ho r) d := by
  refine (proj_at l _ r d).trans (Finset.sum_congr rfl fun k _ => ?_)
  have hk := k.isLt
  rw [weights_at]
  refine congrArg (fun a : EReal => a * x2 (ix2 k d)) ?_
  unfold mix
  by_cases h : k.val < 1024
  · rw [dif_pos h]
    exact hl ⟨k.val / 128, by omega⟩ r _
  · rw [dif_neg h]
    refine Eq.trans ?_ (hl' ⟨k.val / 128 - 8, by omega⟩ r _)
    rw [show (⟨k.val / 128, by omega⟩ : Fin 16) = ⟨8 + (k.val / 128 - 8), by omega⟩ from Fin.ext (by show k.val / 128 = 8 + (k.val / 128 - 8); omega)]

/-- The third piece's products. -/
def pay38 : FVec Ideal S192x2048 .f32 :=
  k0_pay38 (k0_pay24 (View.ld x0 r0_19)) (k0_pay25 (View.ld x0 r0_20)) (k0_pay26 (View.ld x0 r0_21)) (k0_pay27 (View.ld x0 r0_22)) (k0_pay28 (View.ld x0 r0_23)) (k0_pay29 (View.ld x0 r0_24)) (k0_pay30 (View.ld x0 r0_25)) (k0_pay31 (View.ld x0 r0_26)) (k0_pay32 (View.ld x1 r0_19)) (k0_pay33 (View.ld x1 r0_20)) (k0_pay34 (View.ld x1 r0_21)) (k0_pay35 (View.ld x1 r0_22)) (k0_pay36 (View.ld x1 r0_23)) (k0_pay37 (View.ld x1 r0_24)) (View.ld x1 r0_25) (View.ld x1 r0_26) (View.ld x2 r0_8)

/-- The first piece's products. -/
theorem prod_0 (r : Fin 192) (d : Fin 2048) : k0_pay60 x0 x1 x2 x3 x4 x5 (ix2 r d) = prodRow x0 x1 x2 (row 0 (by decide) r) d := by
  refine Eq.trans ?_ (proj_row x0 x1 x2 ![View.ld x0 r0_0, View.ld x0 r0_1, View.ld x0 r0_2, View.ld x0 r0_3, View.ld x0 r0_4, View.ld x0 r0_5, View.ld x0 r0_6, View.ld x0 r0_7, View.ld x1 r0_0, View.ld x1 r0_1, View.ld x1 r0_2, View.ld x1 r0_3, View.ld x1 r0_4, View.ld x1 r0_5, View.ld x1 r0_6, View.ld x1 r0_7] 0 (by decide) (fun c r e => ?_) (fun c r e => ?_) r d)
  · rfl
  · fin_cases c
    all_goals exact slab_at _ _ _ _ _ _ r e
  · fin_cases c
    all_goals exact slab_at _ _ _ _ _ _ r e

/-- The second piece's products. -/
theorem prod_192 (r : Fin 192) (d : Fin 2048) : k0_pay61 x0 x1 x2 x3 x4 x5 (ix2 r d) = prodRow x0 x1 x2 (row 192 (by decide) r) d := by
  refine Eq.trans ?_ (proj_row x0 x1 x2 ![View.ld x0 r0_9, View.ld x0 r0_10, View.ld x0 r0_11, View.ld x0 r0_12, View.ld x0 r0_13, View.ld x0 r0_14, View.ld x0 r0_15, View.ld x0 r0_16, View.ld x1 r0_9, View.ld x1 r0_10, View.ld x1 r0_11, View.ld x1 r0_12, View.ld x1 r0_13, View.ld x1 r0_14, View.ld x1 r0_15, View.ld x1 r0_16] 192 (by decide) (fun c r e => ?_) (fun c r e => ?_) r d)
  · rfl
  · fin_cases c
    all_goals exact slab_at _ _ _ _ _ _ r e
  · fin_cases c
    all_goals exact slab_at _ _ _ _ _ _ r e

/-- The third piece's products. -/
theorem prod_384 (r : Fin 192) (d : Fin 2048) : pay38 x0 x1 x2 (ix2 r d) = prodRow x0 x1 x2 (row 384 (by decide) r) d := by
  refine Eq.trans ?_ (proj_row x0 x1 x2 ![View.ld x0 r0_19, View.ld x0 r0_20, View.ld x0 r0_21, View.ld x0 r0_22, View.ld x0 r0_23, View.ld x0 r0_24, View.ld x0 r0_25, View.ld x0 r0_26, View.ld x1 r0_19, View.ld x1 r0_20, View.ld x1 r0_21, View.ld x1 r0_22, View.ld x1 r0_23, View.ld x1 r0_24, View.ld x1 r0_25, View.ld x1 r0_26] 384 (by decide) (fun c r e => ?_) (fun c r e => ?_) r d)
  · rfl
  · fin_cases c
    all_goals exact slab_at _ _ _ _ _ _ r e
  · fin_cases c
    all_goals exact slab_at _ _ _ _ _ _ r e

/-- The fourth piece's products. -/
theorem prod_576 (r : Fin 192) (d : Fin 2048) : k0_pay63 x0 x1 x2 x3 x4 x5 (ix2 r d) = prodRow x0 x1 x2 (row 576 (by decide) r) d := by
  refine Eq.trans ?_ (proj_row x0 x1 x2 ![View.ld x0 r0_28, View.ld x0 r0_29, View.ld x0 r0_30, View.ld x0 r0_31, View.ld x0 r0_32, View.ld x0 r0_33, View.ld x0 r0_34, View.ld x0 r0_35, View.ld x1 r0_28, View.ld x1 r0_29, View.ld x1 r0_30, View.ld x1 r0_31, View.ld x1 r0_32, View.ld x1 r0_33, View.ld x1 r0_34, View.ld x1 r0_35] 576 (by decide) (fun c r e => ?_) (fun c r e => ?_) r d)
  · rfl
  · fin_cases c
    all_goals exact slab_at _ _ _ _ _ _ r e
  · fin_cases c
    all_goals exact slab_at _ _ _ _ _ _ r e

/-- A residual row of a piece is one of the block. -/
theorem post_of (o : ℕ) (ho : o + 192 ≤ 768) (y h : FVec Ideal S192x2048 .f32)
    (hy : ∀ (r : Fin 192) (d : Fin 2048), y (ix2 r d) = prodRow x0 x1 x2 (row o ho r) d)
    (hh : ∀ (r : Fin 192) (d : Fin 2048), h (ix2 r d) = x5 (ix2 (row o ho r) d)) (r : Fin 192) (d : Fin 2048) :
    pcPost y h (View.ld x3 r0_18) r d = resRow x0 x1 x2 x3 x5 (row o ho r) d := by
  unfold pcPost resRow
  rw [show (fun d => h (ix2 r d)) = fun d => x5 (ix2 (row o ho r) d) from funext fun d => hh r d,
    show (fun d => y (ix2 r d)) = prodRow x0 x1 x2 (row o ho r) from funext fun d => hy r d,
    show (fun d => View.ld x3 r0_18 (ix2 0 d)) = fun d => x3 (ix2 0 d) from funext fun d => gains_at x3 d]

/-- A normed row of a piece is one of the block. -/
theorem norm_of (o : ℕ) (ho : o + 192 ≤ 768) (y h : FVec Ideal S192x2048 .f32)
    (hy : ∀ (r : Fin 192) (d : Fin 2048), y (ix2 r d) = prodRow x0 x1 x2 (row o ho r) d)
    (hh : ∀ (r : Fin 192) (d : Fin 2048), h (ix2 r d) = x5 (ix2 (row o ho r) d)) (r : Fin 192) (d : Fin 2048) :
    pcNorm y h (View.ld x3 r0_18) (View.ld x4 r0_18) r d = nextRow x0 x1 x2 x3 x4 x5 (row o ho r) d := by
  unfold pcNorm nextRow
  rw [show pcPost y h (View.ld x3 r0_18) r = resRow x0 x1 x2 x3 x5 (row o ho r) from
      funext fun d => post_of x0 x1 x2 x3 x5 o ho y h hy hh r d,
    show (fun d => View.ld x4 r0_18 (ix2 0 d)) = fun d => x4 (ix2 0 d) from funext fun d => gains_at x4 d]

/-- The point's block of the residual. -/
theorem out6_at (r : Fin 768) (d : Fin 2048) : out0_6 x0 x1 x2 x3 x4 x5 (ix2 r d) = resRow x0 x1 x2 x3 x5 r d := by
  unfold out0_6
  canon_tiles x h
  · obtain ⟨r', d', rfl⟩ : ∃ (r' : Fin 192) (d' : Fin 2048), x = ix2 r' d' := ⟨x 0, x 1, by funext a; fin_cases a <;> rfl⟩
    obtain rfl : r = row 576 (by decide) r' := Fin.ext h0
    obtain rfl : d = d' := Fin.ext h1
    exact (pay58_at _ _ _ _ _).trans (post_of x0 x1 x2 x3 x5 576 (by decide) _ _ (prod_576 x0 x1 x2 x3 x4 x5) (rows_at x5 576 (by decide) _) _ _)
  · obtain ⟨r', d', rfl⟩ : ∃ (r' : Fin 192) (d' : Fin 2048), x = ix2 r' d' := ⟨x 0, x 1, by funext a; fin_cases a <;> rfl⟩
    obtain rfl : r = row 384 (by decide) r' := Fin.ext h0
    obtain rfl : d = d' := Fin.ext h1
    exact (pay55_at _ _ _ _ _).trans (post_of x0 x1 x2 x3 x5 384 (by decide) _ _ (prod_384 x0 x1 x2) (rows_at x5 384 (by decide) _) _ _)
  · obtain ⟨r', d', rfl⟩ : ∃ (r' : Fin 192) (d' : Fin 2048), x = ix2 r' d' := ⟨x 0, x 1, by funext a; fin_cases a <;> rfl⟩
    obtain rfl : r = row 192 (by decide) r' := Fin.ext h0
    obtain rfl : d = d' := Fin.ext h1
    exact (pay39_at _ _ _ _ _).trans (post_of x0 x1 x2 x3 x5 192 (by decide) _ _ (prod_192 x0 x1 x2 x3 x4 x5) (rows_at x5 192 (by decide) _) _ _)
  · obtain ⟨r', d', rfl⟩ : ∃ (r' : Fin 192) (d' : Fin 2048), x = ix2 r' d' := ⟨x 0, x 1, by funext a; fin_cases a <;> rfl⟩
    obtain rfl : r = row 0 (by decide) r' := Fin.ext (h0.trans (Nat.zero_add _).symm)
    obtain rfl : d = d' := Fin.ext h1
    exact (pay22_at _ _ _ _ _).trans (post_of x0 x1 x2 x3 x5 0 (by decide) _ _ (prod_0 x0 x1 x2 x3 x4 x5) (rows_at x5 0 (by decide) _) _ _)

/-- The point's block of the normed residual. -/
theorem out7_at (r : Fin 768) (d : Fin 2048) : out0_7 x0 x1 x2 x3 x4 x5 (ix2 r d) = nextRow x0 x1 x2 x3 x4 x5 r d := by
  unfold out0_7
  canon_tiles x h
  · obtain ⟨r', d', rfl⟩ : ∃ (r' : Fin 192) (d' : Fin 2048), x = ix2 r' d' := ⟨x 0, x 1, by funext a; fin_cases a <;> rfl⟩
    obtain rfl : r = row 576 (by decide) r' := Fin.ext h0
    obtain rfl : d = d' := Fin.ext h1
    exact (pay1_at _ _ _ _ _ _).trans (norm_of x0 x1 x2 x3 x4 x5 576 (by decide) _ _ (prod_576 x0 x1 x2 x3 x4 x5) (rows_at x5 576 (by decide) _) _ _)
  · obtain ⟨r', d', rfl⟩ : ∃ (r' : Fin 192) (d' : Fin 2048), x = ix2 r' d' := ⟨x 0, x 1, by funext a; fin_cases a <;> rfl⟩
    obtain rfl : r = row 384 (by decide) r' := Fin.ext h0
    obtain rfl : d = d' := Fin.ext h1
    exact (pay56_at _ _ _ _ _ _).trans (norm_of x0 x1 x2 x3 x4 x5 384 (by decide) _ _ (prod_384 x0 x1 x2) (rows_at x5 384 (by decide) _) _ _)
  · obtain ⟨r', d', rfl⟩ : ∃ (r' : Fin 192) (d' : Fin 2048), x = ix2 r' d' := ⟨x 0, x 1, by funext a; fin_cases a <;> rfl⟩
    obtain rfl : r = row 192 (by decide) r' := Fin.ext h0
    obtain rfl : d = d' := Fin.ext h1
    exact (pay40_at _ _ _ _ _ _).trans (norm_of x0 x1 x2 x3 x4 x5 192 (by decide) _ _ (prod_192 x0 x1 x2 x3 x4 x5) (rows_at x5 192 (by decide) _) _ _)
  · obtain ⟨r', d', rfl⟩ : ∃ (r' : Fin 192) (d' : Fin 2048), x = ix2 r' d' := ⟨x 0, x 1, by funext a; fin_cases a <;> rfl⟩
    obtain rfl : r = row 0 (by decide) r' := Fin.ext (h0.trans (Nat.zero_add _).symm)
    obtain rfl : d = d' := Fin.ext h1
    exact (pay23_at _ _ _ _ _ _).trans (norm_of x0 x1 x2 x3 x4 x5 0 (by decide) _ _ (prod_0 x0 x1 x2 x3 x4 x5) (rows_at x5 0 (by decide) _) _ _)

end

end Cert.Kernel3Ideal.Out

end
-- ==== Proof.OutRef.lean ====
module

public import proofs.«01_k».proof.Proof.Gen.Reference3Ideal.Run
public import proofs.«01_k».proof.Proof.FfnMath
public import Idealize.ShloMosaic.Lib.IdealHost
public import Idealize.ShloMosaic.Lib.Pipeline.ValueKit

/-! # The output projection's reference, read at an index -/

@[expose] public section

set_option maxRecDepth 16384

noncomputable section

namespace Cert.Reference3Ideal.OutRef

open Cert.Reference3Ideal Cert.Reference3Ideal.Gen
open Idealize.ShloMosaic Idealize.ShloMosaic.TcCoe Idealize.SL.Sem
open Cert.FfnRow

/-- The two mixers' rows side by side. -/
def both (a r : FVec Ideal S4x4224x1024 .f32) : FVec Ideal S4x4224x2048 .f32 :=
  concatenate S4x4224x2048 2 [⟨S4x4224x1024, a⟩, ⟨S4x4224x1024, r⟩] concatenates_S4x4224x1024_S4x4224x1024_S4x4224x2048_d2

/-- Their product with the weights. -/
def prod (x : FVec Ideal S4x4224x2048 .f32) (w : FVec Ideal S2048x2048 .f32) : FVec Ideal S4x4224x2048 .f32 :=
  Host.dotGeneral dot_S4x4224x2048_S2048x2048_S4x4224x2048_2_0_01_1_n_n none x w

/-- The sums of the squares of the rows. -/
def sq (x : FVec Ideal S4x4224x2048 .f32) : FVec Ideal S4x4224 .f32 :=
  Host.reduceAdd x (constant S_ .f32 0x00000000#32) reducesTo_S4x4224x2048_S4x4224_d2 h_S_

/-- The norm's factor of a row, from the sum of its squares. -/
def fac (s : FVec Ideal S4x4224 .f32) : FVec Ideal S4x4224x1 .f32 :=
  Host.rsqrt (addf (Host.divf (broadcastInDim S4x4224x1 ![0, 1] bcast_S4x4224_S4x4224x1_0_1 s) (broadcastInDim S4x4224x1 ![] bcast_S_S4x4224x1 (constant S_ .f32 0x45000000#32))) (broadcastInDim S4x4224x1 ![] bcast_S_S4x4224x1 (constant S_ .f32 0x358637BD#32)))

/-- Rows times their factors times the gains. -/
def scaled (x : FVec Ideal S4x4224x2048 .f32) (f : FVec Ideal S4x4224x1 .f32) (g : FVec Ideal S2048 .f32) : FVec Ideal S4x4224x2048 .f32 :=
  mulf (mulf x (broadcastInDim S4x4224x2048 ![0, 1, 2] bcast_S4x4224x1_S4x4224x2048_0_1_2 f)) (broadcastInDim S4x4224x2048 ![0, 1, 2] bcast_S1x1x2048_S4x4224x2048_0_1_2 (broadcastInDim S1x1x2048 ![2] bcast_S2048_S1x1x2048_2 g))

/-- The root mean square norm. -/
def rms (x : FVec Ideal S4x4224x2048 .f32) (g : FVec Ideal S2048 .f32) : FVec Ideal S4x4224x2048 .f32 := scaled x (fac (sq (mulf x x))) g

/-- The rows of all sequences in one array. -/
def rows (x : FVec Ideal S4x4224x2048 .f32) : FVec Ideal S16896x2048 .f32 := shapeCast _ x shapeCasts_S4x4224x2048_S16896x2048

section

variable (a r : FVec Ideal S4x4224x1024 .f32) (w : FVec Ideal S2048x2048 .f32) (g gn : FVec Ideal S2048 .f32) (h : FVec Ideal S4x4224x2048 .f32)

/-- The residual with the mixers' part added. -/
def res : FVec Ideal S4x4224x2048 .f32 := addf h (rms (prod (both a r) w) g)

/-- The first result. -/
def out0 : FVec Ideal S16896x2048 .f32 := rows (res a r w g h)

/-- The second result. -/
def out1 : FVec Ideal S16896x2048 .bf16 := truncf .bf16 (rows (rms (res a r w g h) gn)) bitsLt_bf16_f32

/-- A column of the mixers' rows. -/
def col (b : Fin 4) (n : Fin 4224) (k : Fin 2048) : EReal :=
  if hk : k.val < 1024 then a (ix3 b n ⟨k.val, hk⟩) else r (ix3 b n ⟨k.val - 1024, by omega⟩)

theorem both_at (b : Fin 4) (n : Fin 4224) (k : Fin 2048) : both a r (ix3 b n k) = col a r b n k := by
  have := k.isLt
  unfold col
  pointwise [both]

end

section

variable (x : FVec Ideal S4x4224x2048 .f32)

theorem prod_at (w : FVec Ideal S2048x2048 .f32) (b : Fin 4) (n : Fin 4224) (d : Fin 2048) :
    prod x w (ix3 b n d) = ∑ k, x (ix3 b n k) * w (ix2 k d) := by
  pointwise [prod]

theorem sq_at (b : Fin 4) (n : Fin 4224) : sq x (ix2 b n) = ∑ k, x (ix3 b n k) := by
  pointwise [sq]

theorem fac_at (s : FVec Ideal S4x4224 .f32) (b : Fin 4) (n : Fin 4224) :
    fac s (ix3 b n 0) = Ideal.rsqrt (Ideal.div (s (ix2 b n)) (Ideal.ofBits .f32 1157627904#32) + Ideal.ofBits .f32 897988541#32) := by
  pointwise [fac]

theorem scaled_at (f : FVec Ideal S4x4224x1 .f32) (g : FVec Ideal S2048 .f32) (b : Fin 4) (n : Fin 4224) (d : Fin 2048) :
    scaled x f g (ix3 b n d) = x (ix3 b n d) * f (ix3 b n 0) * g (ix1 d) := by
  pointwise [scaled]

theorem rows_at (n : Fin 16896) (d : Fin 2048) : rows x (ix2 n d) = x (ix3 ⟨n.val / 4224, by omega⟩ ⟨n.val % 4224, by omega⟩ d) := by
  have := n.isLt
  pointwise [rows]

/-- The root mean square norm of a row. -/
theorem rms_at (g : FVec Ideal S2048 .f32) (b : Fin 4) (n : Fin 4224) (d : Fin 2048) :
    rms x g (ix3 b n d) = FfnRow.norm (fun k => x (ix3 b n k)) (fun k => g (ix1 k)) d := by
  unfold rms FfnRow.norm scale
  rw [scaled_at, fac_at, sq_at]
  rfl

end

section

variable (a r : FVec Ideal S4x4224x1024 .f32) (w : FVec Ideal S2048x2048 .f32) (g gn : FVec Ideal S2048 .f32) (h : FVec Ideal S4x4224x2048 .f32)

/-- A row of the product. -/
def prodAt (b : Fin 4) (n : Fin 4224) (d : Fin 2048) : EReal := ∑ k : Fin 2048, col a r b n k * w (ix2 k d)

/-- The residual row. -/
theorem res_at (b : Fin 4) (n : Fin 4224) (d : Fin 2048) :
    res a r w g h (ix3 b n d) = FfnRow.post (fun k => h (ix3 b n k)) (prodAt a r w b n) (fun k => g (ix1 k)) d := by
  show (h (ix3 b n d) + rms (prod (both a r) w) g (ix3 b n d) : EReal) = _
  rw [rms_at]
  have hp : (fun k => prod (both a r) w (ix3 b n k)) = prodAt a r w b n := funext fun k => by
    rw [prod_at]
    exact Finset.sum_congr rfl fun l _ => by rw [both_at]
  rw [hp]
  rfl

/-- An entry of the first result. -/
theorem out0_at (n : Fin 16896) (d : Fin 2048) :
    out0 a r w g h (ix2 n d) = FfnRow.post (fun k => h (ix3 ⟨n.val / 4224, by omega⟩ ⟨n.val % 4224, by omega⟩ k))
      (prodAt a r w ⟨n.val / 4224, by omega⟩ ⟨n.val % 4224, by omega⟩) (fun k => g (ix1 k)) d :=
  (rows_at _ n d).trans (res_at a r w g h _ _ d)

/-- An entry of the second result. -/
theorem out1_at (n : Fin 16896) (d : Fin 2048) :
    out1 a r w g gn h (ix2 n d) = FfnRow.norm (fun d => FfnRow.post (fun k => h (ix3 ⟨n.val / 4224, by omega⟩ ⟨n.val % 4224, by omega⟩ k))
      (prodAt a r w ⟨n.val / 4224, by omega⟩ ⟨n.val % 4224, by omega⟩) (fun k => g (ix1 k)) d) (fun k => gn (ix1 k)) d := by
  refine (rows_at (rms (res a r w g h) gn) n d).trans ((rms_at _ gn _ _ d).trans ?_)
  exact congrArg (fun f => FfnRow.norm f (fun k => gn (ix1 k)) d) (funext fun d => res_at a r w g h _ _ d)

end

variable (m : (ℓ : Loc nD τ sig) → Buf (Elt Ideal) ℓ) (c : Dev nD)

/-- What the run of the reference leaves in its second result. -/
theorem res1_eq : Value.res_out1 m c = out1 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  unfold Value.res_out1 Value.res_main_v31
  rfl

end Cert.Reference3Ideal.OutRef

end
-- ==== Proof.OutFinal.lean ====
module

public import proofs.«01_k».proof.Proof.OutBlock
public import proofs.«01_k».proof.Proof.OutRef
public import Idealize.ShloMosaic.Lib.StableHlo.ReadAt

/-! # The output projection's result arrays

The host lays each mixer's rows in eight slabs of 128 columns. Twenty-two blocks of 768 rows tile the results,
and each holds what the reference has there. -/

@[expose] public section

set_option maxRecDepth 16384

noncomputable section

namespace Cert.Kernel3Ideal.Out

open Cert.Kernel3Ideal Cert.Kernel3Ideal.Gen
open Idealize.ShloMosaic Idealize.ShloMosaic.TcCoe Idealize.SL.Sem
open Idealize.ShloMosaic.Pipeline (Dat)
open Cert.Reference3Ideal.OutRef (out0 out1 out0_at out1_at prodAt col)

variable (m : (ℓ : Loc nD τ sig) → Buf (Elt Ideal) ℓ) (c : Dev nD)

/-- The attention's rows. -/
abbrev argA : S4x4224x1024.Idx → EReal := m ((c : Thread nD τ).loc main_arg0)
/-- The retention's rows. -/
abbrev argR : S4x4224x1024.Idx → EReal := m ((c : Thread nD τ).loc main_arg1)
/-- The weights. -/
abbrev argW : S2048x2048.Idx → EReal := m ((c : Thread nD τ).loc main_arg2)
/-- The norm's gains. -/
abbrev argP : S2048.Idx → EReal := m ((c : Thread nD τ).loc main_arg3)
/-- The next norm's gains. -/
abbrev argN : S2048.Idx → EReal := m ((c : Thread nD τ).loc main_arg4)
/-- The residual. -/
abbrev argH : S4x4224x2048.Idx → EReal := m ((c : Thread nD τ).loc main_arg5)

/-- A row of a slab of the attention. -/
theorem entry_a (s : Fin 8) (n : Fin 16896) (e : Fin 128) :
    V m c main_v2 (ix3 s n e) = argA m c (ix3 ⟨n.val / 4224, by omega⟩ ⟨n.val % 4224, by omega⟩ ⟨s.val * 128 + e.val, by omega⟩) := by
  have := n.isLt; have := s.isLt; have := e.isLt
  unfold V
  after_reads_at

/-- A row of a slab of the retention. -/
theorem entry_r (s : Fin 8) (n : Fin 16896) (e : Fin 128) :
    V m c main_v5 (ix3 s n e) = argR m c (ix3 ⟨n.val / 4224, by omega⟩ ⟨n.val % 4224, by omega⟩ ⟨s.val * 128 + e.val, by omega⟩) := by
  have := n.isLt; have := s.isLt; have := e.isLt
  unfold V
  after_reads_at

/-- The weights. -/
theorem entry_w (k d : Fin 2048) : V m c main_v6 (ix2 k d) = argW m c (ix2 k d) := by
  unfold V
  after_reads_at

/-- The norm's gains. -/
theorem entry_p (d : Fin 2048) : V m c main_v7 (ix2 0 d) = argP m c (ix1 d) := by
  unfold V
  after_reads_at

/-- The next norm's gains. -/
theorem entry_n (d : Fin 2048) : V m c main_v8 (ix2 0 d) = argN m c (ix1 d) := by
  unfold V
  after_reads_at

/-- A row of the residual. -/
theorem entry_h (n : Fin 16896) (d : Fin 2048) :
    V m c main_v9 (ix2 n d) = argH m c (ix3 ⟨n.val / 4224, by omega⟩ ⟨n.val % 4224, by omega⟩ d) := by
  have := n.isLt
  unfold V
  after_reads_at

/-- Which block a point reads and writes. -/
theorem idx : ∀ t : Fin cfg0.N, win0_0.index t = ![0, t.val, 0] ∧ win0_1.index t = ![0, t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- There are 22 points. -/
theorem pt_lt (t : Fin cfg0.N) : t.val < 22 := lt_of_lt_of_eq t.isLt (show grid0.N = 22 from N_0)

/-- A point's slabs of the attention. -/
theorem blk_a (t : Fin cfg0.N) (n : Fin 16896) (s : Fin 8) (r : Fin 768) (hn : n.val = 768 * t.val + r.val) (e : Fin 128) :
    iblk m c 0 t (ix3 s r e) = argA m c (ix3 ⟨n.val / 4224, by omega⟩ ⟨n.val % 4224, by omega⟩ ⟨s.val * 128 + e.val, by omega⟩) := by
  have := pt_lt t
  refine Eq.trans ?_ (entry_a m c s n e)
  blk_ext [iblk, (idx t).1]

/-- A point's slabs of the retention. -/
theorem blk_r (t : Fin cfg0.N) (n : Fin 16896) (s : Fin 8) (r : Fin 768) (hn : n.val = 768 * t.val + r.val) (e : Fin 128) :
    iblk m c 1 t (ix3 s r e) = argR m c (ix3 ⟨n.val / 4224, by omega⟩ ⟨n.val % 4224, by omega⟩ ⟨s.val * 128 + e.val, by omega⟩) := by
  have := pt_lt t
  refine Eq.trans ?_ (entry_r m c s n e)
  blk_ext [iblk, (idx t).2.1]

/-- The weights at a point. -/
theorem blk_w (t : Fin cfg0.N) (k d : Fin 2048) : iblk m c 2 t (ix2 k d) = argW m c (ix2 k d) := by
  refine Eq.trans ?_ (entry_w m c k d)
  blk_ext [iblk, (idx t).2.2.1]

/-- The norm's gains at a point. -/
theorem blk_p (t : Fin cfg0.N) (d : Fin 2048) : iblk m c 3 t (ix2 0 d) = argP m c (ix1 d) := by
  refine Eq.trans ?_ (entry_p m c d)
  blk_ext [iblk, (idx t).2.2.2.1]

/-- The next norm's gains at a point. -/
theorem blk_n (t : Fin cfg0.N) (d : Fin 2048) : iblk m c 4 t (ix2 0 d) = argN m c (ix1 d) := by
  refine Eq.trans ?_ (entry_n m c d)
  blk_ext [iblk, (idx t).2.2.2.2.1]

/-- A point's block of the residual. -/
theorem blk_h (t : Fin cfg0.N) (n : Fin 16896) (r : Fin 768) (hn : n.val = 768 * t.val + r.val) (d : Fin 2048) :
    iblk m c 5 t (ix2 r d) = argH m c (ix3 ⟨n.val / 4224, by omega⟩ ⟨n.val % 4224, by omega⟩ d) := by
  have := pt_lt t
  refine Eq.trans ?_ (entry_h m c n d)
  blk_ext [iblk, (idx t).2.2.2.2.2.1]

/-- A point's row of the product. -/
theorem prod_eq (t : Fin cfg0.N) (n : Fin 16896) (r : Fin 768) (hn : n.val = 768 * t.val + r.val) :
    prodRow (iblk m c 0 t) (iblk m c 1 t) (iblk m c 2 t) r
      = prodAt (argA m c) (argR m c) (argW m c) ⟨n.val / 4224, by omega⟩ ⟨n.val % 4224, by omega⟩ := by
  funext d
  unfold prodRow prodAt
  refine Finset.sum_congr rfl fun k _ => ?_
  have hk := k.isLt
  rw [blk_w m c t k d]
  refine congrArg (fun x : EReal => x * argW m c (ix2 k d)) ?_
  unfold mix col
  by_cases h : k.val < 1024
  · rw [dif_pos h, dif_pos h]
    refine (blk_a m c t n _ r hn _).trans (congrArg (argA m c) (congrArg (ix3 _ _) (Fin.ext ?_)))
    show k.val / 128 * 128 + k.val % 128 = k.val
    omega
  · rw [dif_neg h, dif_neg h]
    refine (blk_r m c t n _ r hn _).trans (congrArg (argR m c) (congrArg (ix3 _ _) (Fin.ext ?_)))
    show (k.val / 128 - 8) * 128 + k.val % 128 = k.val - 1024
    omega

/-- A point's row of the residual. -/
theorem res_eq (t : Fin cfg0.N) (n : Fin 16896) (r : Fin 768) (hn : n.val = 768 * t.val + r.val) :
    resRow (iblk m c 0 t) (iblk m c 1 t) (iblk m c 2 t) (iblk m c 3 t) (iblk m c 5 t) r
      = FfnRow.post (fun k => argH m c (ix3 ⟨n.val / 4224, by omega⟩ ⟨n.val % 4224, by omega⟩ k))
          (prodAt (argA m c) (argR m c) (argW m c) ⟨n.val / 4224, by omega⟩ ⟨n.val % 4224, by omega⟩) (fun k => argP m c (ix1 k)) := by
  funext d
  unfold resRow
  rw [prod_eq m c t n r hn, show (fun d => iblk m c 5 t (ix2 r d)) = fun k => argH m c (ix3 ⟨n.val / 4224, by omega⟩ ⟨n.val % 4224, by omega⟩ k) from
      funext fun d => blk_h m c t n r hn d,
    show (fun d => iblk m c 3 t (ix2 0 d)) = fun k => argP m c (ix1 k) from funext fun d => blk_p m c t d]

/-- A point's row of the normed residual. -/
theorem next_eq (t : Fin cfg0.N) (n : Fin 16896) (r : Fin 768) (hn : n.val = 768 * t.val + r.val) (d : Fin 2048) :
    nextRow (iblk m c 0 t) (iblk m c 1 t) (iblk m c 2 t) (iblk m c 3 t) (iblk m c 4 t) (iblk m c 5 t) r d
      = FfnRow.norm (FfnRow.post (fun k => argH m c (ix3 ⟨n.val / 4224, by omega⟩ ⟨n.val % 4224, by omega⟩ k))
          (prodAt (argA m c) (argR m c) (argW m c) ⟨n.val / 4224, by omega⟩ ⟨n.val % 4224, by omega⟩) (fun k => argP m c (ix1 k)))
          (fun k => argN m c (ix1 k)) d := by
  unfold nextRow
  rw [res_eq m c t n r hn, show (fun d => iblk m c 4 t (ix2 0 d)) = fun k => argN m c (ix1 k) from funext fun d => blk_n m c t d]

/-- The first result array is the reference's. -/
theorem final0 : (dats m 0 c).arrAt 6 cfg0.N = out0 (argA m c) (argR m c) (argW m c) (argP m c) (argH m c) := by
  refine (dats m 0 c).arrAt_eq_of_covers 6 _ (by decide +kernel) fun t _ y => ?_
  have ht := pt_lt t
  blk_simp
  rw [after0_6]
  change S768x2048.Idx at y
  obtain ⟨r, d, rfl⟩ : ∃ (r : Fin 768) (d : Fin 2048), y = ix2 r d := ⟨y 0, y 1, by funext a; fin_cases a <;> rfl⟩
  have he : (win0_6.blk t).view.emb (ix2 r d) = (ix2 ⟨768 * t.val + r.val, by omega⟩ d : S16896x2048.Idx) := by
    blk_ext [(idx t).2.2.2.2.2.2.1]
  refine Eq.trans ?_ (congrArg (out0 _ _ _ _ _) he).symm
  refine (out6_at _ _ _ _ _ _ r d).trans (Eq.trans ?_ (out0_at _ _ _ _ _ _ d).symm)
  exact congrFun (res_eq m c t ⟨768 * t.val + r.val, by omega⟩ r rfl) d

/-- The second result array is the reference's. -/
theorem final1 : (dats m 0 c).arrAt 7 cfg0.N = out1 (argA m c) (argR m c) (argW m c) (argP m c) (argN m c) (argH m c) := by
  refine (dats m 0 c).arrAt_eq_of_covers 7 _ (by decide +kernel) fun t _ y => ?_
  have ht := pt_lt t
  blk_simp
  rw [after0_7]
  change S768x2048.Idx at y
  obtain ⟨r, d, rfl⟩ : ∃ (r : Fin 768) (d : Fin 2048), y = ix2 r d := ⟨y 0, y 1, by funext a; fin_cases a <;> rfl⟩
  have he : (win0_7.blk t).view.emb (ix2 r d) = (ix2 ⟨768 * t.val + r.val, by omega⟩ d : S16896x2048.Idx) := by
    blk_ext [(idx t).2.2.2.2.2.2.2]
  refine Eq.trans ?_ (congrArg (out1 _ _ _ _ _ _) he).symm
  refine (out7_at _ _ _ _ _ _ r d).trans (Eq.trans ?_ (out1_at _ _ _ _ _ _ _ d).symm)
  exact next_eq m c t ⟨768 * t.val + r.val, by omega⟩ r rfl d

end Cert.Kernel3Ideal.Out

end
-- ==== Proof.lean ====
/- The claims about the attention, the feed-forward part and the output projection. Of each: both kernels and the
   reference run without fault and leave their arguments and semaphores as they were; the ideal kernel is the kernel
   over the extended reals; and kernel and reference compute the same arrays, the attention where queries, keys and
   sinks are real, the feed-forward part where its argument and the gate's weights are, the output projection always. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scores_finite
public import proofs.«01_k».proof.Proof.Gen.KernelIdeal.Value
public import proofs.«01_k».proof.Proof.Gen.ReferenceIdeal.Run
public import proofs.«01_k».proof.Proof.Gen.Kernel2.Launch
public import proofs.«01_k».proof.Proof.Gen.Kernel2Ideal.Launch
public import proofs.«01_k».proof.Proof.Gen.Pre_gate_finite
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.AttnFinal
public import proofs.«01_k».proof.Proof.FfnFinal
public import proofs.«01_k».proof.Proof.FfnBits
public import proofs.«01_k».proof.Proof.OutFinal
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The kernel runs, and leaves its arguments and semaphores as they were. -/
theorem frame_kernel : Cert.quiescent_Kernel := fun m ρ _ => Cert.Kernel.Gen.frame m ρ

/-- The ideal kernel runs, and leaves its arguments and semaphores as they were. -/
theorem frame_ideal : Cert.quiescent_KernelIdeal := fun m ρ _ => Cert.KernelIdeal.Gen.frame m ρ

/-- The same under the value claim's precondition. -/
theorem frame_ideal_pre : Cert.quiescent_KernelIdeal_pre_scores_finite := fun m ρ _ => Cert.KernelIdeal.Gen.frame m ρ

/-- The reference runs, and leaves its arguments and semaphores as they were. -/
theorem frame_ref : Cert.quiescent_ReferenceIdeal := fun m ρ _ =>
  (θ_run _ _ _).mono (fun _ h => ⟨fun c => (h c).2, sem_eq_zero_of_no_sems rfl _⟩) (Cert.ReferenceIdeal.Value.run m ρ)

/-- The same under the value claim's precondition. -/
theorem frame_ref_pre : Cert.quiescent_ReferenceIdeal_pre_scores_finite := fun m ρ _ =>
  (θ_run _ _ _).mono (fun _ h => ⟨fun c => (h c).2, sem_eq_zero_of_no_sems rfl _⟩) (Cert.ReferenceIdeal.Value.run m ρ)

/-- The two named constants. -/
theorem names : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl⟩

/-- Kernel and reference compute the same array. -/
theorem values : Cert.algebraic_KernelIdeal_ReferenceIdeal_pre_scores_finite := by
  intro m g m' g' hpre hargs
  refine ⟨fun c => Cert.ReferenceIdeal.AttnRef.out (m (c.tc.loc Cert.KernelIdeal.main_arg0)) (m (c.tc.loc Cert.KernelIdeal.main_arg1))
    (m (c.tc.loc Cert.KernelIdeal.main_arg2)) (m (c.tc.loc Cert.KernelIdeal.main_arg3)), ?_, ?_⟩
  · refine (θ_run _ _ _).mono (fun r h c => ?_) (Cert.KernelIdeal.Value.run_blocks m g)
    obtain ⟨h1, h2, h3⟩ := hpre c
    obtain ⟨⟨qr, hq⟩, ⟨kr, hk⟩, ⟨wr, hw⟩⟩ := Cert.KernelIdeal.Attn.finite_args _ _ _ _ h1 h2 h3
    exact ⟨(h c).1.trans (Cert.KernelIdeal.Attn.final m c qr kr wr hq hk hw), (h c).2⟩
  · refine (θ_run _ _ _).mono (fun r h c => ?_) (Cert.ReferenceIdeal.Value.run m' g')
    refine ⟨(h c).1.trans ?_, (h c).2⟩
    refine (Cert.ReferenceIdeal.AttnRef.res_eq m' c).trans ?_
    rw [(hargs c).1, (hargs c).2.1, (hargs c).2.2.1, (hargs c).2.2.2]

/-- The feed-forward kernel runs, and leaves its arguments and semaphores as they were: its text is the ideal
    kernel's, and so is the run, over words. -/
theorem frame_kernel2 : Cert.quiescent_Kernel2 := Cert.Kernel2.Steps.frame

/-- The ideal feed-forward kernel runs, and leaves its arguments and semaphores as they were. -/
theorem frame_ideal2 : Cert.quiescent_Kernel2Ideal := fun m ρ _ =>
  Cert.Kernel2Ideal.Steps.frame m ρ (Cert.Kernel2Ideal.Steps.ok m)

/-- The same under the value claim's precondition. -/
theorem frame_ideal2_pre : Cert.quiescent_Kernel2Ideal_pre_gate_finite := fun m ρ _ =>
  Cert.Kernel2Ideal.Steps.frame m ρ (Cert.Kernel2Ideal.Steps.ok m)

/-- The feed-forward reference runs, and leaves its arguments and semaphores as they were. -/
theorem frame_ref2 : Cert.quiescent_Reference2Ideal := fun m ρ _ =>
  (θ_run _ _ _).mono (fun _ h => ⟨fun c => (h c).2.2.2, sem_eq_zero_of_no_sems rfl _⟩) (Cert.Reference2Ideal.Value.run m ρ)

/-- The same under the value claim's precondition. -/
theorem frame_ref2_pre : Cert.quiescent_Reference2Ideal_pre_gate_finite := fun m ρ _ =>
  (θ_run _ _ _).mono (fun _ h => ⟨fun c => (h c).2.2.2, sem_eq_zero_of_no_sems rfl _⟩) (Cert.Reference2Ideal.Value.run m ρ)

/-- The feed-forward kernel and its reference compute the same arrays. -/
theorem values2 : Cert.algebraic_Kernel2Ideal_Reference2Ideal_pre_gate_finite := by
  intro m g m' g' hpre hargs
  refine ⟨fun c => Cert.Reference2Ideal.FfnRef.out0 (m (c.tc.loc Cert.Kernel2Ideal.main_arg0)) (m (c.tc.loc Cert.Kernel2Ideal.main_arg6))
      (m (c.tc.loc Cert.Kernel2Ideal.main_arg1)) (m (c.tc.loc Cert.Kernel2Ideal.main_arg2)) (m (c.tc.loc Cert.Kernel2Ideal.main_arg3))
      (m (c.tc.loc Cert.Kernel2Ideal.main_arg4)),
    fun c => Cert.Reference2Ideal.FfnRef.out1 (m (c.tc.loc Cert.Kernel2Ideal.main_arg0)) (m (c.tc.loc Cert.Kernel2Ideal.main_arg6))
      (m (c.tc.loc Cert.Kernel2Ideal.main_arg1)) (m (c.tc.loc Cert.Kernel2Ideal.main_arg2)) (m (c.tc.loc Cert.Kernel2Ideal.main_arg3))
      (m (c.tc.loc Cert.Kernel2Ideal.main_arg4)) (m (c.tc.loc Cert.Kernel2Ideal.main_arg5)),
    fun c => Cert.Reference2Ideal.FfnRef.out2 (m (c.tc.loc Cert.Kernel2Ideal.main_arg7)), ?_, ?_⟩
  · refine (θ_run _ _ _).mono (fun r h c => ?_) (Cert.Kernel2Ideal.Steps.run_blocks m g)
    obtain ⟨h1, h2⟩ := hpre c
    obtain ⟨⟨fu, hu⟩, ⟨fw, hw⟩⟩ := Cert.Kernel2Ideal.Ffn.finite_args _ _ _ _ _ _ _ _ h1 h2
    have hr := Cert.Kernel2Ideal.Ffn.gate_arg _ _ fu fw hu hw
    exact ⟨(h c).1.trans (Cert.Kernel2Ideal.Ffn.final0 m c hr), (h c).2.1.trans (Cert.Kernel2Ideal.Ffn.final1 m c hr),
      (h c).2.2.1.trans (Cert.Kernel2Ideal.Ffn.final2 m c), (h c).2.2.2⟩
  · refine (θ_run _ _ _).mono (fun r h c => ?_) (Cert.Reference2Ideal.Value.run m' g')
    obtain ⟨e0, e1, e2, e3, e4, e5, e6, e7⟩ := hargs c
    refine ⟨(h c).1.trans ?_, (h c).2.1.trans ?_, (h c).2.2.1.trans ?_, (h c).2.2.2⟩
    · show Cert.Reference2Ideal.FfnRef.out0 (m' (c.tc.loc Cert.Reference2Ideal.main_arg0)) (m' (c.tc.loc Cert.Reference2Ideal.main_arg6))
        (m' (c.tc.loc Cert.Reference2Ideal.main_arg1)) (m' (c.tc.loc Cert.Reference2Ideal.main_arg2)) (m' (c.tc.loc Cert.Reference2Ideal.main_arg3))
        (m' (c.tc.loc Cert.Reference2Ideal.main_arg4)) = _
      rw [e0, e1, e2, e3, e4, e6]
    · refine (Cert.Reference2Ideal.FfnRef.res1_eq m' c).trans ?_
      rw [e0, e1, e2, e3, e4, e5, e6]
    · show Cert.Reference2Ideal.FfnRef.out2 (m' (c.tc.loc Cert.Reference2Ideal.main_arg7)) = _
      rw [e7]

/-- The output projection's kernel runs, and leaves its arguments and semaphores as they were. -/
theorem frame_kernel3 : Cert.quiescent_Kernel3 := fun m ρ _ => Cert.Kernel3.Gen.frame m ρ

/-- The ideal one runs, and leaves its arguments and semaphores as they were. -/
theorem frame_ideal3 : Cert.quiescent_Kernel3Ideal := fun m ρ _ => Cert.Kernel3Ideal.Gen.frame m ρ

/-- The output projection's reference runs, and leaves its arguments and semaphores as they were. -/
theorem frame_ref3 : Cert.quiescent_Reference3Ideal := fun m ρ _ =>
  (θ_run _ _ _).mono (fun _ h => ⟨fun c => (h c).2.2, sem_eq_zero_of_no_sems rfl _⟩) (Cert.Reference3Ideal.Value.run m ρ)

/-- The output projection's kernel and its reference compute the same arrays. -/
theorem values3 : Cert.algebraic_Kernel3Ideal_Reference3Ideal := by
  intro m g m' g' _ hargs
  refine ⟨fun c => Cert.Reference3Ideal.OutRef.out0 (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg5)),
    fun c => Cert.Reference3Ideal.OutRef.out1 (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)), ?_, ?_⟩
  · refine (θ_run _ _ _).mono (fun r h c => ?_) (Cert.Kernel3Ideal.Value.run_blocks m g)
    exact ⟨(h c).1.trans (Cert.Kernel3Ideal.Out.final0 m c), (h c).2.1.trans (Cert.Kernel3Ideal.Out.final1 m c), (h c).2.2⟩
  · refine (θ_run _ _ _).mono (fun r h c => ?_) (Cert.Reference3Ideal.Value.run m' g')
    obtain ⟨e0, e1, e2, e3, e4, e5⟩ := hargs c
    refine ⟨(h c).1.trans ?_, (h c).2.1.trans ?_, (h c).2.2⟩
    · show Cert.Reference3Ideal.OutRef.out0 (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg5)) = _
      rw [e0, e1, e2, e3, e5]
    · refine (Cert.Reference3Ideal.OutRef.res1_eq m' c).trans ?_
      rw [e0, e1, e2, e3, e4, e5]

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Pre_scores_finite.Gen.facts, Cert.Pre_gate_finite.Gen.facts,
  frame_kernel, frame_ideal, frame_ideal_pre, frame_ref, frame_ref_pre, frame_kernel2, frame_ideal2, frame_ideal2_pre, frame_ref2, frame_ref2_pre,
  frame_kernel3, frame_ideal3, frame_ref3, names, values, trivial, values2, trivial, values3⟩

end Cert.Proof

end
